-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_inputs [hPre_attention_inputs : Cert.Pre_attention_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_attention_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_inputs [hPre_attention_inputs : Cert.Pre_attention_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_small_inputs [hPre_small_inputs : Cert.Pre_small_inputs.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_small_inputs.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_small_inputs [hPre_small_inputs : Cert.Pre_small_inputs.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_small_inputs.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_prep_inputs [hPre_prep_inputs : Cert.Pre_prep_inputs.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_prep_inputs.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_prep_inputs [hPre_prep_inputs : Cert.Pre_prep_inputs.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_prep_inputs.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_scan_inputs [hPre_scan_inputs : Cert.Pre_scan_inputs.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_scan_inputs.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_scan_inputs [hPre_scan_inputs : Cert.Pre_scan_inputs.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_scan_inputs.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attention_inputs [hKernelIdeal : Cert.KernelIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attention_inputs [hReferenceIdeal : Cert.ReferenceIdeal.Facts] [hPre_attention_inputs : Cert.Pre_attention_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_small_inputs [hKernel4Ideal : Cert.Kernel4Ideal.Facts] [hPre_small_inputs : Cert.Pre_small_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_small_inputs m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_small_inputs [hReference4Ideal : Cert.Reference4Ideal.Facts] [hPre_small_inputs : Cert.Pre_small_inputs.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_small_inputs m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_prep_inputs [hKernel9Ideal : Cert.Kernel9Ideal.Facts] [hPre_prep_inputs : Cert.Pre_prep_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_prep_inputs m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_prep_inputs [hReference9Ideal : Cert.Reference9Ideal.Facts] [hPre_prep_inputs : Cert.Pre_prep_inputs.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_prep_inputs m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_scan_inputs [hKernel10Ideal : Cert.Kernel10Ideal.Facts] [hPre_scan_inputs : Cert.Pre_scan_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_scan_inputs m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_scan_inputs [hReference10Ideal : Cert.Reference10Ideal.Facts] [hPre_scan_inputs : Cert.Pre_scan_inputs.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_scan_inputs m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def preserves_Kernel_KernelIdeal : Prop :=
  True

def algebraic_KernelIdeal_ReferenceIdeal_pre_attention_inputs [hKernelIdeal : Cert.KernelIdeal.Facts] [hReferenceIdeal : Cert.ReferenceIdeal.Facts] [hPre_attention_inputs : Cert.Pre_attention_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_small_inputs [hKernel4Ideal : Cert.Kernel4Ideal.Facts] [hReference4Ideal : Cert.Reference4Ideal.Facts] [hPre_small_inputs : Cert.Pre_small_inputs.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_small_inputs m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  IdealRules.named_const.Statement Cert.Kernel6Ideal.κ "alpha" .f32 0x3FB504F3#32 ((Real.sqrt 2 : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  IdealRules.named_const.Statement Cert.Kernel9Ideal.κ "scale" .f32 0x3DD105EC#32 (((Real.sqrt 96)⁻¹ : ℝ) : EReal)

def algebraic_Kernel9Ideal_Reference9Ideal_pre_prep_inputs [hKernel9Ideal : Cert.Kernel9Ideal.Facts] [hReference9Ideal : Cert.Reference9Ideal.Facts] [hPre_prep_inputs : Cert.Pre_prep_inputs.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_prep_inputs m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v47_0)) (v1 : (c : Dev Cert.Kernel9Ideal.nD) → Buf (Elt Ideal) ((c.tc : Thread Cert.Kernel9Ideal.nD Cert.Kernel9Ideal.τ).loc Cert.Kernel9Ideal.main_v47_1)) (v2 : (c : Dev Cert.Kernel9Ideal.nD) → Buf (Elt Ideal) ((c.tc : Thread Cert.Kernel9Ideal.nD Cert.Kernel9Ideal.τ).loc Cert.Kernel9Ideal.main_v47_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v47_0) = v0 c
          ∧ r.2.mem ((c.tc : Thread Cert.Kernel9Ideal.nD Cert.Kernel9Ideal.τ).loc Cert.Kernel9Ideal.main_v47_1) = v1 c
          ∧ r.2.mem ((c.tc : Thread Cert.Kernel9Ideal.nD Cert.Kernel9Ideal.τ).loc Cert.Kernel9Ideal.main_v47_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v97) = v0 c
          ∧ r.2.mem ((c.tc : Thread Cert.Reference9Ideal.nD Cert.Reference9Ideal.τ).loc Cert.Reference9Ideal.main_v99) = v1 c
          ∧ r.2.mem ((c.tc : Thread Cert.Reference9Ideal.nD Cert.Reference9Ideal.τ).loc Cert.Reference9Ideal.main_v101) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_scan_inputs [hKernel10Ideal : Cert.Kernel10Ideal.Facts] [hReference10Ideal : Cert.Reference10Ideal.Facts] [hPre_scan_inputs : Cert.Pre_scan_inputs.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_scan_inputs m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v91)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v91) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v60) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_attention_inputs : Cert.Pre_attention_inputs.Facts) (hPre_small_inputs : Cert.Pre_small_inputs.Facts) (hPre_prep_inputs : Cert.Pre_prep_inputs.Facts) (hPre_scan_inputs : Cert.Pre_scan_inputs.Facts),
    quiescent_Kernel (hKernel := hKernel)
    ∧ quiescent_KernelIdeal (hKernelIdeal := hKernelIdeal)
    ∧ quiescent_KernelIdeal_pre_attention_inputs (hKernelIdeal := hKernelIdeal) (hPre_attention_inputs := hPre_attention_inputs)
    ∧ quiescent_ReferenceIdeal (hReferenceIdeal := hReferenceIdeal)
    ∧ quiescent_ReferenceIdeal_pre_attention_inputs (hReferenceIdeal := hReferenceIdeal) (hPre_attention_inputs := hPre_attention_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_small_inputs (hKernel4Ideal := hKernel4Ideal) (hPre_small_inputs := hPre_small_inputs)
    ∧ quiescent_Reference4Ideal (hReference4Ideal := hReference4Ideal)
    ∧ quiescent_Reference4Ideal_pre_small_inputs (hReference4Ideal := hReference4Ideal) (hPre_small_inputs := hPre_small_inputs)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_prep_inputs (hKernel9Ideal := hKernel9Ideal) (hPre_prep_inputs := hPre_prep_inputs)
    ∧ quiescent_Reference9Ideal (hReference9Ideal := hReference9Ideal)
    ∧ quiescent_Reference9Ideal_pre_prep_inputs (hReference9Ideal := hReference9Ideal) (hPre_prep_inputs := hPre_prep_inputs)
    ∧ quiescent_Kernel10 (hKernel10 := hKernel10)
    ∧ quiescent_Kernel10Ideal (hKernel10Ideal := hKernel10Ideal)
    ∧ quiescent_Kernel10Ideal_pre_scan_inputs (hKernel10Ideal := hKernel10Ideal) (hPre_scan_inputs := hPre_scan_inputs)
    ∧ quiescent_Reference10Ideal (hReference10Ideal := hReference10Ideal)
    ∧ quiescent_Reference10Ideal_pre_scan_inputs (hReference10Ideal := hReference10Ideal) (hPre_scan_inputs := hPre_scan_inputs)
    ∧ preserves_Kernel_KernelIdeal
    ∧ algebraic_KernelIdeal_ReferenceIdeal_pre_attention_inputs (hKernelIdeal := hKernelIdeal) (hReferenceIdeal := hReferenceIdeal) (hPre_attention_inputs := hPre_attention_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_small_inputs (hKernel4Ideal := hKernel4Ideal) (hReference4Ideal := hReference4Ideal) (hPre_small_inputs := hPre_small_inputs)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_prep_inputs (hKernel9Ideal := hKernel9Ideal) (hReference9Ideal := hReference9Ideal) (hPre_prep_inputs := hPre_prep_inputs)
    ∧ preserves_Kernel10_Kernel10Ideal
    ∧ algebraic_Kernel10Ideal_Reference10Ideal_pre_scan_inputs (hKernel10Ideal := hKernel10Ideal) (hReference10Ideal := hReference10Ideal) (hPre_scan_inputs := hPre_scan_inputs)
-- ==== Pre_attention_inputs.lean ====
abbrev S8x32768x128 : Shape := ⟨3, ![8, 32768, 128]⟩
abbrev S_ : Shape := ⟨0, ![]⟩
abbrev S8x32768x1 : Shape := ⟨3, ![8, 32768, 1]⟩
abbrev S8x32768 : Shape := ⟨2, ![8, 32768]⟩

class Facts : Prop where
  bitsLt_bf16_f32 : FTy.bits .bf16 < FTy.bits .f32
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  slices_S8x32768x128_S8x32768x1_0_0_64 : S8x32768x128.Slices ![0, 0, 64] S8x32768x1
  shapeCasts_S8x32768x1_S8x32768 : S8x32768x1.ShapeCasts S8x32768
  bcast_S_S8x32768 : S_.BroadcastsInDim S8x32768 (![] : Fin 0 → Fin S8x32768.rank)
  reducesTo_S8x32768_S_d0_1 : S8x32768.ReducesTo [0, 1] S_

variable [Facts]

def fn {F : FTy → Type} [FloatOps F] (main_arg0 : FVec F S8x32768x128 .bf16) (main_arg1 : FVec F S8x32768x128 .bf16) (main_arg2 : FVec F S8x32768x128 .bf16) : IVec S_ 1 :=
  let main_v0 : FVec F S8x32768x128 .f32 := (extf .f32 · bitsLt_bf16_f32) main_arg0
  let main_v1 : FVec F S8x32768x128 .f32 := Host.absf main_v0
  let main_cst : FVec F S_ .f32 := constant S_ .f32 0x7F800000#32
  let main_v2 : FVec F S8x32768x128 .f32 := broadcastInDim S8x32768x128 ![] bcast_S_S8x32768x128 main_cst
  let main_v3 : IVec S8x32768x128 1 := cmpf .olt main_v1 main_v2
  let main_c : IVec S_ 1 := constantI S_ 1 1#1
  let main_v4 : IVec S_ 1 := (fun x v => Host.reduce IntOp.andi x v reducesTo_S8x32768x128_S_d0_1_2 h_S_) main_v3 main_c
  let main_v5 : FVec F S8x32768x128 .f32 := (extf .f32 · bitsLt_bf16_f32) main_arg1
  let main_v6 : FVec F S8x32768x128 .f32 := Host.absf main_v5
  let main_cst_0 : FVec F S_ .f32 := constant S_ .f32 0x7F800000#32
  let main_v7 : FVec F S8x32768x128 .f32 := broadcastInDim S8x32768x128 ![] bcast_S_S8x32768x128 main_cst_0
  let main_v8 : IVec S8x32768x128 1 := cmpf .olt main_v6 main_v7
  let main_c_1 : IVec S_ 1 := constantI S_ 1 1#1
  let main_v9 : IVec S_ 1 := (fun x v => Host.reduce IntOp.andi x v reducesTo_S8x32768x128_S_d0_1_2 h_S_) main_v8 main_c_1
  let main_v10 : IVec S_ 1 := andi main_v4 main_v9
  let main_v11 : FVec F S8x32768x1 .bf16 := (extractStridedSlice S8x32768x1 ![0, 0, 64] · slices_S8x32768x128_S8x32768x1_0_0_64) main_arg2
  let main_v12 : FVec F S8x32768 .bf16 := shapeCast S8x32768 main_v11 shapeCasts_S8x32768x1_S8x32768
  let main_v13 : FVec F S8x32768 .f32 := (extf .f32 · bitsLt_bf16_f32) main_v12
  let main_cst_2 : FVec F S_ .f32 := constant S_ .f32 0x3F800000#32
  let main_v14 : FVec F S8x32768 .f32 := broadcastInDim S8x32768 ![] bcast_S_S8x32768 main_cst_2
  let main_v15 : IVec S8x32768 1 := cmpf .oeq main_v13 main_v14
  let main_c_3 : IVec S_ 1 := constantI S_ 1 1#1
  let main_v16 : IVec S_ 1 := (fun x v => Host.reduce IntOp.andi x v reducesTo_S8x32768_S_d0_1 h_S_) main_v15 main_c_3
  let main_v17 : IVec S_ 1 := andi main_v10 main_v16
  main_v17
-- ==== Pre_prep_inputs.lean ====
abbrev S32768x512 : Shape := ⟨2, ![32768, 512]⟩
abbrev S4x8192 : Shape := ⟨2, ![4, 8192]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S32768x32 : Shape := ⟨2, ![32768, 32]⟩
abbrev S256x8x96 : Shape := ⟨3, ![256, 8, 96]⟩
abbrev S256x8x16 : Shape := ⟨3, ![256, 8, 16]⟩
abbrev S_ : Shape := ⟨0, ![]⟩
abbrev S32768x16 : Shape := ⟨2, ![32768, 16]⟩

class Facts : Prop where
  slices_S32768x512_S32768x32_0_480 : S32768x512.Slices ![0, 480] S32768x32
  slices_S32768x512_S32768x32_0_448 : S32768x512.Slices ![0, 448] S32768x32
  shapeCasts_S256x768_S256x8x96 : S256x768.ShapeCasts S256x8x96
  slices_S256x8x96_S256x8x16_0_0_80 : S256x8x96.Slices ![0, 0, 80] S256x8x16
  bcast_S_S256 : S_.BroadcastsInDim S256 (![] : Fin 0 → Fin S256.rank)
  reducesTo_S256_S_d0 : S256.ReducesTo [0] S_
  h_S_ : 0 < S_.numel
  bcast_S_S256x8x16 : S_.BroadcastsInDim S256x8x16 (![] : Fin 0 → Fin S256x8x16.rank)
  reducesTo_S256x8x16_S_d0_1_2 : S256x8x16.ReducesTo [0, 1, 2] S_
  slices_S32768x32_S32768x16_0_0 : S32768x32.Slices ![0, 0] S32768x16
  slices_S32768x32_S32768x16_0_16 : S32768x32.Slices ![0, 16] S32768x16
  reducesTo_S32768x16_S_d0_1 : S32768x16.ReducesTo [0, 1] S_

variable [Facts]

def fn_part1 {F : FTy → Type} [FloatOps F] (main_v0 : FVec F S32768x32 .f32) (main_v1 : FVec F S32768x32 .f32) (main_v18 : IVec S_ 1) : IVec S_ 1 :=
  let main_v19 : FVec F S32768x16 .f32 := (extractStridedSlice S32768x16 ![0, 16] · slices_S32768x32_S32768x16_0_16) main_v0
  let main_v20 : FVec F S32768x16 .f32 := (extractStridedSlice S32768x16 ![0, 0] · slices_S32768x32_S32768x16_0_0) main_v1
  let main_v21 : IVec S32768x16 1 := cmpf .oeq main_v19 main_v20
  let main_c_3 : IVec S_ 1 := constantI S_ 1 1#1
  let main_v22 : IVec S_ 1 := (fun x v => Host.reduce IntOp.andi x v reducesTo_S32768x16_S_d0_1 h_S_) main_v21 main_c_3
  let main_v23 : IVec S_ 1 := andi main_v18 main_v22
  main_v23

def fn {F : FTy → Type} [FloatOps F] (main_arg0 : FVec F S32768x512 .f32) (main_arg1 : IVec S4x8192 32) (main_arg2 : FVec F S256 .f32) (main_arg3 : FVec F S256x768 .f32) (main_arg4 : FVec F S128 .f32) (main_arg5 : FVec F S128x1024 .f32) : IVec S_ 1 :=
  let main_v0 : FVec F S32768x32 .f32 := (extractStridedSlice S32768x32 ![0, 480] · slices_S32768x512_S32768x32_0_480) main_arg0
  let main_v1 : FVec F S32768x32 .f32 := (extractStridedSlice S32768x32 ![0, 448] · slices_S32768x512_S32768x32_0_448) main_arg0
  let main_v2 : FVec F S256x8x96 .f32 := shapeCast S256x8x96 main_arg3 shapeCasts_S256x768_S256x8x96
  let main_v3 : FVec F S256x8x16 .f32 := (extractStridedSlice S256x8x16 ![0, 0, 80] · slices_S256x8x96_S256x8x16_0_0_80) main_v2
  let main_v4 : FVec F S256 .f32 := Host.absf main_arg2
  let main_cst : FVec F S_ .f32 := constant S_ .f32 0x7F800000#32
  let main_v5 : FVec F S256 .f32 := broadcastInDim S256 ![] bcast_S_S256 main_cst
  let main_v6 : IVec S256 1 := cmpf .olt main_v4 main_v5
  let main_c : IVec S_ 1 := constantI S_ 1 1#1
  let main_v7 : IVec S_ 1 := (fun x v => Host.reduce IntOp.andi x v reducesTo_S256_S_d0 h_S_) main_v6 main_c
  let main_v8 : FVec F S256x8x16 .f32 := Host.absf main_v3
  let main_cst_0 : FVec F S_ .f32 := constant S_ .f32 0x7F800000#32
  let main_v9 : FVec F S256x8x16 .f32 := broadcastInDim S256x8x16 ![] bcast_S_S256x8x16 main_cst_0
  let main_v10 : IVec S256x8x16 1 := cmpf .olt main_v8 main_v9
  let main_c_1 : IVec S_ 1 := constantI S_ 1 1#1
  let main_v11 : IVec S_ 1 := (fun x v => Host.reduce IntOp.andi x v reducesTo_S256x8x16_S_d0_1_2 h_S_) main_v10 main_c_1
  let main_v12 : IVec S_ 1 := andi main_v7 main_v11
  let main_v13 : FVec F S32768x16 .f32 := (extractStridedSlice S32768x16 ![0, 0] · slices_S32768x32_S32768x16_0_0) main_v0
  let main_v14 : FVec F S32768x16 .f32 := (extractStridedSlice S32768x16 ![0, 16] · slices_S32768x32_S32768x16_0_16) main_v1
  let main_v15 : FVec F S32768x16 .f32 := Host.negf main_v14
  let main_v16 : IVec S32768x16 1 := cmpf .oeq main_v13 main_v15
  let main_c_2 : IVec S_ 1 := constantI S_ 1 1#1
  let main_v17 : IVec S_ 1 := (fun x v => Host.reduce IntOp.andi x v reducesTo_S32768x16_S_d0_1 h_S_) main_v16 main_c_2
  let main_v18 : IVec S_ 1 := andi main_v12 main_v17
  fn_part1 (F := F) main_v0 main_v1 main_v18
-- ==== Pre_scan_inputs.lean ====
abbrev S24x1024x512 : Shape := ⟨3, ![24, 1024, 512]⟩
abbrev S24x512x512 : Shape := ⟨3, ![24, 512, 512]⟩
abbrev S24x512x128 : Shape := ⟨3, ![24, 512, 128]⟩
abbrev S24x128x512 : Shape := ⟨3, ![24, 128, 512]⟩
abbrev S24x64 : Shape := ⟨2, ![24, 64]⟩
abbrev S24 : Shape := ⟨1, ![24]⟩
abbrev S_ : Shape := ⟨0, ![]⟩

class Facts : Prop where
  bitsLt_bf16_f32 : FTy.bits .bf16 < FTy.bits .f32
  bcast_S_S24x1024x512 : S_.BroadcastsInDim S24x1024x512 (![] : Fin 0 → Fin S24x1024x512.rank)
  reducesTo_S24x1024x512_S_d0_1_2 : S24x1024x512.ReducesTo [0, 1, 2] S_
  h_S_ : 0 < S_.numel
  bcast_S_S24x512x128 : S_.BroadcastsInDim S24x512x128 (![] : Fin 0 → Fin S24x512x128.rank)
  reducesTo_S24x512x128_S_d0_1_2 : S24x512x128.ReducesTo [0, 1, 2] S_
  bcast_S_S24x64 : S_.BroadcastsInDim S24x64 (![] : Fin 0 → Fin S24x64.rank)
  reducesTo_S24x64_S_d0_1 : S24x64.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg6 : FVec F S24 .f32) (main_v10 : IVec S_ 1) (main_v13 : IVec S_ 1) (main_v16 : IVec S24x64 1) : IVec S_ 1 :=
  let main_c_5 : IVec S_ 1 := constantI S_ 1 1#1
  let main_v17 : IVec S_ 1 := (fun x v => Host.reduce IntOp.andi x v reducesTo_S24x64_S_d0_1 h_S_) main_v16 main_c_5
  let main_v18 : IVec S_ 1 := andi main_v13 main_v17
  let main_v19 : IVec S_ 1 := andi main_v10 main_v18
  let main_cst_6 : FVec F S_ .f32 := constant S_ .f32 0x7F800000#32
  let main_v20 : FVec F S24 .f32 := broadcastInDim S24 ![] bcast_S_S24 main_cst_6
  let main_v21 : IVec S24 1 := cmpf .olt main_arg6 main_v20
  let main_c_7 : IVec S_ 1 := constantI S_ 1 1#1
  let main_v22 : IVec S_ 1 := (fun x v => Host.reduce IntOp.andi x v reducesTo_S24_S_d0 h_S_) main_v21 main_c_7
  let main_v23 : IVec S_ 1 := andi main_v19 main_v22
  main_v23

def fn {F : FTy → Type} [FloatOps F] (main_arg0 : FVec F S24x1024x512 .bf16) (main_arg1 : FVec F S24x512x512 .bf16) (main_arg2 : FVec F S24x512x128 .bf16) (main_arg3 : FVec F S24x128x512 .bf16) (main_arg4 : FVec F S24x64 .f32) (main_arg5 : FVec F S24x64 .f32) (main_arg6 : FVec F S24 .f32) : IVec S_ 1 :=
  let main_v0 : FVec F S24x1024x512 .f32 := (extf .f32 · bitsLt_bf16_f32) main_arg0
  let main_v1 : FVec F S24x1024x512 .f32 := Host.absf main_v0
  let main_cst : FVec F S_ .f32 := constant S_ .f32 0x7F800000#32
  let main_v2 : FVec F S24x1024x512 .f32 := broadcastInDim S24x1024x512 ![] bcast_S_S24x1024x512 main_cst
  let main_v3 : IVec S24x1024x512 1 := cmpf .olt main_v1 main_v2
  let main_c : IVec S_ 1 := constantI S_ 1 1#1
  let main_v4 : IVec S_ 1 := (fun x v => Host.reduce IntOp.andi x v reducesTo_S24x1024x512_S_d0_1_2 h_S_) main_v3 main_c
  let main_v5 : FVec F S24x512x128 .f32 := (extf .f32 · bitsLt_bf16_f32) main_arg2
  let main_v6 : FVec F S24x512x128 .f32 := Host.absf main_v5
  let main_cst_0 : FVec F S_ .f32 := constant S_ .f32 0x7F800000#32
  let main_v7 : FVec F S24x512x128 .f32 := broadcastInDim S24x512x128 ![] bcast_S_S24x512x128 main_cst_0
  let main_v8 : IVec S24x512x128 1 := cmpf .olt main_v6 main_v7
  let main_c_1 : IVec S_ 1 := constantI S_ 1 1#1
  let main_v9 : IVec S_ 1 := (fun x v => Host.reduce IntOp.andi x v reducesTo_S24x512x128_S_d0_1_2 h_S_) main_v8 main_c_1
  let main_v10 : IVec S_ 1 := andi main_v4 main_v9
  let main_cst_2 : FVec F S_ .f32 := constant S_ .f32 0x7F800000#32
  let main_v11 : FVec F S24x64 .f32 := broadcastInDim S24x64 ![] bcast_S_S24x64 main_cst_2
  let main_v12 : IVec S24x64 1 := cmpf .olt main_arg4 main_v11
  let main_c_3 : IVec S_ 1 := constantI S_ 1 1#1
  let main_v13 : IVec S_ 1 := (fun x v => Host.reduce IntOp.andi x v reducesTo_S24x64_S_d0_1 h_S_) main_v12 main_c_3
  let main_v14 : FVec F S24x64 .f32 := Host.absf main_arg5
  let main_cst_4 : FVec F S_ .f32 := constant S_ .f32 0x7F800000#32
  let main_v15 : FVec F S24x64 .f32 := broadcastInDim S24x64 ![] bcast_S_S24x64 main_cst_4
  let main_v16 : IVec S24x64 1 := cmpf .olt main_v14 main_v15
  fn_part1 (F := F) main_arg6 main_v10 main_v13 main_v16
-- ==== Pre_small_inputs.lean ====
abbrev S32768x1024 : Shape := ⟨2, ![32768, 1024]⟩
abbrev S1024x5416 : Shape := ⟨2, ![1024, 5416]⟩
abbrev S_ : Shape := ⟨0, ![]⟩
abbrev S1024x16 : Shape := ⟨2, ![1024, 16]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  slices_S1024x5416_S1024x16_0_2328 : S1024x5416.Slices ![0, 2328] S1024x16
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S32768x1024 .f32) (main_arg1 : FVec F S1024x5416 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x16 .f32 := (extractStridedSlice S1024x16 ![0, 2328] · slices_S1024x5416_S1024x16_0_2328) main_arg1
  let main_v5 : FVec F S1024x16 .f32 := Host.absf main_v4
  let main_cst_0 : FVec F S_ .f32 := constant S_ .f32 0x7F800000#32
  let main_v6 : FVec F S1024x16 .f32 := broadcastInDim S1024x16 ![] bcast_S_S1024x16 main_cst_0
  let main_v7 : IVec S1024x16 1 := cmpf .olt main_v5 main_v6
  let main_c_1 : IVec S_ 1 := constantI S_ 1 1#1
  let main_v8 : IVec S_ 1 := (fun x v => Host.reduce IntOp.andi x v reducesTo_S1024x16_S_d0_1 h_S_) main_v7 main_c_1
  let main_v9 : IVec S_ 1 := andi main_v3 main_v8
  main_v9
-- ==== Kernel.lean ====
abbrev S8x32768x128 : Shape := ⟨3, ![8, 32768, 128]⟩
abbrev S32768x512 : Shape := ⟨2, ![32768, 512]⟩
abbrev S2x512x128 : Shape := ⟨3, ![2, 512, 128]⟩
abbrev S2x8192x128 : Shape := ⟨3, ![2, 8192, 128]⟩
abbrev S512x128 : Shape := ⟨2, ![512, 128]⟩
abbrev S2x512x1 : Shape := ⟨3, ![2, 512, 1]⟩
abbrev S1x512x128 : Shape := ⟨3, ![1, 512, 128]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S512x64 : Shape := ⟨2, ![512, 64]⟩

abbrev nBuf : Space → Nat
  | .hbm => 4
  | .vmem => 10
  | .smem => 0
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S32768x512, .bf16⟩
  | .local _ .vmem, ⟨0, _⟩ => ⟨S2x512x128, .bf16⟩
  | .local _ .vmem, ⟨1, _⟩ => ⟨S2x512x128, .bf16⟩
  | .local _ .vmem, ⟨2, _⟩ => ⟨S2x8192x128, .bf16⟩
  | .local _ .vmem, ⟨3, _⟩ => ⟨S2x8192x128, .bf16⟩
  | .local _ .vmem, ⟨4, _⟩ => ⟨S2x8192x128, .bf16⟩
  | .local _ .vmem, ⟨5, _⟩ => ⟨S2x8192x128, .bf16⟩
  | .local _ .vmem, ⟨6, _⟩ => ⟨S512x128, .bf16⟩
  | .local _ .vmem, ⟨7, _⟩ => ⟨S512x128, .bf16⟩
  | .local _ .vmem, ⟨8, _⟩ => ⟨S2x512x1, .f32⟩
  | .local _ .vmem, ⟨9, _⟩ => ⟨S2x512x128, .f32⟩
  | _, _ => ⟨S8x32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 16], ![false, false, false]⟩

@[reducible] def k0_t1_loop (i : grid0.Coords) : Scf.Loop 32 :=
  let c0_i32_6 : BitVec 32 := 0#32
  let arg2 : BitVec 32 := BitVec.ofNat 32 (i 2).val
  let c1_i32 : BitVec 32 := 1#32
  let v8 : BitVec 32 := Scalar.muli arg2 c1_i32
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_8 : BitVec 32 := 1#32
  ⟨c0_i32_6, v13, c1_i32_8⟩
def k0_mult1 (i : grid0.Coords) (k0_t1 : Fin (k0_t1_loop i).trips) : BitVec 32 :=
  let c0_i32_6 : BitVec 32 := 0#32
  let c1_i32_8 : BitVec 32 := 1#32
  let arg9 : BitVec 32 := Scf.iv c0_i32_6 c1_i32_8 k0_t1
  let c512_i32_67 : BitVec 32 := 512#32
  let v111 : BitVec 32 := Scalar.muli arg9 c512_i32_67
  v111
def k0_off1 (i : grid0.Coords) (k0_t1 : Fin (k0_t1_loop i).trips) : Fin 3 → Nat :=
  let c0_68 : Index := 0#32
  let c0_i32_6 : BitVec 32 := 0#32
  let c1_i32_8 : BitVec 32 := 1#32
  let arg9 : BitVec 32 := Scf.iv c0_i32_6 c1_i32_8 k0_t1
  let c512_i32_67 : BitVec 32 := 512#32
  let v111 : BitVec 32 := Scalar.muli arg9 c512_i32_67
  let v112 : BitVec 32 := v111
  let v113 : Index := Scalar.indexCast v112
  let c0_69 : Index := 0#32
  ![0, v113.toNat, 0]
def k0_off2 (i : grid0.Coords) (k0_t1 : Fin (k0_t1_loop i).trips) : Fin 3 → Nat :=
  let c1_90 : Index := 1#32
  let c0_i32_6 : BitVec 32 := 0#32
  let c1_i32_8 : BitVec 32 := 1#32
  let arg9 : BitVec 32 := Scf.iv c0_i32_6 c1_i32_8 k0_t1
  let c512_i32_67 : BitVec 32 := 512#32
  let v111 : BitVec 32 := Scalar.muli arg9 c512_i32_67
  let v112 : BitVec 32 := v111
  let v145 : Index := Scalar.indexCast v112
  let c0_91 : Index := 0#32
  ![1, v145.toNat, 0]
@[reducible] def k0_t2_loop (i : grid0.Coords) : Scf.Loop 32 :=
  let c0_i32_6 : BitVec 32 := 0#32
  let arg2 : BitVec 32 := BitVec.ofNat 32 (i 2).val
  let c1_i32 : BitVec 32 := 1#32
  let v8 : BitVec 32 := Scalar.muli arg2 c1_i32
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let v10 : BitVec 32 := Scalar.addi c0_i32_6 v9
  let c1_i32_9 : BitVec 32 := 1#32
  ⟨v13, v10, c1_i32_9⟩
def k0_mult2 (i : grid0.Coords) (k0_t2 : Fin (k0_t2_loop i).trips) : BitVec 32 :=
  let c0_i32_6 : BitVec 32 := 0#32
  let arg2 : BitVec 32 := BitVec.ofNat 32 (i 2).val
  let c1_i32 : BitVec 32 := 1#32
  let v8 : BitVec 32 := Scalar.muli arg2 c1_i32
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_9 : BitVec 32 := 1#32
  let arg9 : BitVec 32 := Scf.iv v13 c1_i32_9 k0_t2
  let c512_i32_67 : BitVec 32 := 512#32
  let v111 : BitVec 32 := Scalar.muli arg9 c512_i32_67
  v111
def k0_off3 (i : grid0.Coords) (k0_t2 : Fin (k0_t2_loop i).trips) : Fin 3 → Nat :=
  let c0_68 : Index := 0#32
  let c0_i32_6 : BitVec 32 := 0#32
  let arg2 : BitVec 32 := BitVec.ofNat 32 (i 2).val
  let c1_i32 : BitVec 32 := 1#32
  let v8 : BitVec 32 := Scalar.muli arg2 c1_i32
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_9 : BitVec 32 := 1#32
  let arg9 : BitVec 32 := Scf.iv v13 c1_i32_9 k0_t2
  let c512_i32_67 : BitVec 32 := 512#32
  let v111 : BitVec 32 := Scalar.muli arg9 c512_i32_67
  let v112 : BitVec 32 := v111
  let v113 : Index := Scalar.indexCast v112
  let c0_69 : Index := 0#32
  ![0, v113.toNat, 0]
def k0_off4 (i : grid0.Coords) (k0_t2 : Fin (k0_t2_loop i).trips) : Fin 3 → Nat :=
  let c1_90 : Index := 1#32
  let c0_i32_6 : BitVec 32 := 0#32
  let arg2 : BitVec 32 := BitVec.ofNat 32 (i 2).val
  let c1_i32 : BitVec 32 := 1#32
  let v8 : BitVec 32 := Scalar.muli arg2 c1_i32
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_9 : BitVec 32 := 1#32
  let arg9 : BitVec 32 := Scf.iv v13 c1_i32_9 k0_t2
  let c512_i32_67 : BitVec 32 := 512#32
  let v111 : BitVec 32 := Scalar.muli arg9 c512_i32_67
  let v112 : BitVec 32 := v111
  let v145 : Index := Scalar.indexCast v112
  let c0_91 : Index := 0#32
  ![1, v145.toNat, 0]
def k0_mult3 (i : grid0.Coords) : BitVec 32 :=
  let arg2 : BitVec 32 := BitVec.ofNat 32 (i 2).val
  let c1_i32_10 : BitVec 32 := 1#32
  let v14 : BitVec 32 := Scalar.muli arg2 c1_i32_10
  let c0_i32_11 : BitVec 32 := 0#32
  let v15 : BitVec 32 := Scalar.addi v14 c0_i32_11
  let c512_i32 : BitVec 32 := 512#32
  let v16 : BitVec 32 := Scalar.muli v15 c512_i32
  v16
def k0_off5 (i : grid0.Coords) : Fin 3 → Nat :=
  let c0_12 : Index := 0#32
  let arg2 : BitVec 32 := BitVec.ofNat 32 (i 2).val
  let c1_i32_10 : BitVec 32 := 1#32
  let v14 : BitVec 32 := Scalar.muli arg2 c1_i32_10
  let c0_i32_11 : BitVec 32 := 0#32
  let v15 : BitVec 32 := Scalar.addi v14 c0_i32_11
  let c512_i32 : BitVec 32 := 512#32
  let v16 : BitVec 32 := Scalar.muli v15 c512_i32
  let v17 : BitVec 32 := v16
  let v18 : Index := Scalar.indexCast v17
  let c0_13 : Index := 0#32
  ![0, v18.toNat, 0]
def k0_off6 (i : grid0.Coords) : Fin 3 → Nat :=
  let c1 : Index := 1#32
  let arg2 : BitVec 32 := BitVec.ofNat 32 (i 2).val
  let c1_i32_10 : BitVec 32 := 1#32
  let v14 : BitVec 32 := Scalar.muli arg2 c1_i32_10
  let c0_i32_11 : BitVec 32 := 0#32
  let v15 : BitVec 32 := Scalar.addi v14 c0_i32_11
  let c512_i32 : BitVec 32 := 512#32
  let v16 : BitVec 32 := Scalar.muli v15 c512_i32
  let v17 : BitVec 32 := v16
  let v57 : Index := Scalar.indexCast v17
  let c0_36 : Index := 0#32
  ![1, v57.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x32768x128 : Shape := ⟨3, ![8, 32768, 128]⟩
abbrev S8x4x8192x128 : Shape := ⟨4, ![8, 4, 8192, 128]⟩
abbrev S8x4x8192x64 : Shape := ⟨4, ![8, 4, 8192, 64]⟩
abbrev S8x4x8192x8192 : Shape := ⟨4, ![8, 4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x4x8192 : Shape := ⟨3, ![8, 4, 8192]⟩
abbrev S8x4x8192x1 : Shape := ⟨4, ![8, 4, 8192, 1]⟩
abbrev S4x8x64x8192 : Shape := ⟨4, ![4, 8, 64, 8192]⟩
abbrev S4x8192x8x64 : Shape := ⟨4, ![4, 8192, 8, 64]⟩
abbrev S32768x512 : Shape := ⟨2, ![32768, 512]⟩

abbrev nBuf : Space → Nat
  | .hbm => 40
  | .vmem => 0
  | .smem => 0
  | _ => 0

abbrev bufTy : (tb : Table) → Fin (tcTables nBuf tb) → BufTy
  | .hbm, ⟨0, _⟩ => ⟨S8x32768x128, .bf16⟩
  | .hbm, ⟨1, _⟩ => ⟨S8x32768x128, .bf16⟩
  | .hbm, ⟨2, _⟩ => ⟨S8x32768x128, .bf16⟩
  | .hbm, ⟨3, _⟩ => ⟨S8x32768x128, .f32⟩
  | .hbm, ⟨4, _⟩ => ⟨S8x4x8192x128, .f32⟩
  | .hbm, ⟨5, _⟩ => ⟨S8x32768x128, .f32⟩
  | .hbm, ⟨6, _⟩ => ⟨S8x4x8192x128, .f32⟩
  | .hbm, ⟨7, _⟩ => ⟨S8x32768x128, .f32⟩
  | .hbm, ⟨8, _⟩ => ⟨S8x4x8192x128, .f32⟩
  | .hbm, ⟨9, _⟩ => ⟨S8x4x8192x64, .f32⟩
  | .hbm, ⟨10, _⟩ => ⟨S8x4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x4x8192x8192, .i1⟩
  | .hbm, ⟨20, _⟩ => ⟨S8x4x8192x8192, .f32⟩
  | .hbm, ⟨21, _⟩ => ⟨S8x4x8192x8192, .f32⟩
  | .hbm, ⟨22, _⟩ => ⟨S_, .f32⟩
  | .hbm, ⟨23, _⟩ => ⟨S8x4x8192, .f32⟩
  | .hbm, ⟨24, _⟩ => ⟨S_, .f32⟩
  | .hbm, ⟨25, _⟩ => ⟨S8x4x8192, .f32⟩
  | .hbm, ⟨26, _⟩ => ⟨S8x4x8192, .f32⟩
  | .hbm, ⟨27, _⟩ => ⟨S8x4x8192x1, .f32⟩
  | .hbm, ⟨28, _⟩ => ⟨S8x4x8192x8192, .f32⟩
  | .hbm, ⟨29, _⟩ => ⟨S8x4x8192x8192, .f32⟩
  | .hbm, ⟨30, _⟩ => ⟨S8x4x8192x8192, .f32⟩
  | .hbm, ⟨31, _⟩ => ⟨S_, .f32⟩
  | .hbm, ⟨32, _⟩ => ⟨S8x4x8192, .f32⟩
  | .hbm, ⟨33, _⟩ => ⟨S8x4x8192x1, .f32⟩
  | .hbm, ⟨34, _⟩ => ⟨S8x4x8192x8192, .f32⟩
  | .hbm, ⟨35, _⟩ => ⟨S8x4x8192x8192, .f32⟩
  | .hbm, ⟨36, _⟩ => ⟨S4x8x64x8192, .f32⟩
  | .hbm, ⟨37, _⟩ => ⟨S4x8192x8x64, .f32⟩
  | .hbm, ⟨38, _⟩ => ⟨S32768x512, .f32⟩
  | .hbm, ⟨39, _⟩ => ⟨S32768x512, .bf16⟩
  | _, _ => ⟨S8x32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel2.lean ====
abbrev S32768x1024 : Shape := ⟨2, ![32768, 1024]⟩
abbrev S1024x5416 : Shape := ⟨2, ![1024, 5416]⟩
abbrev S1024x384 : Shape := ⟨2, ![1024, 384]⟩
abbrev S32768x384 : Shape := ⟨2, ![32768, 384]⟩
abbrev S512x1024 : Shape := ⟨2, ![512, 1024]⟩
abbrev S512x384 : Shape := ⟨2, ![512, 384]⟩

abbrev nBuf : Space → Nat
  | .hbm => 5
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S1024x384, .f32⟩
  | .hbm, ⟨3, _⟩ => ⟨S1024x384, .bf16⟩
  | .hbm, ⟨4, _⟩ => ⟨S32768x384, .f32⟩
  | .local _ .vmem, ⟨0, _⟩ => ⟨S512x1024, .f32⟩
  | .local _ .vmem, ⟨1, _⟩ => ⟨S512x1024, .f32⟩
  | .local _ .vmem, ⟨2, _⟩ => ⟨S1024x384, .bf16⟩
  | .local _ .vmem, ⟨3, _⟩ => ⟨S512x384, .f32⟩
  | .local _ .vmem, ⟨4, _⟩ => ⟨S512x384, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x1024 : Shape := ⟨2, ![32768, 1024]⟩
abbrev S1024x5416 : Shape := ⟨2, ![1024, 5416]⟩
abbrev S32768x5416 : Shape := ⟨2, ![32768, 5416]⟩
abbrev S32768x384 : Shape := ⟨2, ![32768, 384]⟩
abbrev S32768x5032 : Shape := ⟨2, ![32768, 5032]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S32768x5416, .f32⟩
  | .hbm, ⟨3, _⟩ => ⟨S32768x384, .f32⟩
  | .hbm, ⟨4, _⟩ => ⟨S32768x5032, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel3.lean ====
abbrev S32768x1024 : Shape := ⟨2, ![32768, 1024]⟩
abbrev S1024x5416 : Shape := ⟨2, ![1024, 5416]⟩
abbrev S1024x1536 : Shape := ⟨2, ![1024, 1536]⟩
abbrev S32768x1536 : Shape := ⟨2, ![32768, 1536]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S1024x1536, .f32⟩
  | .hbm, ⟨3, _⟩ => ⟨S1024x1536, .bf16⟩
  | .hbm, ⟨4, _⟩ => ⟨S32768x1536, .f32⟩
  | .local _ .vmem, ⟨0, _⟩ => ⟨S512x1024, .f32⟩
  | .local _ .vmem, ⟨1, _⟩ => ⟨S512x1024, .f32⟩
  | .local _ .vmem, ⟨2, _⟩ => ⟨S1024x768, .bf16⟩
  | .local _ .vmem, ⟨3, _⟩ => ⟨S1024x768, .bf16⟩
  | .local _ .vmem, ⟨4, _⟩ => ⟨S512x768, .f32⟩
  | .local _ .vmem, ⟨5, _⟩ => ⟨S512x768, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S32768x1024 : Shape := ⟨2, ![32768, 1024]⟩
abbrev S1024x5416 : Shape := ⟨2, ![1024, 5416]⟩
abbrev S32768x5416 : Shape := ⟨2, ![32768, 5416]⟩
abbrev S32768x384 : Shape := ⟨2, ![32768, 384]⟩
abbrev S32768x1536 : Shape := ⟨2, ![32768, 1536]⟩
abbrev S32768x3496 : Shape := ⟨2, ![32768, 3496]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S32768x5416, .f32⟩
  | .hbm, ⟨3, _⟩ => ⟨S32768x384, .f32⟩
  | .hbm, ⟨4, _⟩ => ⟨S32768x1536, .f32⟩
  | .hbm, ⟨5, _⟩ => ⟨S32768x3496, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S32768x1024 : Shape := ⟨2, ![32768, 1024]⟩
abbrev S1024x5416 : Shape := ⟨2, ![1024, 5416]⟩
abbrev S1024x32 : Shape := ⟨2, ![1024, 32]⟩
abbrev S1024x384 : Shape := ⟨2, ![1024, 384]⟩
abbrev S1024x8 : Shape := ⟨2, ![1024, 8]⟩
abbrev S_ : Shape := ⟨0, ![]⟩
abbrev S1024x56 : Shape := ⟨2, ![1024, 56]⟩
abbrev S1024x16 : Shape := ⟨2, ![1024, 16]⟩
abbrev S1024x512 : Shape := ⟨2, ![1024, 512]⟩
abbrev S32768x512 : Shape := ⟨2, ![32768, 512]⟩
abbrev S512x1024 : Shape := ⟨2, ![512, 1024]⟩
abbrev S512x512 : Shape := ⟨2, ![512, 512]⟩

abbrev nBuf : Space → Nat
  | .hbm => 14
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S1024x32, .f32⟩
  | .hbm, ⟨3, _⟩ => ⟨S1024x384, .f32⟩
  | .hbm, ⟨4, _⟩ => ⟨S1024x8, .f32⟩
  | .hbm, ⟨5, _⟩ => ⟨S_, .f32⟩
  | .hbm, ⟨6, _⟩ => ⟨S1024x56, .f32⟩
  | .hbm, ⟨7, _⟩ => ⟨S1024x16, .f32⟩
  | .hbm, ⟨8, _⟩ => ⟨S1024x16, .f32⟩
  | .hbm, ⟨9, _⟩ => ⟨S1024x16, .f32⟩
  | .hbm, ⟨10, _⟩ => ⟨S1024x32, .f32⟩
  | .hbm, ⟨11, _⟩ => ⟨S1024x512, .f32⟩
  | .hbm, ⟨12, _⟩ => ⟨S1024x512, .bf16⟩
  | .hbm, ⟨13, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S32768x1024 : Shape := ⟨2, ![32768, 1024]⟩
abbrev S1024x5416 : Shape := ⟨2, ![1024, 5416]⟩
abbrev S32768x5416 : Shape := ⟨2, ![32768, 5416]⟩
abbrev S32768x1920 : Shape := ⟨2, ![32768, 1920]⟩
abbrev S32768x8 : Shape := ⟨2, ![32768, 8]⟩
abbrev S32768x256 : Shape := ⟨2, ![32768, 256]⟩
abbrev S32768x128 : Shape := ⟨2, ![32768, 128]⟩
abbrev S32768x32 : Shape := ⟨2, ![32768, 32]⟩
abbrev S32768x3072 : Shape := ⟨2, ![32768, 3072]⟩
abbrev S32768x16 : Shape := ⟨2, ![32768, 16]⟩
abbrev S_ : Shape := ⟨0, ![]⟩
abbrev S32768x56 : Shape := ⟨2, ![32768, 56]⟩
abbrev S32768x512 : Shape := ⟨2, ![32768, 512]⟩

abbrev nBuf : Space → Nat
  | .hbm => 15
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S32768x5416, .f32⟩
  | .hbm, ⟨3, _⟩ => ⟨S32768x1920, .f32⟩
  | .hbm, ⟨4, _⟩ => ⟨S32768x8, .f32⟩
  | .hbm, ⟨5, _⟩ => ⟨S32768x256, .f32⟩
  | .hbm, ⟨6, _⟩ => ⟨S32768x128, .f32⟩
  | .hbm, ⟨7, _⟩ => ⟨S32768x32, .f32⟩
  | .hbm, ⟨8, _⟩ => ⟨S32768x3072, .f32⟩
  | .hbm, ⟨9, _⟩ => ⟨S32768x16, .f32⟩
  | .hbm, ⟨10, _⟩ => ⟨S32768x16, .f32⟩
  | .hbm, ⟨11, _⟩ => ⟨S_, .f32⟩
  | .hbm, ⟨12, _⟩ => ⟨S32768x56, .f32⟩
  | .hbm, ⟨13, _⟩ => ⟨S32768x16, .f32⟩
  | .hbm, ⟨14, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel5.lean ====
abbrev S32768x1024 : Shape := ⟨2, ![32768, 1024]⟩
abbrev S1024x5416 : Shape := ⟨2, ![1024, 5416]⟩
abbrev S1024x3072 : Shape := ⟨2, ![1024, 3072]⟩
abbrev S32768x3072 : Shape := ⟨2, ![32768, 3072]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S1024x3072, .f32⟩
  | .hbm, ⟨3, _⟩ => ⟨S1024x3072, .bf16⟩
  | .hbm, ⟨4, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S32768x1024 : Shape := ⟨2, ![32768, 1024]⟩
abbrev S1024x5416 : Shape := ⟨2, ![1024, 5416]⟩
abbrev S32768x5416 : Shape := ⟨2, ![32768, 5416]⟩
abbrev S32768x2344 : Shape := ⟨2, ![32768, 2344]⟩
abbrev S32768x3072 : Shape := ⟨2, ![32768, 3072]⟩

abbrev nBuf : Space → Nat
  | .hbm => 6
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x5416, .f32⟩
  | .hbm, ⟨2, _⟩ => ⟨S32768x5416, .f32⟩
  | .hbm, ⟨3, _⟩ => ⟨S32768x2344, .f32⟩
  | .hbm, ⟨4, _⟩ => ⟨S32768x3072, .f32⟩
  | .hbm, ⟨5, _⟩ => ⟨S32768x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S32768x1024 : Shape := ⟨2, ![32768, 1024]⟩
abbrev S32768x384 : Shape := ⟨2, ![32768, 384]⟩
abbrev S32768x512 : Shape := ⟨2, ![32768, 512]⟩
abbrev S32768x3072 : Shape := ⟨2, ![32768, 3072]⟩
abbrev S384x1024 : Shape := ⟨2, ![384, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S32768x2048 : Shape := ⟨2, ![32768, 2048]⟩
abbrev S512x384 : Shape := ⟨2, ![512, 384]⟩
abbrev S512x512 : Shape := ⟨2, ![512, 512]⟩
abbrev S512x3072 : Shape := ⟨2, ![512, 3072]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S384x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S384x1024, .bf16⟩
  | .hbm, ⟨13, _⟩ => ⟨S512x1024, .bf16⟩
  | .hbm, ⟨14, _⟩ => ⟨S512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x2048, .bf16⟩
  | .hbm, ⟨19, _⟩ => ⟨S32768x1024, .f32⟩
  | .hbm, ⟨20, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x384, .bf16⟩
  | .local _ .vmem, ⟨3, _⟩ => ⟨S512x384, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x3072, .bf16⟩
  | .local _ .vmem, ⟨9, _⟩ => ⟨S512x3072, .bf16⟩
  | .local _ .vmem, ⟨10, _⟩ => ⟨S384x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x2048, .bf16⟩
  | .local _ .vmem, ⟨17, _⟩ => ⟨S512x1024, .f32⟩
  | .local _ .vmem, ⟨18, _⟩ => ⟨S512x1024, .f32⟩
  | .local _ .vmem, ⟨19, _⟩ => ⟨S512x2048, .bf16⟩
  | .local _ .vmem, ⟨20, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Kernel6Ideal.lean ====
variable {F : FTy → Type} [FloatOps F] [Named F]
def κ : String → Option EReal := fun
  | "alpha" => some ((Real.sqrt 2 : ℝ) : EReal)
  | _ => none
-- ==== Reference6Ideal.lean ====
abbrev S32768x1024 : Shape := ⟨2, ![32768, 1024]⟩
abbrev S32768x384 : Shape := ⟨2, ![32768, 384]⟩
abbrev S32768x512 : Shape := ⟨2, ![32768, 512]⟩
abbrev S32768x3072 : Shape := ⟨2, ![32768, 3072]⟩
abbrev S384x1024 : Shape := ⟨2, ![384, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 72
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x384, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S384x1024, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S32768x3072, .f32⟩
  | .hbm, ⟨13, _⟩ => ⟨S32768x3072, .f32⟩
  | .hbm, ⟨14, _⟩ => ⟨S32768x3072, .f32⟩
  | .hbm, ⟨15, _⟩ => ⟨S_, .f32⟩
  | .hbm, ⟨16, _⟩ => ⟨S32768x3072, .f32⟩
  | .hbm, ⟨17, _⟩ => ⟨S32768x3072, .f32⟩
  | .hbm, ⟨18, _⟩ => ⟨S_, .f32⟩
  | .hbm, ⟨19, _⟩ => ⟨S32768x3072, .f32⟩
  | .hbm, ⟨20, _⟩ => ⟨S32768x3072, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x384, .f32⟩
  | .hbm, ⟨25, _⟩ => ⟨S32768x1024, .f32⟩
  | .hbm, ⟨26, _⟩ => ⟨S32768x1024, .f32⟩
  | .hbm, ⟨27, _⟩ => ⟨S32768x512, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x512, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S32768x1024, .f32⟩
  | .hbm, ⟨66, _⟩ => ⟨S32768x1024, .f32⟩
  | .hbm, ⟨67, _⟩ => ⟨S1x1024, .f32⟩
  | .hbm, ⟨68, _⟩ => ⟨S32768x1024, .f32⟩
  | .hbm, ⟨69, _⟩ => ⟨S32768x1024, .f32⟩
  | .hbm, ⟨70, _⟩ => ⟨S32768x2048, .f32⟩
  | .hbm, ⟨71, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Kernel7.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S32768x1024 : Shape := ⟨2, ![32768, 1024]⟩

abbrev nBuf : Space → Nat
  | .hbm => 33
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | .hbm, ⟨32, _⟩ => ⟨S32768x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel8.lean ====
abbrev S32768x384 : Shape := ⟨2, ![32768, 384]⟩
abbrev S384 : Shape := ⟨1, ![384]⟩
abbrev S384x384 : Shape := ⟨2, ![384, 384]⟩
abbrev S1x384 : Shape := ⟨2, ![1, 384]⟩
abbrev S512x384 : Shape := ⟨2, ![512, 384]⟩

abbrev nBuf : Space → Nat
  | .hbm => 7
  | .vmem => 8
  | .smem => 0
  | _ => 0

abbrev bufTy : (tb : Table) → Fin (tcTables nBuf tb) → BufTy
  | .hbm, ⟨0, _⟩ => ⟨S32768x384, .f32⟩
  | .hbm, ⟨1, _⟩ => ⟨S32768x384, .f32⟩
  | .hbm, ⟨2, _⟩ => ⟨S384, .f32⟩
  | .hbm, ⟨3, _⟩ => ⟨S384x384, .f32⟩
  | .hbm, ⟨4, _⟩ => ⟨S1x384, .f32⟩
  | .hbm, ⟨5, _⟩ => ⟨S384x384, .bf16⟩
  | .hbm, ⟨6, _⟩ => ⟨S32768x384, .bf16⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S1x384, .f32⟩
  | .local _ .vmem, ⟨5, _⟩ => ⟨S384x384, .bf16⟩
  | .local _ .vmem, ⟨6, _⟩ => ⟨S512x384, .bf16⟩
  | .local _ .vmem, ⟨7, _⟩ => ⟨S512x384, .bf16⟩
  | _, _ => ⟨S32768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S32768x384 : Shape := ⟨2, ![32768, 384]⟩
abbrev S384 : Shape := ⟨1, ![384]⟩
abbrev S384x384 : Shape := ⟨2, ![384, 384]⟩
abbrev S1x384 : Shape := ⟨2, ![1, 384]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S32768x384, .f32⟩
  | .hbm, ⟨1, _⟩ => ⟨S32768x384, .f32⟩
  | .hbm, ⟨2, _⟩ => ⟨S384, .f32⟩
  | .hbm, ⟨3, _⟩ => ⟨S384x384, .f32⟩
  | .hbm, ⟨4, _⟩ => ⟨S1x384, .f32⟩
  | .hbm, ⟨5, _⟩ => ⟨S32768x384, .f32⟩
  | .hbm, ⟨6, _⟩ => ⟨S32768x384, .f32⟩
  | .hbm, ⟨7, _⟩ => ⟨S32768x384, .f32⟩
  | .hbm, ⟨8, _⟩ => ⟨S32768x384, .f32⟩
  | .hbm, ⟨9, _⟩ => ⟨S32768x384, .f32⟩
  | .hbm, ⟨10, _⟩ => ⟨S_, .f32⟩
  | .hbm, ⟨11, _⟩ => ⟨S32768x384, .f32⟩
  | .hbm, ⟨12, _⟩ => ⟨S32768x384, .f32⟩
  | .hbm, ⟨13, _⟩ => ⟨S32768x384, .f32⟩
  | .hbm, ⟨14, _⟩ => ⟨S_, .f32⟩
  | .hbm, ⟨15, _⟩ => ⟨S32768x384, .f32⟩
  | .hbm, ⟨16, _⟩ => ⟨S32768x384, .f32⟩
  | .hbm, ⟨17, _⟩ => ⟨S32768x384, .f32⟩
  | .hbm, ⟨18, _⟩ => ⟨S_, .f32⟩
  | .hbm, ⟨19, _⟩ => ⟨S32768x384, .f32⟩
  | .hbm, ⟨20, _⟩ => ⟨S32768x384, .f32⟩
  | .hbm, ⟨21, _⟩ => ⟨S_, .f32⟩
  | .hbm, ⟨22, _⟩ => ⟨S32768x384, .f32⟩
  | .hbm, ⟨23, _⟩ => ⟨S32768x384, .f32⟩
  | .hbm, ⟨24, _⟩ => ⟨S32768x384, .f32⟩
  | .hbm, ⟨25, _⟩ => ⟨S32768x384, .f32⟩
  | .hbm, ⟨26, _⟩ => ⟨S32768x384, .f32⟩
  | .hbm, ⟨27, _⟩ => ⟨S32768x384, .f32⟩
  | .hbm, ⟨28, _⟩ => ⟨S_, .f32⟩
  | .hbm, ⟨29, _⟩ => ⟨S32768x384, .f32⟩
  | .hbm, ⟨30, _⟩ => ⟨S32768x384, .f32⟩
  | .hbm, ⟨31, _⟩ => ⟨S_, .f32⟩
  | .hbm, ⟨32, _⟩ => ⟨S32768x384, .f32⟩
  | .hbm, ⟨33, _⟩ => ⟨S32768x384, .f32⟩
  | .hbm, ⟨34, _⟩ => ⟨S32768x384, .f32⟩
  | .hbm, ⟨35, _⟩ => ⟨S32768x384, .bf16⟩
  | _, _ => ⟨S32768x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel9.lean ====
abbrev S32768x512 : Shape := ⟨2, ![32768, 512]⟩
abbrev S4x8192 : Shape := ⟨2, ![4, 8192]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768x32 : Shape := ⟨2, ![32768, 32]⟩
abbrev S32768x128 : Shape := ⟨2, ![32768, 128]⟩
abbrev S1 : Shape := ⟨1, ![1]⟩
abbrev S256x8x96 : Shape := ⟨3, ![256, 8, 96]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x8x256 : Shape := ⟨3, ![128, 8, 256]⟩
abbrev S128x2048 : Shape := ⟨2, ![128, 2048]⟩
abbrev S1x256 : Shape := ⟨2, ![1, 256]⟩
abbrev S1x128 : Shape := ⟨2, ![1, 128]⟩
abbrev S8x32768x128 : Shape := ⟨3, ![8, 32768, 128]⟩
abbrev S512x256 : Shape := ⟨2, ![512, 256]⟩
abbrev S512x128 : Shape := ⟨2, ![512, 128]⟩
abbrev S8x512x128 : Shape := ⟨3, ![8, 512, 128]⟩
abbrev S512 : Shape := ⟨1, ![512]⟩
abbrev S512x1 : Shape := ⟨2, ![512, 1]⟩
abbrev S512x1024 : Shape := ⟨2, ![512, 1024]⟩
abbrev S512x2048 : Shape := ⟨2, ![512, 2048]⟩
abbrev S1x512x128 : Shape := ⟨3, ![1, 512, 128]⟩

abbrev nBuf : Space → Nat
  | .hbm => 66
  | .vmem => 20
  | .smem => 0
  | _ => 0

abbrev bufTy : (tb : Table) → Fin (tcTables nBuf tb) → BufTy
  | .hbm, ⟨0, _⟩ => ⟨S32768x512, .f32⟩
  | .hbm, ⟨1, _⟩ => ⟨S4x8192, .i32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S4x8192, .f32⟩
  | .hbm, ⟨23, _⟩ => ⟨S32768x1, .f32⟩
  | .hbm, ⟨24, _⟩ => ⟨S1x16, .f32⟩
  | .hbm, ⟨25, _⟩ => ⟨S32768x16, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S32768x16, .f32⟩
  | .hbm, ⟨30, _⟩ => ⟨S32768x32, .f32⟩
  | .hbm, ⟨31, _⟩ => ⟨S32768x16, .f32⟩
  | .hbm, ⟨32, _⟩ => ⟨S32768x16, .f32⟩
  | .hbm, ⟨33, _⟩ => ⟨S32768x32, .f32⟩
  | .hbm, ⟨34, _⟩ => ⟨S_, .f32⟩
  | .hbm, ⟨35, _⟩ => ⟨S32768x128, .f32⟩
  | .hbm, ⟨36, _⟩ => ⟨S_, .i32⟩
  | .hbm, ⟨37, _⟩ => ⟨S1, .i32⟩
  | .hbm, ⟨38, _⟩ => ⟨S32768x128, .f32⟩
  | .hbm, ⟨39, _⟩ => ⟨S_, .f32⟩
  | .hbm, ⟨40, _⟩ => ⟨S32768x128, .f32⟩
  | .hbm, ⟨41, _⟩ => ⟨S_, .i32⟩
  | .hbm, ⟨42, _⟩ => ⟨S1, .i32⟩
  | .hbm, ⟨43, _⟩ => ⟨S32768x128, .f32⟩
  | .hbm, ⟨44, _⟩ => ⟨S256x8x96, .f32⟩
  | .hbm, ⟨45, _⟩ => ⟨S256x8x32, .f32⟩
  | .hbm, ⟨46, _⟩ => ⟨S256x8x16, .f32⟩
  | .hbm, ⟨47, _⟩ => ⟨S256x8x16, .f32⟩
  | .hbm, ⟨48, _⟩ => ⟨S256x8x16, .f32⟩
  | .hbm, ⟨49, _⟩ => ⟨S256x8x32, .f32⟩
  | .hbm, ⟨50, _⟩ => ⟨S256x8x128, .f32⟩
  | .hbm, ⟨51, _⟩ => ⟨S256x1024, .f32⟩
  | .hbm, ⟨52, _⟩ => ⟨S128x8x128, .f32⟩
  | .hbm, ⟨53, _⟩ => ⟨S_, .f32⟩
  | .hbm, ⟨54, _⟩ => ⟨S128x8x64, .f32⟩
  | .hbm, ⟨55, _⟩ => ⟨S128x8x64, .f32⟩
  | .hbm, ⟨56, _⟩ => ⟨S128x8x64, .f32⟩
  | .hbm, ⟨57, _⟩ => ⟨S128x8x256, .f32⟩
  | .hbm, ⟨58, _⟩ => ⟨S128x2048, .f32⟩
  | .hbm, ⟨59, _⟩ => ⟨S1x256, .f32⟩
  | .hbm, ⟨60, _⟩ => ⟨S1x128, .f32⟩
  | .hbm, ⟨61, _⟩ => ⟨S256x1024, .bf16⟩
  | .hbm, ⟨62, _⟩ => ⟨S128x2048, .bf16⟩
  | .hbm, ⟨63, _⟩ => ⟨S8x32768x128, .bf16⟩
  | .hbm, ⟨64, _⟩ => ⟨S8x32768x128, .bf16⟩
  | .hbm, ⟨65, _⟩ => ⟨S8x32768x128, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S128x2048, .bf16⟩
  | .local _ .vmem, ⟨14, _⟩ => ⟨S8x512x128, .bf16⟩
  | .local _ .vmem, ⟨15, _⟩ => ⟨S8x512x128, .bf16⟩
  | .local _ .vmem, ⟨16, _⟩ => ⟨S8x512x128, .bf16⟩
  | .local _ .vmem, ⟨17, _⟩ => ⟨S8x512x128, .bf16⟩
  | .local _ .vmem, ⟨18, _⟩ => ⟨S8x512x128, .bf16⟩
  | .local _ .vmem, ⟨19, _⟩ => ⟨S8x512x128, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel9Ideal.lean ====
variable {F : FTy → Type} [FloatOps F] [Named F]
def κ : String → Option EReal := fun
  | "scale" => some (((Real.sqrt 96)⁻¹ : ℝ) : EReal)
  | _ => none
-- ==== Reference9Ideal.lean ====
abbrev S32768x512 : Shape := ⟨2, ![32768, 512]⟩
abbrev S4x8192 : Shape := ⟨2, ![4, 8192]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S32768x256 : Shape := ⟨2, ![32768, 256]⟩
abbrev S32768x128 : Shape := ⟨2, ![32768, 128]⟩
abbrev S32768x64 : Shape := ⟨2, ![32768, 64]⟩
abbrev S32768x32 : Shape := ⟨2, ![32768, 32]⟩
abbrev S16 : Shape := ⟨1, ![16]⟩
abbrev S_ : Shape := ⟨0, ![]⟩
abbrev S32768x1 : Shape := ⟨2, ![32768, 1]⟩
abbrev S1x16 : Shape := ⟨2, ![1, 16]⟩
abbrev S32768x16 : Shape := ⟨2, ![32768, 16]⟩
abbrev S32768 : Shape := ⟨1, ![32768]⟩
abbrev S1x256 : Shape := ⟨2, ![1, 256]⟩
abbrev S32768x768 : Shape := ⟨2, ![32768, 768]⟩
abbrev S32768x8x96 : Shape := ⟨3, ![32768, 8, 96]⟩
abbrev S32768x8x64 : Shape := ⟨3, ![32768, 8, 64]⟩
abbrev S32768x8x32 : Shape := ⟨3, ![32768, 8, 32]⟩
abbrev S32768x1x16 : Shape := ⟨3, ![32768, 1, 16]⟩
abbrev S32768x8x16 : Shape := ⟨3, ![32768, 8, 16]⟩
abbrev S1x128 : Shape := ⟨2, ![1, 128]⟩
abbrev S32768x1024 : Shape := ⟨2, ![32768, 1024]⟩
abbrev S32768x8x128 : Shape := ⟨3, ![32768, 8, 128]⟩
abbrev S32768x1x32 : Shape := ⟨3, ![32768, 1, 32]⟩
abbrev S32768x8x1 : Shape := ⟨3, ![32768, 8, 1]⟩
abbrev S32768x8x63 : Shape := ⟨3, ![32768, 8, 63]⟩
abbrev S8x32768x128 : Shape := ⟨3, ![8, 32768, 128]⟩

abbrev nBuf : Space → Nat
  | .hbm => 124
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S4x8192, .i32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S32768x256, .f32⟩
  | .hbm, ⟨7, _⟩ => ⟨S32768x128, .f32⟩
  | .hbm, ⟨8, _⟩ => ⟨S32768x64, .f32⟩
  | .hbm, ⟨9, _⟩ => ⟨S32768x32, .f32⟩
  | .hbm, ⟨10, _⟩ => ⟨S32768x32, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S4x8192, .f32⟩
  | .hbm, ⟨28, _⟩ => ⟨S32768x1, .f32⟩
  | .hbm, ⟨29, _⟩ => ⟨S1x16, .f32⟩
  | .hbm, ⟨30, _⟩ => ⟨S32768x16, .f32⟩
  | .hbm, ⟨31, _⟩ => ⟨S32768x16, .f32⟩
  | .hbm, ⟨32, _⟩ => ⟨S32768x16, .f32⟩
  | .hbm, ⟨33, _⟩ => ⟨S32768x16, .f32⟩
  | .hbm, ⟨34, _⟩ => ⟨S32768x16, .f32⟩
  | .hbm, ⟨35, _⟩ => ⟨S32768x256, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x256, .f32⟩
  | .hbm, ⟨47, _⟩ => ⟨S32768x256, .f32⟩
  | .hbm, ⟨48, _⟩ => ⟨S1x256, .f32⟩
  | .hbm, ⟨49, _⟩ => ⟨S32768x256, .f32⟩
  | .hbm, ⟨50, _⟩ => ⟨S32768x256, .f32⟩
  | .hbm, ⟨51, _⟩ => ⟨S32768x768, .f32⟩
  | .hbm, ⟨52, _⟩ => ⟨S32768x8x96, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S32768x8x64, .f32⟩
  | .hbm, ⟨58, _⟩ => ⟨S32768x8x64, .f32⟩
  | .hbm, ⟨59, _⟩ => ⟨S32768x8x64, .f32⟩
  | .hbm, ⟨60, _⟩ => ⟨S32768x8x32, .f32⟩
  | .hbm, ⟨61, _⟩ => ⟨S32768x1x16, .f32⟩
  | .hbm, ⟨62, _⟩ => ⟨S32768x1x16, .f32⟩
  | .hbm, ⟨63, _⟩ => ⟨S32768x8x16, .f32⟩
  | .hbm, ⟨64, _⟩ => ⟨S32768x8x16, .f32⟩
  | .hbm, ⟨65, _⟩ => ⟨S32768x8x16, .f32⟩
  | .hbm, ⟨66, _⟩ => ⟨S32768x8x16, .f32⟩
  | .hbm, ⟨67, _⟩ => ⟨S32768x8x16, .f32⟩
  | .hbm, ⟨68, _⟩ => ⟨S32768x8x16, .f32⟩
  | .hbm, ⟨69, _⟩ => ⟨S32768x8x16, .f32⟩
  | .hbm, ⟨70, _⟩ => ⟨S32768x8x16, .f32⟩
  | .hbm, ⟨71, _⟩ => ⟨S32768x8x16, .f32⟩
  | .hbm, ⟨72, _⟩ => ⟨S32768x8x16, .f32⟩
  | .hbm, ⟨73, _⟩ => ⟨S32768x8x16, .f32⟩
  | .hbm, ⟨74, _⟩ => ⟨S32768x8x16, .f32⟩
  | .hbm, ⟨75, _⟩ => ⟨S32768x8x32, .f32⟩
  | .hbm, ⟨76, _⟩ => ⟨S32768x8x32, .f32⟩
  | .hbm, ⟨77, _⟩ => ⟨S32768x8x32, .f32⟩
  | .hbm, ⟨78, _⟩ => ⟨S32768x128, .f32⟩
  | .hbm, ⟨79, _⟩ => ⟨S_, .f32⟩
  | .hbm, ⟨80, _⟩ => ⟨S32768, .f32⟩
  | .hbm, ⟨81, _⟩ => ⟨S32768x1, .f32⟩
  | .hbm, ⟨82, _⟩ => ⟨S_, .f32⟩
  | .hbm, ⟨83, _⟩ => ⟨S32768x1, .f32⟩
  | .hbm, ⟨84, _⟩ => ⟨S32768x1, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x1, .f32⟩
  | .hbm, ⟨89, _⟩ => ⟨S32768x128, .f32⟩
  | .hbm, ⟨90, _⟩ => ⟨S32768x128, .f32⟩
  | .hbm, ⟨91, _⟩ => ⟨S1x128, .f32⟩
  | .hbm, ⟨92, _⟩ => ⟨S32768x128, .f32⟩
  | .hbm, ⟨93, _⟩ => ⟨S32768x128, .f32⟩
  | .hbm, ⟨94, _⟩ => ⟨S32768x1024, .f32⟩
  | .hbm, ⟨95, _⟩ => ⟨S32768x8x128, .f32⟩
  | .hbm, ⟨96, _⟩ => ⟨S32768x8x64, .f32⟩
  | .hbm, ⟨97, _⟩ => ⟨S32768x8x64, .f32⟩
  | .hbm, ⟨98, _⟩ => ⟨S32768x16, .f32⟩
  | .hbm, ⟨99, _⟩ => ⟨S32768x16, .f32⟩
  | .hbm, ⟨100, _⟩ => ⟨S32768x16, .f32⟩
  | .hbm, ⟨101, _⟩ => ⟨S32768x16, .f32⟩
  | .hbm, ⟨102, _⟩ => ⟨S32768x16, .f32⟩
  | .hbm, ⟨103, _⟩ => ⟨S32768x16, .f32⟩
  | .hbm, ⟨104, _⟩ => ⟨S32768x16, .f32⟩
  | .hbm, ⟨105, _⟩ => ⟨S32768x16, .f32⟩
  | .hbm, ⟨106, _⟩ => ⟨S32768x32, .f32⟩
  | .hbm, ⟨107, _⟩ => ⟨S32768x1x32, .f32⟩
  | .hbm, ⟨108, _⟩ => ⟨S32768x8x32, .f32⟩
  | .hbm, ⟨109, _⟩ => ⟨S_, .f32⟩
  | .hbm, ⟨110, _⟩ => ⟨S32768x8x32, .f32⟩
  | .hbm, ⟨111, _⟩ => ⟨S_, .f32⟩
  | .hbm, ⟨112, _⟩ => ⟨S32768x8x1, .f32⟩
  | .hbm, ⟨113, _⟩ => ⟨S_, .f32⟩
  | .hbm, ⟨114, _⟩ => ⟨S32768x8x63, .f32⟩
  | .hbm, ⟨115, _⟩ => ⟨S32768x8x128, .f32⟩
  | .hbm, ⟨116, _⟩ => ⟨S32768x8x128, .f32⟩
  | .hbm, ⟨117, _⟩ => ⟨S32768x8x128, .f32⟩
  | .hbm, ⟨118, _⟩ => ⟨S32768x8x128, .bf16⟩
  | .hbm, ⟨119, _⟩ => ⟨S8x32768x128, .bf16⟩
  | .hbm, ⟨120, _⟩ => ⟨S32768x8x128, .bf16⟩
  | .hbm, ⟨121, _⟩ => ⟨S8x32768x128, .bf16⟩
  | .hbm, ⟨122, _⟩ => ⟨S32768x8x128, .bf16⟩
  | .hbm, ⟨123, _⟩ => ⟨S8x32768x128, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_12 : Ref sig .tc := ⟨.hbm, 109, rfl⟩
abbrev main_v90 : Ref sig .tc := ⟨.hbm, 110, rfl⟩
abbrev main_cst_13 : Ref sig .tc := ⟨.hbm, 111, rfl⟩
abbrev main_v91 : Ref sig .tc := ⟨.hbm, 112, rfl⟩
abbrev main_cst_14 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩

abbrev nD : Nat := 1
abbrev τ : Topo := Topo.v7x

variable {F : FTy → Type} [FloatOps F]
-- ==== Kernel10.lean ====
abbrev S24x1024x512 : Shape := ⟨3, ![24, 1024, 512]⟩
abbrev S24x512x512 : Shape := ⟨3, ![24, 512, 512]⟩
abbrev S24x512x128 : Shape := ⟨3, ![24, 512, 128]⟩
abbrev S24x128x512 : Shape := ⟨3, ![24, 128, 512]⟩
abbrev S24x64 : Shape := ⟨2, ![24, 64]⟩
abbrev S24 : Shape := ⟨1, ![24]⟩
abbrev S24x1 : Shape := ⟨2, ![24, 1]⟩
abbrev S8 : Shape := ⟨1, ![8]⟩
abbrev S_ : Shape := ⟨0, ![]⟩
abbrev S8x1x1 : Shape := ⟨3, ![8, 1, 1]⟩
abbrev S1x24x64 : Shape := ⟨3, ![1, 24, 64]⟩
abbrev S8x24x64 : Shape := ⟨3, ![8, 24, 64]⟩
abbrev S8x24x128 : Shape := ⟨3, ![8, 24, 128]⟩
abbrev S8x24x1x128 : Shape := ⟨4, ![8, 24, 1, 128]⟩
abbrev S8x24x2x128 : Shape := ⟨4, ![8, 24, 2, 128]⟩
abbrev S24x8x2x128 : Shape := ⟨4, ![24, 8, 2, 128]⟩
abbrev S1x1024x512 : Shape := ⟨3, ![1, 1024, 512]⟩
abbrev S1x512x512 : Shape := ⟨3, ![1, 512, 512]⟩
abbrev S1x512x128 : Shape := ⟨3, ![1, 512, 128]⟩
abbrev S1x128x512 : Shape := ⟨3, ![1, 128, 512]⟩
abbrev S1x8x2x128 : Shape := ⟨4, ![1, 8, 2, 128]⟩
abbrev S1024x512 : Shape := ⟨2, ![1024, 512]⟩
abbrev S512x128 : Shape := ⟨2, ![512, 128]⟩
abbrev S1024x128 : Shape := ⟨2, ![1024, 128]⟩
abbrev S1024x1 : Shape := ⟨2, ![1024, 1]⟩
abbrev S1x1x1x128 : Shape := ⟨4, ![1, 1, 1, 128]⟩
abbrev S1x128 : Shape := ⟨2, ![1, 128]⟩
abbrev S512x512 : Shape := ⟨2, ![512, 512]⟩
abbrev S128x512 : Shape := ⟨2, ![128, 512]⟩

abbrev nBuf : Space → Nat
  | .hbm => 140
  | .vmem => 12
  | .smem => 0
  | _ => 0

abbrev hbmTy0_0 (i : Nat) : BufTy := match i % 128 with
  | 0 => ⟨S24x1024x512, .bf16⟩
  | 1 => ⟨S24x512x512, .bf16⟩
  | 2 => ⟨S24x512x128, .bf16⟩
  | 3 => ⟨S24x128x512, .bf16⟩
  | 4 => ⟨S24x64, .f32⟩
  | 5 => ⟨S24x64, .f32⟩
  | 6 => ⟨S24, .f32⟩
  | 7 => ⟨S24, .f32⟩
  | 8 => ⟨S24x1, .f32⟩
  | 9 => ⟨S8, .i32⟩
  | 10 => ⟨S_, .i32⟩
  | 11 => ⟨S_, .i32⟩
  | 12 => ⟨S_, .i1⟩
  | 13 => ⟨S_, .i32⟩
  | 14 => ⟨S8, .i32⟩
  | 15 => ⟨S8, .i1⟩
  | 16 => ⟨S8, .i1⟩
  | 17 => ⟨S8, .i1⟩
  | 18 => ⟨S_, .i32⟩
  | 19 => ⟨S_, .i32⟩
  | 20 => ⟨S8, .i32⟩
  | 21 => ⟨S8, .i32⟩
  | 22 => ⟨S8, .i32⟩
  | 23 => ⟨S_, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S8, .i32⟩
  | 31 => ⟨S8, .i1⟩
  | 32 => ⟨S8, .i32⟩
  | 33 => ⟨S_, .i32⟩
  | 34 => ⟨S_, .i32⟩
  | 35 => ⟨S_, .i32⟩
  | 36 => ⟨S_, .i32⟩
  | 37 => ⟨S8, .i32⟩
  | 38 => ⟨S8, .i32⟩
  | 39 => ⟨S_, .i32⟩
  | 40 => ⟨S8, .i32⟩
  | 41 => ⟨S8, .i32⟩
  | 42 => ⟨S8, .i32⟩
  | 43 => ⟨S8, .i32⟩
  | 44 => ⟨S_, .i32⟩
  | 45 => ⟨S8, .i32⟩
  | 46 => ⟨S8, .i1⟩
  | 47 => ⟨S8, .i32⟩
  | 48 => ⟨S_, .i32⟩
  | 49 => ⟨S_, .i32⟩
  | 50 => ⟨S8, .i32⟩
  | 51 => ⟨S8, .i32⟩
  | 52 => ⟨S_, .i32⟩
  | 53 => ⟨S8, .i32⟩
  | 54 => ⟨S8, .i32⟩
  | 55 => ⟨S8, .i32⟩
  | 56 => ⟨S8, .i32⟩
  | 57 => ⟨S_, .i32⟩
  | 58 => ⟨S8, .i32⟩
  | 59 => ⟨S8, .i1⟩
  | 60 => ⟨S8, .i32⟩
  | 61 => ⟨S_, .i32⟩
  | 62 => ⟨S_, .i32⟩
  | 63 => ⟨S8, .i32⟩
  | 64 => ⟨S8, .i32⟩
  | 65 => ⟨S_, .i32⟩
  | 66 => ⟨S8, .i32⟩
  | 67 => ⟨S8, .i32⟩
  | 68 => ⟨S8, .i32⟩
  | 69 => ⟨S8, .i32⟩
  | 70 => ⟨S_, .i32⟩
  | 71 => ⟨S8, .i32⟩
  | 72 => ⟨S8, .i1⟩
  | 73 => ⟨S8, .i32⟩
  | 74 => ⟨S_, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S8, .i32⟩
  | 82 => ⟨S8, .i32⟩
  | 83 => ⟨S_, .i32⟩
  | 84 => ⟨S8, .i32⟩
  | 85 => ⟨S8, .i1⟩
  | 86 => ⟨S8, .i32⟩
  | 87 => ⟨S_, .i32⟩
  | 88 => ⟨S_, .i32⟩
  | 89 => ⟨S8, .i32⟩
  | 90 => ⟨S8, .i32⟩
  | 91 => ⟨S_, .i32⟩
  | 92 => ⟨S8, .i32⟩
  | 93 => ⟨S8, .i32⟩
  | 94 => ⟨S8, .i32⟩
  | 95 => ⟨S8, .i32⟩
  | 96 => ⟨S_, .i32⟩
  | 97 => ⟨S8, .i32⟩
  | 98 => ⟨S8, .i1⟩
  | 99 => ⟨S8, .i32⟩
  | 100 => ⟨S_, .i32⟩
  | 101 => ⟨S_, .i32⟩
  | 102 => ⟨S8, .i32⟩
  | 103 => ⟨S8, .i32⟩
  | 104 => ⟨S_, .i32⟩
  | 105 => ⟨S8, .i32⟩
  | 106 => ⟨S8, .i32⟩
  | 107 => ⟨S8, .f32⟩
  | 108 => ⟨S8x1x1, .f32⟩
  | 109 => ⟨S24x64, .f32⟩
  | 110 => ⟨S24x64, .f32⟩
  | 111 => ⟨S1x24x64, .f32⟩
  | 112 => ⟨S8x24x64, .f32⟩
  | 113 => ⟨S8x24x64, .f32⟩
  | 114 => ⟨S8x24x64, .f32⟩
  | 115 => ⟨S8x24x64, .f32⟩
  | 116 => ⟨S24x64, .f32⟩
  | 117 => ⟨S24x64, .f32⟩
  | 118 => ⟨S1x24x64, .f32⟩
  | 119 => ⟨S8x24x64, .f32⟩
  | 120 => ⟨S8x24x64, .f32⟩
  | 121 => ⟨S8x24x64, .f32⟩
  | 122 => ⟨S8x24x64, .f32⟩
  | 123 => ⟨S8x24x64, .f32⟩
  | 124 => ⟨S24x64, .f32⟩
  | 125 => ⟨S24x64, .f32⟩
  | 126 => ⟨S1x24x64, .f32⟩
  | 127 => ⟨S8x24x64, .f32⟩
  | _ => ⟨S24x1024x512, .bf16⟩

abbrev hbmTy0_1 (i : Nat) : BufTy := match i % 128 with
  | 0 => ⟨S8x24x64, .f32⟩
  | 1 => ⟨S8x24x64, .f32⟩
  | 2 => ⟨S8x24x64, .f32⟩
  | 3 => ⟨S8x24x64, .f32⟩
  | 4 => ⟨S8x24x128, .f32⟩
  | 5 => ⟨S8x24x64, .f32⟩
  | 6 => ⟨S8x24x128, .f32⟩
  | 7 => ⟨S8x24x1x128, .f32⟩
  | 8 => ⟨S8x24x1x128, .f32⟩
  | 9 => ⟨S8x24x2x128, .f32⟩
  | 10 => ⟨S24x8x2x128, .f32⟩
  | 11 => ⟨S24x1024x512, .f32⟩
  | _ => ⟨S24x1024x512, .bf16⟩

abbrev hbmTy (i : Nat) : BufTy := match i / 128 with
  | 0 => hbmTy0_0 i
  | 1 => hbmTy0_1 i
  | _ => ⟨S24x1024x512, .bf16⟩

abbrev bufTy : (tb : Table) → Fin (tcTables nBuf tb) → BufTy
  | .hbm, ⟨i, _⟩ => hbmTy i
  | .local _ .vmem, ⟨0, _⟩ => ⟨S1x1024x512, .bf16⟩
  | .local _ .vmem, ⟨1, _⟩ => ⟨S1x1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x128, .bf16⟩
  | .local _ .vmem, ⟨5, _⟩ => ⟨S1x512x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x8x2x128, .f32⟩
  | .local _ .vmem, ⟨9, _⟩ => ⟨S1x8x2x128, .f32⟩
  | .local _ .vmem, ⟨10, _⟩ => ⟨S1x1024x512, .f32⟩
  | .local _ .vmem, ⟨11, _⟩ => ⟨S1x1024x512, .f32⟩
  | _, _ => ⟨S24x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_c_0 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_c_4 : Ref sig .tc := ⟨.hbm, 23, rfl⟩
abbrev main_v9 : Ref sig .tc := ⟨.hbm, 24, rfl⟩
abbrev main_v10 : Ref sig .tc := ⟨.hbm, 25, rfl⟩
abbrev main_c_5 : Ref sig .tc := ⟨.hbm, 26, rfl⟩
abbrev main_v11 : Ref sig .tc := ⟨.hbm, 27, rfl⟩
abbrev main_v12 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_c_6 : Ref sig .tc := ⟨.hbm, 33, rfl⟩
abbrev main_c_7 : Ref sig .tc := ⟨.hbm, 34, rfl⟩
abbrev main_v14 : Ref sig .tc := ⟨.hbm, 35, rfl⟩
abbrev main_c_8 : Ref sig .tc := ⟨.hbm, 36, rfl⟩
abbrev main_v15 : Ref sig .tc := ⟨.hbm, 37, rfl⟩
abbrev main_v16 : Ref sig .tc := ⟨.hbm, 38, rfl⟩
abbrev main_c_9 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call2_c : Ref sig .tc := ⟨.hbm, 44, rfl⟩
abbrev main_call2_v0 : Ref sig .tc := ⟨.hbm, 45, rfl⟩
abbrev main_call2_v1 : Ref sig .tc := ⟨.hbm, 46, rfl⟩
abbrev main_v21 : Ref sig .tc := ⟨.hbm, 47, rfl⟩
abbrev main_v22 : Ref sig .tc := ⟨.hbm, 48, rfl⟩
abbrev main_c_10 : Ref sig .tc := ⟨.hbm, 49, rfl⟩
abbrev main_v23 : Ref sig .tc := ⟨.hbm, 50, rfl⟩
abbrev main_v24 : Ref sig .tc := ⟨.hbm, 51, rfl⟩
abbrev main_c_11 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_v29 : Ref sig .tc := ⟨.hbm, 60, rfl⟩
abbrev main_v30 : Ref sig .tc := ⟨.hbm, 61, rfl⟩
abbrev main_c_12 : Ref sig .tc := ⟨.hbm, 62, rfl⟩
abbrev main_v31 : Ref sig .tc := ⟨.hbm, 63, rfl⟩
abbrev main_v32 : Ref sig .tc := ⟨.hbm, 64, rfl⟩
abbrev main_c_13 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_v37 : Ref sig .tc := ⟨.hbm, 73, rfl⟩
abbrev main_v38 : Ref sig .tc := ⟨.hbm, 74, rfl⟩
abbrev main_c_14 : Ref sig .tc := ⟨.hbm, 75, rfl⟩
abbrev main_v39 : Ref sig .tc := ⟨.hbm, 76, rfl⟩
abbrev main_v40 : Ref sig .tc := ⟨.hbm, 77, rfl⟩
abbrev main_c_15 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_v45 : Ref sig .tc := ⟨.hbm, 86, rfl⟩
abbrev main_v46 : Ref sig .tc := ⟨.hbm, 87, rfl⟩
abbrev main_c_16 : Ref sig .tc := ⟨.hbm, 88, rfl⟩
abbrev main_v47 : Ref sig .tc := ⟨.hbm, 89, rfl⟩
abbrev main_v48 : Ref sig .tc := ⟨.hbm, 90, rfl⟩
abbrev main_c_17 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_call6_c : Ref sig .tc := ⟨.hbm, 96, rfl⟩
abbrev main_call6_v0 : Ref sig .tc := ⟨.hbm, 97, rfl⟩
abbrev main_call6_v1 : Ref sig .tc := ⟨.hbm, 98, rfl⟩
abbrev main_v53 : Ref sig .tc := ⟨.hbm, 99, rfl⟩
abbrev main_v54 : Ref sig .tc := ⟨.hbm, 100, rfl⟩
abbrev main_c_18 : Ref sig .tc := ⟨.hbm, 101, rfl⟩
abbrev main_v55 : Ref sig .tc := ⟨.hbm, 102, rfl⟩
abbrev main_v56 : Ref sig .tc := ⟨.hbm, 103, rfl⟩
abbrev main_c_19 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S24x1024x512 : Shape := ⟨3, ![24, 1024, 512]⟩
abbrev S24x512x512 : Shape := ⟨3, ![24, 512, 512]⟩
abbrev S24x512x128 : Shape := ⟨3, ![24, 512, 128]⟩
abbrev S24x128x512 : Shape := ⟨3, ![24, 128, 512]⟩
abbrev S24x64 : Shape := ⟨2, ![24, 64]⟩
abbrev S24 : Shape := ⟨1, ![24]⟩
abbrev S24x4x256x512 : Shape := ⟨4, ![24, 4, 256, 512]⟩
abbrev S24x4x256x128 : Shape := ⟨4, ![24, 4, 256, 128]⟩
abbrev S24x4x256x64 : Shape := ⟨4, ![24, 4, 256, 64]⟩
abbrev S24x1 : Shape := ⟨2, ![24, 1]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S24x64x1x1 : Shape := ⟨4, ![24, 64, 1, 1]⟩
abbrev S1x1x256x256 : Shape := ⟨4, ![1, 1, 256, 256]⟩
abbrev S24x64x256x256 : Shape := ⟨4, ![24, 64, 256, 256]⟩
abbrev S24x64x4x256 : Shape := ⟨4, ![24, 64, 4, 256]⟩

abbrev nBuf : Space → Nat
  | .hbm => 80
  | .vmem => 0
  | .smem => 0
  | _ => 0

abbrev bufTy : (tb : Table) → Fin (tcTables nBuf tb) → BufTy
  | .hbm, ⟨0, _⟩ => ⟨S24x1024x512, .bf16⟩
  | .hbm, ⟨1, _⟩ => ⟨S24x512x512, .bf16⟩
  | .hbm, ⟨2, _⟩ => ⟨S24x512x128, .bf16⟩
  | .hbm, ⟨3, _⟩ => ⟨S24x128x512, .bf16⟩
  | .hbm, ⟨4, _⟩ => ⟨S24x64, .f32⟩
  | .hbm, ⟨5, _⟩ => ⟨S24x64, .f32⟩
  | .hbm, ⟨6, _⟩ => ⟨S24, .f32⟩
  | .hbm, ⟨7, _⟩ => ⟨S24x1024x512, .f32⟩
  | .hbm, ⟨8, _⟩ => ⟨S24x4x256x512, .f32⟩
  | .hbm, ⟨9, _⟩ => ⟨S24x512x128, .f32⟩
  | .hbm, ⟨10, _⟩ => ⟨S24x4x256x128, .f32⟩
  | .hbm, ⟨11, _⟩ => ⟨S24x4x256x64, .f32⟩
  | .hbm, ⟨12, _⟩ => ⟨S24x4x256x64, .f32⟩
  | .hbm, ⟨13, _⟩ => ⟨S24, .f32⟩
  | .hbm, ⟨14, _⟩ => ⟨S24x1, .f32⟩
  | .hbm, ⟨15, _⟩ => ⟨S256, .i32⟩
  | .hbm, ⟨16, _⟩ => ⟨S256x1, .i32⟩
  | .hbm, ⟨17, _⟩ => ⟨S_, .i32⟩
  | .hbm, ⟨18, _⟩ => ⟨S256x1, .i32⟩
  | .hbm, ⟨19, _⟩ => ⟨S256x1, .i32⟩
  | .hbm, ⟨20, _⟩ => ⟨S1x256, .i32⟩
  | .hbm, ⟨21, _⟩ => ⟨S256x256, .i32⟩
  | .hbm, ⟨22, _⟩ => ⟨S256x256, .i32⟩
  | .hbm, ⟨23, _⟩ => ⟨S256x256, .i32⟩
  | .hbm, ⟨24, _⟩ => ⟨S_, .i32⟩
  | .hbm, ⟨25, _⟩ => ⟨S256x256, .i32⟩
  | .hbm, ⟨26, _⟩ => ⟨S256x256, .i32⟩
  | .hbm, ⟨27, _⟩ => ⟨S256x256, .f32⟩
  | .hbm, ⟨28, _⟩ => ⟨S24x64, .f32⟩
  | .hbm, ⟨29, _⟩ => ⟨S24x64, .f32⟩
  | .hbm, ⟨30, _⟩ => ⟨S24x64x1x1, .f32⟩
  | .hbm, ⟨31, _⟩ => ⟨S1x1x256x256, .f32⟩
  | .hbm, ⟨32, _⟩ => ⟨S24x64x256x256, .f32⟩
  | .hbm, ⟨33, _⟩ => ⟨S24x64x256x256, .f32⟩
  | .hbm, ⟨34, _⟩ => ⟨S24x64x256x256, .f32⟩
  | .hbm, ⟨35, _⟩ => ⟨S24x64x256x256, .f32⟩
  | .hbm, ⟨36, _⟩ => ⟨S24x64, .f32⟩
  | .hbm, ⟨37, _⟩ => ⟨S24x64, .f32⟩
  | .hbm, ⟨38, _⟩ => ⟨S24x64x1x1, .f32⟩
  | .hbm, ⟨39, _⟩ => ⟨S1x1x256x256, .f32⟩
  | .hbm, ⟨40, _⟩ => ⟨S24x64x256x256, .f32⟩
  | .hbm, ⟨41, _⟩ => ⟨S24x64x256x256, .f32⟩
  | .hbm, ⟨42, _⟩ => ⟨S24x64x256x256, .f32⟩
  | .hbm, ⟨43, _⟩ => ⟨S_, .i32⟩
  | .hbm, ⟨44, _⟩ => ⟨S256x256, .i32⟩
  | .hbm, ⟨45, _⟩ => ⟨S256x256, .i1⟩
  | .hbm, ⟨46, _⟩ => ⟨S24x64x256x256, .f32⟩
  | .hbm, ⟨47, _⟩ => ⟨S24x64x256x256, .f32⟩
  | .hbm, ⟨48, _⟩ => ⟨S_, .f32⟩
  | .hbm, ⟨49, _⟩ => ⟨S_, .f32⟩
  | .hbm, ⟨50, _⟩ => ⟨S24x64x256x256, .i1⟩
  | .hbm, ⟨51, _⟩ => ⟨S24x64x256x256, .f32⟩
  | .hbm, ⟨52, _⟩ => ⟨S24x64x256x256, .f32⟩
  | .hbm, ⟨53, _⟩ => ⟨S_, .i32⟩
  | .hbm, ⟨54, _⟩ => ⟨S256x256, .i32⟩
  | .hbm, ⟨55, _⟩ => ⟨S256x256, .i1⟩
  | .hbm, ⟨56, _⟩ => ⟨S24x64x256x256, .f32⟩
  | .hbm, ⟨57, _⟩ => ⟨S24x64x256x256, .f32⟩
  | .hbm, ⟨58, _⟩ => ⟨S_, .f32⟩
  | .hbm, ⟨59, _⟩ => ⟨S_, .f32⟩
  | .hbm, ⟨60, _⟩ => ⟨S24x64x256x256, .i1⟩
  | .hbm, ⟨61, _⟩ => ⟨S24x64x256x256, .f32⟩
  | .hbm, ⟨62, _⟩ => ⟨S24x64x256x256, .f32⟩
  | .hbm, ⟨63, _⟩ => ⟨S24x64x4x256, .f32⟩
  | .hbm, ⟨64, _⟩ => ⟨S24x4x256x64, .f32⟩
  | .hbm, ⟨65, _⟩ => ⟨S24x64x4x256, .f32⟩
  | .hbm, ⟨66, _⟩ => ⟨S24x4x256x64, .f32⟩
  | .hbm, ⟨67, _⟩ => ⟨S24x4x256x64, .f32⟩
  | .hbm, ⟨68, _⟩ => ⟨S24x64x4x256, .f32⟩
  | .hbm, ⟨69, _⟩ => ⟨S24x4x256x64, .f32⟩
  | .hbm, ⟨70, _⟩ => ⟨S24x64x4x256, .f32⟩
  | .hbm, ⟨71, _⟩ => ⟨S24x4x256x64, .f32⟩
  | .hbm, ⟨72, _⟩ => ⟨S24x4x256x64, .f32⟩
  | .hbm, ⟨73, _⟩ => ⟨S24x4x256x128, .f32⟩
  | .hbm, ⟨74, _⟩ => ⟨S24x512x512, .f32⟩
  | .hbm, ⟨75, _⟩ => ⟨S24x4x256x512, .f32⟩
  | .hbm, ⟨76, _⟩ => ⟨S24x128x512, .f32⟩
  | .hbm, ⟨77, _⟩ => ⟨S24x4x256x512, .f32⟩
  | .hbm, ⟨78, _⟩ => ⟨S24x4x256x512, .f32⟩
  | .hbm, ⟨79, _⟩ => ⟨S24x1024x512, .f32⟩
  | _, _ => ⟨S24x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v38 : Ref sig .tc := ⟨.hbm, 52, rfl⟩
abbrev main_c_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Proof.Online.lean ====
/- The streaming softmax over the extended reals: a running maximum and a running weighted sum that is rescaled
   whenever the maximum moves hold, after any number of blocks, the maximum of the scores so far and the sum of the
   values weighted by the exponentials of the scores less that maximum. -/
module

public import Idealize.ShloMosaic.PureOps.Ideal

@[expose] public section

noncomputable section

namespace Cert.Attn

open Idealize.ShloMosaic

/-- Exponentials over the extended reals are not negative. -/
theorem exp_nonneg (x : EReal) : 0 ≤ Ideal.exp x := by
  induction x with
  | bot => simp
  | top => simp
  | coe r => rw [Ideal.exp_coe]; exact_mod_cast (Real.exp_pos r).le

/-- The exponential of anything but `⊤` is finite. -/
theorem exp_ne_top {x : EReal} (h : x ≠ ⊤) : Ideal.exp x ≠ ⊤ := by
  induction x with
  | bot => simp
  | top => exact absurd rfl h
  | coe r => rw [Ideal.exp_coe]; exact EReal.coe_ne_top _

/-- A number less a number above it is not `⊤`. -/
theorem sub_ne_top_of_le {a b : EReal} (h : a ≤ b) : a - b ≠ ⊤ := by
  induction b with
  | bot => rw [le_bot_iff] at h; subst h; simp
  | top => rw [EReal.sub_top]; simp
  | coe r =>
    induction a with
    | bot => simp
    | top => exact absurd (top_le_iff.mp h) (EReal.coe_ne_top r)
    | coe q => rw [← EReal.coe_sub]; exact EReal.coe_ne_top _

/-- Moving the reference point of a weight from `b` up to `c`. -/
theorem exp_sub_mul_exp_sub {a b c : EReal} (hab : a ≤ b) (hbc : b ≤ c) :
    Ideal.exp (a - b) * Ideal.exp (b - c) = Ideal.exp (a - c) := by
  induction c with
  | top => simp
  | bot =>
    obtain rfl : b = ⊥ := le_bot_iff.mp hbc
    obtain rfl : a = ⊥ := le_bot_iff.mp hab
    simp
  | coe c =>
    induction b with
    | top => exact absurd (top_le_iff.mp hbc) (EReal.coe_ne_top c)
    | bot =>
      obtain rfl : a = ⊥ := le_bot_iff.mp hab
      simp
    | coe b =>
      induction a with
      | top => exact absurd (top_le_iff.mp hab) (EReal.coe_ne_top b)
      | bot => simp
      | coe a =>
        rw [← EReal.coe_sub, ← EReal.coe_sub, ← EReal.coe_sub, Ideal.exp_coe, Ideal.exp_coe, Ideal.exp_coe,
          ← EReal.coe_mul, ← Real.exp_add]
        congr 2; ring

/-- A finite factor that is not negative goes into a sum of extended reals. -/
theorem sum_mul_of_nonneg {ι : Type*} (s : Finset ι) (f : ι → EReal) {x : EReal} (h0 : 0 ≤ x) (ht : x ≠ ⊤) :
    (∑ i ∈ s, f i) * x = ∑ i ∈ s, f i * x := by
  classical
  induction s using Finset.induction_on with
  | empty => simp
  | insert a s ha ih =>
    rw [Finset.sum_insert ha, Finset.sum_insert ha, EReal.right_distrib_of_nonneg_of_ne_top h0 ht, ih]

/-- The greatest of the first `n` scores (`⊥` of none). -/
def top (s : ℕ → EReal) (n : ℕ) : EReal := (Finset.range n).sup s

/-- The first `n` values, each weighted by the exponential of its score less the greatest score. -/
def acc (s v : ℕ → EReal) (n : ℕ) : EReal := ∑ c ∈ Finset.range n, Ideal.exp (s c - top s n) * v c

theorem top_zero (s : ℕ → EReal) : top s 0 = ⊥ := by simp [top]

theorem acc_zero (s v : ℕ → EReal) : acc s v 0 = 0 := by simp [acc]

theorem le_top (s : ℕ → EReal) {n c : ℕ} (h : c < n) : s c ≤ top s n :=
  Finset.le_sup (f := s) (Finset.mem_range.mpr h)

theorem top_mono (s : ℕ → EReal) {n k : ℕ} (h : n ≤ k) : top s n ≤ top s k :=
  Finset.sup_mono (Finset.range_mono h)

/-- The maximum over a block, as the fold a reduction computes, is the supremum over the block. -/
theorem fold_max_eq_sup {ι : Type*} (t : Finset ι) (f : ι → EReal) : t.fold max ⊥ f = t.sup f := rfl

/-- The running maximum takes one more block of `T` scores. -/
theorem top_add (s : ℕ → EReal) (n T : ℕ) :
    top s (n + T) = max (top s n) (Finset.univ.fold max ⊥ fun j : Fin T => s (n + j.val)) := by
  rw [fold_max_eq_sup]
  apply le_antisymm
  · refine Finset.sup_le fun c hc => ?_
    rw [Finset.mem_range] at hc
    by_cases h : c < n
    · exact le_max_of_le_left (le_top s h)
    · refine le_max_of_le_right ?_
      have := Finset.le_sup (f := fun j : Fin T => s (n + j.val)) (Finset.mem_univ ⟨c - n, by omega⟩)
      rwa [show n + (c - n) = c by omega] at this
  · refine max_le (top_mono s (Nat.le_add_right n T)) (Finset.sup_le fun j _ => le_top s (by omega))

/-- The running sum takes one more block: what it holds is rescaled to the new maximum and the block is added. -/
theorem acc_add (s v : ℕ → EReal) (n T : ℕ) :
    acc s v (n + T) = acc s v n * Ideal.exp (top s n - top s (n + T))
      + ∑ j : Fin T, Ideal.exp (s (n + j.val) - top s (n + T)) * v (n + j.val) := by
  have hle : top s n ≤ top s (n + T) := top_mono s (Nat.le_add_right n T)
  unfold acc
  rw [Finset.sum_range_add, sum_mul_of_nonneg _ _ (exp_nonneg _) (exp_ne_top (sub_ne_top_of_le hle)),
    Finset.sum_range fun x => Ideal.exp (s (n + x) - top s (n + T)) * v (n + x)]
  congr 1
  refine Finset.sum_congr rfl fun c hc => ?_
  rw [mul_right_comm, exp_sub_mul_exp_sub (le_top s (Finset.mem_range.mp hc)) hle]

/-- Scores of `⊥` past position `n` change nothing: neither the maximum … -/
theorem top_of_bot (s : ℕ → EReal) {n N : ℕ} (h : n ≤ N) (hb : ∀ c, n ≤ c → s c = ⊥) : top s N = top s n := by
  refine le_antisymm (Finset.sup_le fun c _ => ?_) (top_mono s h)
  by_cases hc : c < n
  · exact le_top s hc
  · rw [hb c (by omega)]; exact bot_le

/-- … nor the sum. -/
theorem acc_of_bot (s v : ℕ → EReal) {n N : ℕ} (h : n ≤ N) (hb : ∀ c, n ≤ c → s c = ⊥) : acc s v N = acc s v n := by
  unfold acc
  rw [top_of_bot s h hb]
  obtain ⟨T, rfl⟩ := Nat.exists_eq_add_of_le h
  rw [Finset.sum_range_add, Finset.sum_eq_zero (s := Finset.range T), add_zero]
  intro c _
  rw [hb (n + c) (Nat.le_add_right n c)]
  simp

/-- The weights' sum is a positive real as soon as no score is `⊤` and one is above `⊥`. -/
theorem acc_one (s : ℕ → EReal) (n : ℕ) (ht : ∀ c, s c ≠ ⊤) (hb : ∃ c < n, s c ≠ ⊥) :
    ∃ l : ℝ, 0 < l ∧ acc s (fun _ => 1) n = (l : EReal) := by
  obtain ⟨c₀, hc₀, hs₀⟩ := hb
  have hne : (Finset.range n).Nonempty := ⟨c₀, Finset.mem_range.mpr hc₀⟩
  obtain ⟨c₁, hc₁, h₁⟩ := Finset.exists_mem_eq_sup (Finset.range n) hne s
  have h₁ : top s n = s c₁ := h₁
  have hreal : ∃ r : ℝ, top s n = (r : EReal) := by
    have h2 : top s n ≠ ⊤ := by rw [h₁]; exact ht c₁
    have h3 : top s n ≠ ⊥ := fun hh => hs₀ (le_bot_iff.mp (hh ▸ le_top s hc₀))
    exact ⟨(top s n).toReal, (EReal.coe_toReal h2 h3).symm⟩
  obtain ⟨r, hr⟩ := hreal
  have hterm : ∀ c, ∃ p : ℝ, 0 ≤ p ∧ Ideal.exp (s c - top s n) * 1 = (p : EReal) := by
    intro c
    rw [hr]
    rcases hsc : s c with _ | _ | q
    · exact ⟨0, le_rfl, by show Ideal.exp (⊥ - _) * 1 = _; simp⟩
    · exact absurd hsc (ht c)
    · refine ⟨Real.exp (q - r), (Real.exp_pos _).le, ?_⟩
      show Ideal.exp ((q : EReal) - (r : EReal)) * 1 = _
      rw [← EReal.coe_sub, Ideal.exp_coe, mul_one]
  choose p hp hpe using hterm
  refine ⟨∑ c ∈ Finset.range n, p c, ?_, ?_⟩
  · refine Finset.sum_pos' (fun c _ => hp c) ⟨c₁, hc₁, ?_⟩
    have h := hpe c₁
    rw [h₁, ← h₁, hr, ← EReal.coe_sub, sub_self, Ideal.exp_coe, Real.exp_zero, mul_one] at h
    have h : (1 : ℝ) = p c₁ := by exact_mod_cast h
    rw [← h]; exact one_pos
  · unfold acc
    rw [Finset.sum_congr rfl fun c _ => hpe c]
    exact (map_sum (⟨⟨Real.toEReal, EReal.coe_zero⟩, EReal.coe_add⟩ : ℝ →+ EReal) p _).symm

/-- Dividing the weighted sum by the weights' sum, or each weight first: one value. -/
theorem softmax_eq (s v : ℕ → EReal) (n : ℕ) (ht : ∀ c, s c ≠ ⊤) (hb : ∃ c < n, s c ≠ ⊥) :
    Ideal.div (acc s v n) (acc s (fun _ => 1) n)
      = ∑ c ∈ Finset.range n, Ideal.div (Ideal.exp (s c - top s n)) (acc s (fun _ => 1) n) * v c := by
  obtain ⟨l, hl, hacc⟩ := acc_one s n ht hb
  rw [hacc, Ideal.div_coe hl.ne']
  have h0 : (0 : EReal) ≤ ((1 / l : ℝ) : EReal) := by exact_mod_cast (one_div_pos.mpr hl).le
  conv_lhs => unfold acc
  rw [sum_mul_of_nonneg _ _ h0 (EReal.coe_ne_top _)]
  refine Finset.sum_congr rfl fun c _ => ?_
  rw [Ideal.div_coe hl.ne', mul_right_comm]

end Cert.Attn

end
-- ==== Proof.Pay.lean ====
/- What each value the attention kernel stores is at an index: the running maximum, the running weighted sum, and the
   quotient at the end, for the blocks before the diagonal and for the diagonal block with its mask. -/
module

public import proofs.«01_k».proof.Proof.Gen.KernelIdeal.Value
public import proofs.«01_k».proof.Proof.Online
public import Idealize.ShloMosaic.Lib.Exec
public import Idealize.ShloMosaic.Lib.Tactic
public import Idealize.ShloMosaic.Lib.Pointwise
public import Idealize.ShloMosaic.Lib.Tactic.WordOmega

@[expose] public section

set_option maxRecDepth 16384

noncomputable section

namespace Cert.KernelIdeal.Attn

open Cert.KernelIdeal Cert.KernelIdeal.Gen Idealize.ShloMosaic Idealize.ShloMosaic.Tactic Idealize.SL.Sem

/-- The word the kernel starts its maxima at reads as `⊥`. -/
theorem ofBits_negInf : Ideal.ofBits .f32 0xFF800000#32 = ⊥ := by simp [Ideal.ofBits, Ideal.ieee]

/-- The score of query row `r` against key row `c`: their product summed over the lanes. -/
def score (q k : Vec Ideal S1x512x128 .bf16) (r c : Fin 512) : EReal := ∑ d : Fin 128, q (ix3 0 r d) * k (ix3 0 c d)

/-- A row of scores with everything past position `r` masked. -/
def masked (r : Fin 512) (s : Fin 512 → EReal) (c : Fin 512) : EReal := if c ≤ r then s c else ⊥

/-- The running maximum after a block of scores. -/
def stepMax (s : Fin 512 → EReal) (m : EReal) : EReal := max m (Finset.univ.fold max ⊥ s)

/-- The running weighted sum after a block of scores and values. -/
def stepAcc (s v : Fin 512 → EReal) (m a : EReal) : EReal :=
  a * Ideal.exp (m - stepMax s m) + ∑ c, Ideal.exp (s c - stepMax s m) * v c

section Head0

variable (k v q : Vec Ideal S1x512x128 .bf16) (m : Vec Ideal S1x512x1 .f32) (a : Vec Ideal S1x512x128 .f32)
  (r : Fin 512) (d : Fin 128)

theorem pay2_apply (c : Fin 512) : k0_pay2 k q (ix2 r c) = score q k r c := by
  pointwise [k0_pay2]
  rfl

theorem pay3_apply : k0_pay3 m (ix2 r 0) = m (ix3 0 r 0) := by
  pointwise [k0_pay3]

theorem pay4_apply : k0_pay4 k q m (ix2 r 0) = stepMax (score q k r) (m (ix3 0 r 0)) := by
  pointwise [k0_pay4]
  rw [ofBits_negInf, pay3_apply]
  simp only [pay2_apply]
  rfl

theorem pay6_apply : k0_pay6 k q m (ix3 0 r 0) = stepMax (score q k r) (m (ix3 0 r 0)) := by
  pointwise [k0_pay6]
  exact pay4_apply k q m r

theorem pay5_apply : k0_pay5 k v q m a (ix3 0 r d)
    = stepAcc (score q k r) (fun c => v (ix3 0 c d)) (m (ix3 0 r 0)) (a (ix3 0 r d)) := by
  pointwise [k0_pay5]
  simp only [pay2_apply, pay3_apply, pay4_apply]
  rfl

end Head0

section Head1

variable (k v q : Vec Ideal S1x512x128 .bf16) (m : Vec Ideal S1x512x1 .f32) (a : Vec Ideal S1x512x128 .f32)
  (r : Fin 512) (d : Fin 128)

theorem pay14_apply (c : Fin 512) : k0_pay14 k q (ix2 r c) = score q k r c := by
  pointwise [k0_pay14]
  rfl

theorem pay15_apply : k0_pay15 m (ix2 r 0) = m (ix3 0 r 0) := by
  pointwise [k0_pay15]

theorem pay16_apply : k0_pay16 k q m (ix2 r 0) = stepMax (score q k r) (m (ix3 0 r 0)) := by
  pointwise [k0_pay16]
  rw [ofBits_negInf, pay15_apply]
  simp only [pay14_apply]
  rfl

theorem pay18_apply : k0_pay18 k q m (ix3 0 r 0) = stepMax (score q k r) (m (ix3 0 r 0)) := by
  pointwise [k0_pay18]
  exact pay16_apply k q m r

theorem pay17_apply : k0_pay17 k v q m a (ix3 0 r d)
    = stepAcc (score q k r) (fun c => v (ix3 0 c d)) (m (ix3 0 r 0)) (a (ix3 0 r d)) := by
  pointwise [k0_pay17]
  simp only [pay14_apply, pay15_apply, pay16_apply]
  rfl

end Head1

/-- The mask's comparison, on the words the kernel compares. -/
theorem select_sle (c r : Fin 512) (x y : EReal) :
    Scalar.select (IntOp.cmpi CmpIPredicate.sle (IntOp.addi (BitVec.ofNat 32 c.val) 0#32) (BitVec.ofNat 32 r.val)) x y
      = if c ≤ r then x else y := by
  have hc := c.isLt
  have hr := r.isLt
  have h : IntOp.cmpi CmpIPredicate.sle (IntOp.addi (BitVec.ofNat 32 c.val) 0#32) (BitVec.ofNat 32 r.val) = 1 ↔ c ≤ r := by
    rw [Fin.le_def]
    word_omega
  unfold Scalar.select
  simp only [h]

section Diagonal

variable (k v q : Vec Ideal S1x512x128 .bf16) (m : Vec Ideal S1x512x1 .f32) (a : Vec Ideal S1x512x128 .f32)
  (r : Fin 512) (d : Fin 128)

/-- The row numbers the mask compares with. -/
abbrev rows : IVec S512x512 32 := iota .tc S512x512 32 [0] iota_S512x512_d0_w32

theorem pay26_apply (c : Fin 512) : k0_pay26 (k0_pay25 k q) rows (ix2 r c) = masked r (score q k r) c := by
  pointwise [k0_pay26, k0_pay25, rows]
  rw [ofBits_negInf, select_sle]
  rfl

theorem pay27_apply : k0_pay27 m (ix2 r 0) = m (ix3 0 r 0) := by
  pointwise [k0_pay27]

theorem pay28_apply : k0_pay28 (k0_pay25 k q) rows m (ix2 r 0) = stepMax (masked r (score q k r)) (m (ix3 0 r 0)) := by
  pointwise [k0_pay28]
  rw [ofBits_negInf, pay27_apply]
  simp only [pay26_apply]
  rfl

theorem pay30_apply : k0_pay30 (k0_pay25 k q) rows m (ix3 0 r 0) = stepMax (masked r (score q k r)) (m (ix3 0 r 0)) := by
  pointwise [k0_pay30]
  exact pay28_apply k q m r

theorem pay29_apply : k0_pay29 (k0_pay24 v) (k0_pay25 k q) rows m a (ix3 0 r d)
    = stepAcc (masked r (score q k r)) (fun c => v (ix3 0 c d)) (m (ix3 0 r 0)) (a (ix3 0 r d)) := by
  pointwise [k0_pay29, k0_pay24]
  simp only [pay26_apply, pay27_apply, pay28_apply]
  rfl

theorem pay33_apply (c : Fin 512) : k0_pay33 (k0_pay31 k) q (ix2 r c) = masked r (score q k r) c := by
  pointwise [k0_pay33, k0_pay31]
  rw [ofBits_negInf, select_sle]
  rfl

theorem pay34_apply : k0_pay34 m (ix2 r 0) = m (ix3 0 r 0) := by
  pointwise [k0_pay34]

theorem pay35_apply : k0_pay35 (k0_pay31 k) q m (ix2 r 0) = stepMax (masked r (score q k r)) (m (ix3 0 r 0)) := by
  pointwise [k0_pay35]
  rw [ofBits_negInf, pay34_apply]
  simp only [pay33_apply]
  rfl

theorem pay37_apply : k0_pay37 (k0_pay31 k) q m (ix3 0 r 0) = stepMax (masked r (score q k r)) (m (ix3 0 r 0)) := by
  pointwise [k0_pay37]
  exact pay35_apply k q m r

theorem pay36_apply : k0_pay36 (k0_pay31 k) (k0_pay32 v) q m a (ix3 0 r d)
    = stepAcc (masked r (score q k r)) (fun c => v (ix3 0 c d)) (m (ix3 0 r 0)) (a (ix3 0 r d)) := by
  pointwise [k0_pay36, k0_pay32]
  simp only [pay33_apply, pay34_apply, pay35_apply]
  rfl

end Diagonal

theorem pay12_apply (j : S2x512x1.Idx) : k0_pay12 (F := Ideal) j = ⊥ := by
  pointwise [k0_pay12]
  exact ofBits_negInf

theorem pay13_apply (j : S2x512x128.Idx) : k0_pay13 (F := Ideal) j = 0 := by
  pointwise [k0_pay13]

/-- The quotients the kernel ends in: the first head's in lanes 0 to 63, the second's in lanes 64 to 127. -/
theorem pay1_apply (a0 a1 : Vec Ideal S1x512x128 .f32) (r : Fin 512) (c : Fin 128) :
    k0_pay1 (k0_pay39 a0) (k0_pay40 a0) a1 (ix2 r c)
      = if h : c.val < 64 then Ideal.div (a0 (ix3 0 r c)) (a0 (ix3 0 r 64))
        else Ideal.div (a1 (ix3 0 r ⟨c.val - 64, by omega⟩)) (a1 (ix3 0 r 64)) := by
  pointwise [k0_pay1, k0_pay39, k0_pay40, k0_pay38]

end Cert.KernelIdeal.Attn

end
-- ==== Proof.Loop.lean ====
/- The loop over the key blocks before the diagonal: what its two scratch buffers, the running maxima and the running
   weighted sums, hold after any number of trips. -/
module

public import proofs.«01_k».proof.Proof.Pay
public import Idealize.ShloMosaic.Lib.WritesUnit
public import Idealize.ShloMosaic.Lib.WholeRead

@[expose] public section

set_option maxRecDepth 16384

noncomputable section

namespace Cert.KernelIdeal.Attn

open Cert.KernelIdeal Cert.KernelIdeal.Gen Idealize.ShloMosaic Idealize.ShloMosaic.Tactic Idealize.SL.Sem
open Idealize.ShloMosaic.TcCoe

/-- A load through a unit rectangle, at an index: the contents at the rectangle's offset plus that index. -/
theorem readAt_unit {sig : RefSig} {κ : Kind} {sp : Space} {s : Shape} {e : EltTy} {Val : EltTy → Type}
    (v : View sig κ sp s e) (f : v.ty.Contents Val) {off size : Fin s.rank → ℕ} (inb : ∀ a, off a + size a ≤ s.size a)
    (x : (Rect.unit off size inb).shape.Idx) (y : s.Idx) (h : ∀ a, (y a).val = off a + (x a).val) :
    v.readAt Val (Rect.unit off size inb).toLoadRect f x = v.read Val f y := by
  rw [View.readAt_apply]
  refine congrArg _ (funext fun a => Fin.ext ?_)
  show off a + 1 * (x a).val = (y a).val
  rw [h a, Nat.one_mul]

/-- The same of a whole buffer that holds a given array. -/
theorem readAt_unit_unread {sig : RefSig} {κ : Kind} {sp : Space} {s : Shape} {e : EltTy} {Val : EltTy → Type}
    {m : Memref sig κ sp s e} (hm : m.IsWhole) (X : s.Idx → Val e) {off size : Fin s.rank → ℕ}
    (inb : ∀ a, off a + size a ≤ s.size a) (x : (Rect.unit off size inb).shape.Idx) (y : s.Idx)
    (h : ∀ a, (y a).val = off a + (x a).val) :
    m.view.readAt Val (Rect.unit off size inb).toLoadRect (hm.unread X) x = X y := by
  rw [readAt_unit m.view _ inb x y h]
  exact congrFun (hm.read_unread X) y

/-- Query row `r` of head `h` against key `c`, unmasked. -/
def raw (x0 : S2x512x128.Idx → EReal) (x1 : S2x8192x128.Idx → EReal) (h : Fin 2) (r : Fin 512) (c : ℕ) : EReal :=
  ∑ d : Fin 128, x0 (ix3 h r d) * x1 (ix3 h (Fin.ofNat 8192 c) d)

/-- Lane `d` of value row `c` of head `h`. -/
def val (x2 : S2x8192x128.Idx → EReal) (h : Fin 2) (d : Fin 128) (c : ℕ) : EReal := x2 (ix3 h (Fin.ofNat 8192 c) d)

/-- The loop has as many trips as there are blocks before the diagonal. -/
theorem trips_t1 (i : grid0.Coords) : (k0_t1_loop i).trips = (i 2).val := by
  have h : ∀ j : Fin 16, Scf.trips (0#32) (Scalar.addi 0#32 (Scalar.muli (Scalar.divsi (Scalar.subi
      (Scalar.muli (BitVec.ofNat 32 j.val) 1#32) 0#32) 1#32) 1#32)) 1#32 = j.val := by decide
  exact h (i 2)

/-- The loop over a remainder has none. -/
theorem trips_t2 (i : grid0.Coords) : (k0_t2_loop i).trips = 0 := by
  have h : ∀ j : Fin 16, Scf.trips (Scalar.addi 0#32 (Scalar.muli (Scalar.divsi (Scalar.subi
      (Scalar.muli (BitVec.ofNat 32 j.val) 1#32) 0#32) 1#32) 1#32)) (Scalar.addi 0#32 (Scalar.subi
      (Scalar.muli (BitVec.ofNat 32 j.val) 1#32) 0#32)) 1#32 = 0 := by decide
  exact h (i 2)

/-- The first key of block `k`, as the kernel computes it. -/
theorem offset_t1 {k : ℕ} (hk : k < 16) :
    (Scalar.indexCast (Scalar.muli (Scf.iv (0#32) 1#32 k) 512#32) : BitVec 32).toNat = 512 * k := by
  have h : ∀ j : Fin 16, (Scalar.indexCast (Scalar.muli (Scf.iv (0#32) 1#32 j.val) 512#32) : BitVec 32).toNat
      = 512 * j.val := by decide
  exact h ⟨k, hk⟩

/-- The first key of the diagonal block, as the kernel computes it. -/
theorem offset_diag (i : grid0.Coords) :
    (Scalar.indexCast (Scalar.muli (Scalar.addi (Scalar.muli (BitVec.ofNat 32 (i 2).val) 1#32) 0#32) 512#32) : BitVec 32).toNat
      = 512 * (i 2).val := by
  have h : ∀ j : Fin 16, (Scalar.indexCast (Scalar.muli (Scalar.addi (Scalar.muli (BitVec.ofNat 32 j.val) 1#32) 0#32) 512#32) : BitVec 32).toNat
      = 512 * j.val := by decide
  exact h (i 2)

/-- Where row `c`, lane `d` of a 512-row load of head `h` from row `n` sits in the array. -/
theorem coords_kv (h : Fin 2) (hv : ℕ) (hh : hv = h.val) {n N : ℕ} (hN : N = n) (hn : n + 512 ≤ 8192) (c : Fin 512) (d : Fin 128) (a : Fin 3) :
    ((ix3 h (Fin.ofNat 8192 (n + c.val)) d : S2x8192x128.Idx) a).val
      = (![hv, N, 0] : Fin 3 → ℕ) a + ((ix3 0 c d : S1x512x128.Idx) a).val := by
  subst hh hN
  have hc := c.isLt
  fin_cases a
  · show h.val = h.val + 0; rfl
  · show (N + c.val) % 8192 = N + c.val
    exact Nat.mod_eq_of_lt (by omega)
  · show d.val = 0 + d.val; omega

/-- Where an entry of a load of all rows of head `h` sits in the array. -/
theorem coords_head {D : ℕ} (h : Fin 2) (hv : ℕ) (hh : hv = h.val) (r : Fin 512) (d : Fin D) (a : Fin 3) :
    ((ix3 h r d : (⟨3, ![2, 512, D]⟩ : Shape).Idx) a).val
      = (![hv, 0, 0] : Fin 3 → ℕ) a + ((ix3 0 r d : (⟨3, ![1, 512, D]⟩ : Shape).Idx) a).val := by
  subst hh
  fin_cases a
  · show h.val = h.val + 0; rfl
  · show r.val = 0 + r.val; omega
  · show d.val = 0 + d.val; omega

/-- The scores of a loaded query block and a loaded key block, by the arrays they were loaded from. -/
theorem score_eq {q k : Vec Ideal S1x512x128 .bf16} {x0 : S2x512x128.Idx → EReal} {x1 : S2x8192x128.Idx → EReal}
    {h : Fin 2} {n : ℕ} {r : Fin 512} (hq : ∀ d, q (ix3 0 r d) = x0 (ix3 h r d))
    (hk : ∀ (c : Fin 512) d, k (ix3 0 c d) = x1 (ix3 h (Fin.ofNat 8192 (n + c.val)) d)) :
    score q k r = fun c => raw x0 x1 h r (n + c.val) := by
  funext c
  unfold score raw
  exact Finset.sum_congr rfl fun d _ => by rw [hq, hk]

theorem stepAcc_congr {s s' v v' : Fin 512 → EReal} {m m' a a' : EReal} (hs : s = s') (hv : v = v') (hm : m = m')
    (ha : a = a') : stepAcc s v m a = stepAcc s' v' m' a' := by rw [hs, hv, hm, ha]

variable (𝒱 : Variants) (c : Dev nD) (bd : Option 𝒱.V) (i : grid0.Coords)
  (arg3 : Memref sig .tc .vmem S2x512x128 .bf16) (harg3 : arg3.IsWhole)
  (arg4 : Memref sig .tc .vmem S2x8192x128 .bf16) (harg4 : arg4.IsWhole)
  (arg5 : Memref sig .tc .vmem S2x8192x128 .bf16) (harg5 : arg5.IsWhole)
  (arg6 : Memref sig .tc .vmem S512x128 .bf16) (harg6 : arg6.IsWhole)
  (arg7 : Memref sig .tc .vmem S2x512x1 .f32) (harg7 : arg7.IsWhole)
  (arg8 : Memref sig .tc .vmem S2x512x128 .f32) (harg8 : arg8.IsWhole)
  (x0 : S2x512x128.Idx → EReal) (x1 x2 : S2x8192x128.Idx → EReal)

/-- One trip: block `k` goes into the running maximum … -/
theorem trip_max (k : Fin (k0_t1_loop i).trips) (f7 : BufTy.Contents (Elt Ideal) arg7.view.ty)
    (f8 : BufTy.Contents (Elt Ideal) arg8.view.ty) (h : Fin 2) (r : Fin 512) :
    arg7.view.read (Elt Ideal) (arg7.view.writes (Elt Ideal) f7 (tripL_k0_t1 (F := Ideal) 𝒱 c bd i arg3 harg3 arg4 harg4
        arg5 harg5 arg6 harg6 arg7 harg7 arg8 harg8 (harg3.unread x0) (harg4.unread x1) (harg5.unread x2) k f7 f8).1) (ix3 h r 0)
      = stepMax (fun j => raw x0 x1 h r (512 * k.val + j.val)) (arg7.view.read (Elt Ideal) f7 (ix3 h r 0)) := by
  unfold tripL_k0_t1 trip_k0_t1
  dsimp only
  sl_unfold_words
  have hk : k.val < 16 := lt_of_lt_of_le k.isLt ((trips_t1 i).trans_le (i 2).isLt.le)
  obtain rfl | rfl : h = 0 ∨ h = 1 := by omega
  · rw [View.read_writes_cons_unit_of_not_mem _ _ _ _ _ _ rfl (0 : Fin 3) (Or.inl Nat.zero_lt_one),
      View.read_writes_cons_unit_of_mem _ _ _ _ _ _ (ix3 0 r 0 : S1x512x1.Idx) rfl (coords_head 0 0 rfl r 0), pay6_apply]
    refine congrArg₂ stepMax (score_eq (fun d => ?_) fun c d => ?_) ?_
    · exact readAt_unit_unread (Val := Elt Ideal) harg3 x0 _ _ _ (coords_head 0 0 rfl r d)
    · exact readAt_unit_unread (Val := Elt Ideal) harg4 x1 _ _ _ (coords_kv 0 0 rfl (offset_t1 hk) (by omega) c d)
    · exact readAt_unit arg7.view f7 _ _ _ (coords_head 0 0 rfl r 0)
  · rw [View.read_writes_cons_unit_of_mem _ _ _ _ _ _ (ix3 0 r 0 : S1x512x1.Idx) rfl (coords_head 1 1 rfl r 0), pay18_apply]
    refine congrArg₂ stepMax (score_eq (fun d => ?_) fun c d => ?_) ?_
    · exact readAt_unit_unread (Val := Elt Ideal) harg3 x0 _ _ _ (coords_head 1 1 rfl r d)
    · exact readAt_unit_unread (Val := Elt Ideal) harg4 x1 _ _ _ (coords_kv 1 1 rfl (offset_t1 hk) (by omega) c d)
    · exact readAt_unit arg7.view f7 _ _ _ (coords_head 1 1 rfl r 0)
/-- … and into the running sum. -/
theorem trip_acc (k : Fin (k0_t1_loop i).trips) (f7 : BufTy.Contents (Elt Ideal) arg7.view.ty)
    (f8 : BufTy.Contents (Elt Ideal) arg8.view.ty) (h : Fin 2) (r : Fin 512) (d : Fin 128) :
    arg8.view.read (Elt Ideal) (arg8.view.writes (Elt Ideal) f8 (tripL_k0_t1 (F := Ideal) 𝒱 c bd i arg3 harg3 arg4 harg4
        arg5 harg5 arg6 harg6 arg7 harg7 arg8 harg8 (harg3.unread x0) (harg4.unread x1) (harg5.unread x2) k f7 f8).2) (ix3 h r d)
      = stepAcc (fun j => raw x0 x1 h r (512 * k.val + j.val)) (fun j => val x2 h d (512 * k.val + j.val))
          (arg7.view.read (Elt Ideal) f7 (ix3 h r 0)) (arg8.view.read (Elt Ideal) f8 (ix3 h r d)) := by
  unfold tripL_k0_t1 trip_k0_t1
  dsimp only
  sl_unfold_words
  have hk : k.val < 16 := lt_of_lt_of_le k.isLt ((trips_t1 i).trans_le (i 2).isLt.le)
  obtain rfl | rfl : h = 0 ∨ h = 1 := by omega
  · rw [View.read_writes_cons_unit_of_not_mem _ _ _ _ _ _ rfl (0 : Fin 3) (Or.inl Nat.zero_lt_one),
      View.read_writes_cons_unit_of_mem _ _ _ _ _ _ (ix3 0 r d : S1x512x128.Idx) rfl (coords_head 0 0 rfl r d), pay5_apply]
    refine stepAcc_congr (score_eq (fun d => ?_) fun c d => ?_) (funext fun c => ?_) ?_ ?_
    · exact readAt_unit_unread (Val := Elt Ideal) harg3 x0 _ _ _ (coords_head 0 0 rfl r d)
    · exact readAt_unit_unread (Val := Elt Ideal) harg4 x1 _ _ _ (coords_kv 0 0 rfl (offset_t1 hk) (by omega) c d)
    · exact readAt_unit_unread (Val := Elt Ideal) harg5 x2 _ _ _ (coords_kv 0 0 rfl (offset_t1 hk) (by omega) c d)
    · exact readAt_unit arg7.view f7 _ _ _ (coords_head 0 0 rfl r 0)
    · exact readAt_unit arg8.view f8 _ _ _ (coords_head 0 0 rfl r d)
  · rw [View.read_writes_cons_unit_of_mem _ _ _ _ _ _ (ix3 0 r d : S1x512x128.Idx) rfl (coords_head 1 1 rfl r d), pay17_apply]
    refine stepAcc_congr (score_eq (fun d => ?_) fun c d => ?_) (funext fun c => ?_) ?_ ?_
    · exact readAt_unit_unread (Val := Elt Ideal) harg3 x0 _ _ _ (coords_head 1 1 rfl r d)
    · exact readAt_unit_unread (Val := Elt Ideal) harg4 x1 _ _ _ (coords_kv 1 1 rfl (offset_t1 hk) (by omega) c d)
    · exact readAt_unit_unread (Val := Elt Ideal) harg5 x2 _ _ _ (coords_kv 1 1 rfl (offset_t1 hk) (by omega) c d)
    · exact readAt_unit arg7.view f7 _ _ _ (coords_head 1 1 rfl r 0)
    · exact readAt_unit arg8.view f8 _ _ _ (coords_head 1 1 rfl r d)

/-- A row of scores, masked past position `n + r`. -/
def causal (n : ℕ) (h : Fin 2) (r : Fin 512) (c : ℕ) : EReal := if c ≤ n + r.val then raw x0 x1 h r c else ⊥

/-- The maximum over a block by the step the kernel takes. -/
theorem top_step (s : ℕ → EReal) (n : ℕ) (s' : Fin 512 → EReal) (hs : ∀ j : Fin 512, s' j = s (n + j.val)) :
    stepMax s' (Cert.Attn.top s n) = Cert.Attn.top s (n + 512) := by
  obtain rfl : s' = fun j => s (n + j.val) := funext hs
  exact (Cert.Attn.top_add s n 512).symm

/-- The weighted sum over a block by the step the kernel takes. -/
theorem acc_step (s v : ℕ → EReal) (n : ℕ) (s' : Fin 512 → EReal) (hs : ∀ j : Fin 512, s' j = s (n + j.val)) :
    stepAcc s' (fun j => v (n + j.val)) (Cert.Attn.top s n) (Cert.Attn.acc s v n) = Cert.Attn.acc s v (n + 512) := by
  obtain rfl : s' = fun j => s (n + j.val) := funext hs
  rw [Cert.Attn.acc_add]
  unfold stepAcc
  rw [show stepMax (fun j : Fin 512 => s (n + j.val)) (Cert.Attn.top s n) = Cert.Attn.top s (n + 512) from
    top_step s n _ fun _ => rfl]

/-- The scratch buffers after `k` trips from maxima of `⊥` and sums of zero: the maxima and the weighted sums over the
    first `512 k` keys. -/
theorem loop_t1 (G7 : BufTy.Contents (Elt Ideal) arg7.view.ty) (G8 : BufTy.Contents (Elt Ideal) arg8.view.ty)
    (h : Fin 2) (r : Fin 512) (d : Fin 128)
    (h7 : arg7.view.read (Elt Ideal) G7 (ix3 h r 0) = ⊥) (h8 : arg8.view.read (Elt Ideal) G8 (ix3 h r d) = 0)
    (k : ℕ) (hk : k ≤ (k0_t1_loop i).trips) :
    arg7.view.read (Elt Ideal) (arg7.view.writes (Elt Ideal) G7 (pb_k0_t1 (F := Ideal) 𝒱 c bd i arg3 harg3 arg4 harg4
        arg5 harg5 arg6 harg6 arg7 harg7 arg8 harg8 (harg3.unread x0) (harg4.unread x1) (harg5.unread x2) G7 G8 k).1) (ix3 h r 0)
        = Cert.Attn.top (causal x0 x1 (512 * (i 2).val) h r) (512 * k)
      ∧ arg8.view.read (Elt Ideal) (arg8.view.writes (Elt Ideal) G8 (pb_k0_t1 (F := Ideal) 𝒱 c bd i arg3 harg3 arg4 harg4
        arg5 harg5 arg6 harg6 arg7 harg7 arg8 harg8 (harg3.unread x0) (harg4.unread x1) (harg5.unread x2) G7 G8 k).2) (ix3 h r d)
        = Cert.Attn.acc (causal x0 x1 (512 * (i 2).val) h r) (val x2 h d) (512 * k) := by
  induction k with
  | zero => exact ⟨h7.trans (Cert.Attn.top_zero _).symm, h8.trans (Cert.Attn.acc_zero _ _).symm⟩
  | succ k ih =>
    obtain ⟨ih7, ih8⟩ := ih (by omega)
    have hlt : k < (i 2).val := by have := trips_t1 i; omega
    have hs : ∀ j : Fin 512, raw x0 x1 h r (512 * k + j.val) = causal x0 x1 (512 * (i 2).val) h r (512 * k + j.val) :=
      fun j => (if_pos (by have := j.isLt; omega)).symm
    rw [pb_k0_t1_succ _ _ _ _ _ _ _ _ _ _ _ _ _ _ _ _ _ _ _ _ _ ⟨k, hk⟩]
    dsimp only
    rw [View.writes_append, View.writes_append, trip_max, trip_acc, ih7, ih8]
    exact ⟨top_step _ _ _ hs, acc_step _ _ _ _ hs⟩

end Cert.KernelIdeal.Attn

end
-- ==== Proof.Block.lean ====
/- One grid point of the attention: the block of the output it stores is the quotient of the weighted sum of the values by
   the sum of the weights, over the keys up to the diagonal. -/
module

public import proofs.«01_k».proof.Proof.Loop

@[expose] public section

set_option maxRecDepth 16384

noncomputable section

namespace Cert.KernelIdeal.Attn

open Cert.KernelIdeal Cert.KernelIdeal.Gen Idealize.ShloMosaic Idealize.ShloMosaic.Tactic Idealize.SL.Sem
open Idealize.ShloMosaic.TcCoe

variable (c : Dev nD) (i : grid0.Coords)
  (arg3 : Memref sig .tc .vmem S2x512x128 .bf16) (harg3 : arg3.IsWhole)
  (arg4 : Memref sig .tc .vmem S2x8192x128 .bf16) (harg4 : arg4.IsWhole)
  (arg5 : Memref sig .tc .vmem S2x8192x128 .bf16) (harg5 : arg5.IsWhole)
  (arg6 : Memref sig .tc .vmem S512x128 .bf16) (harg6 : arg6.IsWhole)
  (arg7 : Memref sig .tc .vmem S2x512x1 .f32) (harg7 : arg7.IsWhole)
  (arg8 : Memref sig .tc .vmem S2x512x128 .f32) (harg8 : arg8.IsWhole)
  (x0 : S2x512x128.Idx → EReal) (x1 x2 : S2x8192x128.Idx → EReal)

/-- The quotient of head `h` at query row `r` of block `i`, lane `d`. -/
def quot (n : ℕ) (h : Fin 2) (r : Fin 512) (d : Fin 128) : EReal :=
  Ideal.div (Cert.Attn.acc (causal x0 x1 (512 * n) h r) (val x2 h d) (512 * n + 512))
    (Cert.Attn.acc (causal x0 x1 (512 * n) h r) (val x2 h 64) (512 * n + 512))

/-- The running maxima as the kernel starts them. -/
abbrev init7 : List (View.Piece (Elt Ideal) S2x512x1 .f32) :=
  [⟨Rect.unit ![0, 0, 0] S2x512x1.size inb_S2x512x1_S2x512x1_0_0_0, k0_pay12 (F := Ideal)⟩]

/-- The running sums as the kernel starts them. -/
abbrev init8 : List (View.Piece (Elt Ideal) S2x512x128 .f32) :=
  [⟨Rect.unit ![0, 0, 0] S2x512x128.size inb_S2x512x128_S2x512x128_0_0_0, k0_pay13 (F := Ideal)⟩]

/-- The buffers that hold them. -/
abbrev start7 : BufTy.Contents (Elt Ideal) arg7.view.ty := arg7.view.writes (Elt Ideal) arg7.view.junk init7
abbrev start8 : BufTy.Contents (Elt Ideal) arg8.view.ty := arg8.view.writes (Elt Ideal) arg8.view.junk init8

theorem start7_apply (h : Fin 2) (r : Fin 512) : arg7.view.read (Elt Ideal) (start7 arg7) (ix3 h r 0) = ⊥ := by
  unfold start7 init7
  rw [View.read_writes_cons_unit_of_mem _ _ _ _ _ _ (ix3 h r 0 : S2x512x1.Idx) rfl (by intro a; fin_cases a <;> simp),
    pay12_apply]

theorem start8_apply (h : Fin 2) (r : Fin 512) (d : Fin 128) :
    arg8.view.read (Elt Ideal) (start8 arg8) (ix3 h r d) = 0 := by
  unfold start8 init8
  rw [View.read_writes_cons_unit_of_mem _ _ _ _ _ _ (ix3 h r d : S2x512x128.Idx) rfl (by intro a; fin_cases a <;> simp),
    pay13_apply]

/-- The loop over a remainder stores nothing. -/
theorem pb_t2_nil (v : BitVec 32) (X3 : BufTy.Contents (Elt Ideal) arg3.view.ty) (X4 : BufTy.Contents (Elt Ideal) arg4.view.ty)
    (X5 : BufTy.Contents (Elt Ideal) arg5.view.ty) (G7 : BufTy.Contents (Elt Ideal) arg7.view.ty)
    (G8 : BufTy.Contents (Elt Ideal) arg8.view.ty) :
    pb_k0_t2 (F := Ideal) Variants.none c none i arg3 harg3 arg4 harg4
        arg5 harg5 arg6 harg6 arg7 harg7 arg8 harg8 v X3 X4 X5 G7 G8
      (Scf.trips (k0_t2_loop i).lb (k0_t2_loop i).ub (k0_t2_loop i).st) = ([], []) := by
  rw [show Scf.trips (k0_t2_loop i).lb (k0_t2_loop i).ub (k0_t2_loop i).st = 0 from trips_t2 i]
  rfl

/-- The running maxima after both loops: over the keys before the diagonal block. -/
theorem after_t1_max (h : Fin 2) (r : Fin 512) :
    arg7.view.read (Elt Ideal) (arg7.view.writes (Elt Ideal) arg7.view.junk ((([], []) : List (View.Piece (Elt Ideal) S2x512x1 .f32) × List (View.Piece (Elt Ideal) S2x512x128 .f32)).1 ++ ((pb_k0_t1 (F := Ideal) Variants.none c none i arg3 harg3 arg4 harg4
        arg5 harg5 arg6 harg6 arg7 harg7 arg8 harg8 (harg3.unread x0) (harg4.unread x1) (harg5.unread x2)
        (start7 arg7) (start8 arg8) (Scf.trips (k0_t1_loop i).lb (k0_t1_loop i).ub (k0_t1_loop i).st)).1 ++ init7))) (ix3 h r 0)
      = Cert.Attn.top (causal x0 x1 (512 * (i 2).val) h r) (512 * (i 2).val) := by
  rw [View.writes_append, View.writes_append, show Scf.trips (k0_t1_loop i).lb (k0_t1_loop i).ub (k0_t1_loop i).st = (i 2).val from trips_t1 i]
  exact (loop_t1 Variants.none c none i arg3 harg3 arg4 harg4
        arg5 harg5 arg6 harg6 arg7 harg7 arg8 harg8 x0 x1 x2 (start7 arg7) (start8 arg8) h r 0
    (start7_apply arg7 h r) (start8_apply arg8 h r 0) (i 2).val (trips_t1 i).ge).1

/-- The running sums after both loops. -/
theorem after_t1_acc (h : Fin 2) (r : Fin 512) (d : Fin 128) :
    arg8.view.read (Elt Ideal) (arg8.view.writes (Elt Ideal) arg8.view.junk ((([], []) : List (View.Piece (Elt Ideal) S2x512x1 .f32) × List (View.Piece (Elt Ideal) S2x512x128 .f32)).2 ++ ((pb_k0_t1 (F := Ideal) Variants.none c none i arg3 harg3 arg4 harg4
        arg5 harg5 arg6 harg6 arg7 harg7 arg8 harg8 (harg3.unread x0) (harg4.unread x1) (harg5.unread x2)
        (start7 arg7) (start8 arg8) (Scf.trips (k0_t1_loop i).lb (k0_t1_loop i).ub (k0_t1_loop i).st)).2 ++ init8))) (ix3 h r d)
      = Cert.Attn.acc (causal x0 x1 (512 * (i 2).val) h r) (val x2 h d) (512 * (i 2).val) := by
  rw [View.writes_append, View.writes_append, show Scf.trips (k0_t1_loop i).lb (k0_t1_loop i).ub (k0_t1_loop i).st = (i 2).val from trips_t1 i]
  exact (loop_t1 Variants.none c none i arg3 harg3 arg4 harg4
        arg5 harg5 arg6 harg6 arg7 harg7 arg8 harg8 x0 x1 x2 (start7 arg7) (start8 arg8) h r d
    (start7_apply arg7 h r) (start8_apply arg8 h r d) (i 2).val (trips_t1 i).ge).2

/-- In the diagonal block the kernel's mask is the causal one. -/
theorem masked_eq (n : ℕ) (h : Fin 2) (r : Fin 512) (j : Fin 512) :
    masked r (fun c => raw x0 x1 h r (n + c.val)) j = causal x0 x1 n h r (n + j.val) := by
  unfold masked causal
  simp only [Fin.le_def, Nat.add_le_add_iff_left]

/-- The block a grid point stores, at an index. -/
theorem block_apply (r : Fin 512) (d : Fin 128) :
    out0_A_3 (F := Ideal) c i arg3 harg3 arg4 harg4 arg5 harg5 arg6 harg6 arg7 harg7 arg8 harg8 x0 x1 x2 (ix2 r d)
      = if h : d.val < 64 then quot x0 x1 x2 (i 2).val 0 r d
        else quot x0 x1 x2 (i 2).val 1 r ⟨d.val - 64, by omega⟩ := by
  have hi : 512 * (i 2).val + 512 ≤ 8192 := by have h : (i 2).val < 16 := (i 2).isLt; omega
  unfold out0_A_3 kernelRun0_A
  dsimp only
  sl_unfold_words
  rw [View.read_writes_cons_unit_of_mem _ _ _ _ _ _ (ix2 r d : S512x128.Idx) rfl (by intro a; fin_cases a <;> simp),
    pay1_apply]
  rw [pb_t2_nil]
  split
  · refine congrArg₂ Ideal.div ?_ ?_
    · refine (readAt_unit arg8.view _ _ _ (ix3 0 r d) (coords_head 0 0 rfl r d)).trans ?_
      rw [View.read_writes_cons_unit_of_not_mem _ _ _ _ _ _ rfl (0 : Fin 3) (Or.inl Nat.zero_lt_one),
        View.read_writes_cons_unit_of_mem _ _ _ _ _ _ (ix3 0 r d : S1x512x128.Idx) rfl (coords_head 0 0 rfl r d),
        pay29_apply]
      refine (stepAcc_congr (congrArg (masked r) (score_eq (fun d => ?_) fun c d => ?_)) (funext fun c => ?_) ?_ ?_).trans
        (acc_step _ _ _ _ (masked_eq x0 x1 (512 * (i 2).val) 0 r))
      · exact readAt_unit_unread (Val := Elt Ideal) harg3 x0 _ _ _ (coords_head 0 0 rfl r d)
      · exact readAt_unit_unread (Val := Elt Ideal) harg4 x1 _ _ _ (coords_kv 0 0 rfl (offset_diag i) hi c d)
      · exact readAt_unit_unread (Val := Elt Ideal) harg5 x2 _ _ _ (coords_kv 0 0 rfl (offset_diag i) hi c d)
      · refine (readAt_unit arg7.view _ _ _ (ix3 0 r 0) (coords_head 0 0 rfl r 0)).trans ?_
        exact after_t1_max c i arg3 harg3 arg4 harg4 arg5 harg5 arg6 harg6 arg7 harg7 arg8 harg8 x0 x1 x2 0 r
      · refine (readAt_unit arg8.view _ _ _ (ix3 0 r d) (coords_head 0 0 rfl r d)).trans ?_
        exact after_t1_acc c i arg3 harg3 arg4 harg4 arg5 harg5 arg6 harg6 arg7 harg7 arg8 harg8 x0 x1 x2 0 r d
    · refine (readAt_unit arg8.view _ _ _ (ix3 0 r 64) (coords_head 0 0 rfl r 64)).trans ?_
      rw [View.read_writes_cons_unit_of_not_mem _ _ _ _ _ _ rfl (0 : Fin 3) (Or.inl Nat.zero_lt_one),
        View.read_writes_cons_unit_of_mem _ _ _ _ _ _ (ix3 0 r 64 : S1x512x128.Idx) rfl (coords_head 0 0 rfl r 64),
        pay29_apply]
      refine (stepAcc_congr (congrArg (masked r) (score_eq (fun d => ?_) fun c d => ?_)) (funext fun c => ?_) ?_ ?_).trans
        (acc_step _ _ _ _ (masked_eq x0 x1 (512 * (i 2).val) 0 r))
      · exact readAt_unit_unread (Val := Elt Ideal) harg3 x0 _ _ _ (coords_head 0 0 rfl r d)
      · exact readAt_unit_unread (Val := Elt Ideal) harg4 x1 _ _ _ (coords_kv 0 0 rfl (offset_diag i) hi c d)
      · exact readAt_unit_unread (Val := Elt Ideal) harg5 x2 _ _ _ (coords_kv 0 0 rfl (offset_diag i) hi c 64)
      · refine (readAt_unit arg7.view _ _ _ (ix3 0 r 0) (coords_head 0 0 rfl r 0)).trans ?_
        exact after_t1_max c i arg3 harg3 arg4 harg4 arg5 harg5 arg6 harg6 arg7 harg7 arg8 harg8 x0 x1 x2 0 r
      · refine (readAt_unit arg8.view _ _ _ (ix3 0 r 64) (coords_head 0 0 rfl r 64)).trans ?_
        exact after_t1_acc c i arg3 harg3 arg4 harg4 arg5 harg5 arg6 harg6 arg7 harg7 arg8 harg8 x0 x1 x2 0 r 64
  · refine congrArg₂ Ideal.div ?_ ?_
    · refine (readAt_unit arg8.view _ _ _ (ix3 1 r (⟨d.val - 64, by omega⟩ : Fin 128)) (coords_head 1 1 rfl r (⟨d.val - 64, by omega⟩ : Fin 128))).trans ?_
      rw [View.read_writes_cons_unit_of_mem _ _ _ _ _ _ (ix3 0 r (⟨d.val - 64, by omega⟩ : Fin 128) : S1x512x128.Idx) rfl (coords_head 1 1 rfl r (⟨d.val - 64, by omega⟩ : Fin 128)),
        pay36_apply]
      refine (stepAcc_congr (congrArg (masked r) (score_eq (fun d => ?_) fun c d => ?_)) (funext fun c => ?_) ?_ ?_).trans
        (acc_step _ _ _ _ (masked_eq x0 x1 (512 * (i 2).val) 1 r))
      · exact readAt_unit_unread (Val := Elt Ideal) harg3 x0 _ _ _ (coords_head 1 1 rfl r d)
      · exact readAt_unit_unread (Val := Elt Ideal) harg4 x1 _ _ _ (coords_kv 1 1 rfl (offset_diag i) hi c d)
      · exact readAt_unit_unread (Val := Elt Ideal) harg5 x2 _ _ _ (coords_kv 1 1 rfl (offset_diag i) hi c (⟨d.val - 64, by omega⟩ : Fin 128))
      · refine (readAt_unit arg7.view _ _ _ (ix3 1 r 0) (coords_head 1 1 rfl r 0)).trans ?_
        rw [View.read_writes_cons_unit_of_not_mem _ _ _ _ _ _ rfl (0 : Fin 3) (Or.inr le_rfl)]
        exact after_t1_max c i arg3 harg3 arg4 harg4 arg5 harg5 arg6 harg6 arg7 harg7 arg8 harg8 x0 x1 x2 1 r
      · refine (readAt_unit arg8.view _ _ _ (ix3 1 r (⟨d.val - 64, by omega⟩ : Fin 128)) (coords_head 1 1 rfl r (⟨d.val - 64, by omega⟩ : Fin 128))).trans ?_
        rw [View.read_writes_cons_unit_of_not_mem _ _ _ _ _ _ rfl (0 : Fin 3) (Or.inr le_rfl)]
        exact after_t1_acc c i arg3 harg3 arg4 harg4 arg5 harg5 arg6 harg6 arg7 harg7 arg8 harg8 x0 x1 x2 1 r (⟨d.val - 64, by omega⟩ : Fin 128)
    · refine (readAt_unit arg8.view _ _ _ (ix3 1 r 64) (coords_head 1 1 rfl r 64)).trans ?_
      rw [View.read_writes_cons_unit_of_mem _ _ _ _ _ _ (ix3 0 r 64 : S1x512x128.Idx) rfl (coords_head 1 1 rfl r 64),
        pay36_apply]
      refine (stepAcc_congr (congrArg (masked r) (score_eq (fun d => ?_) fun c d => ?_)) (funext fun c => ?_) ?_ ?_).trans
        (acc_step _ _ _ _ (masked_eq x0 x1 (512 * (i 2).val) 1 r))
      · exact readAt_unit_unread (Val := Elt Ideal) harg3 x0 _ _ _ (coords_head 1 1 rfl r d)
      · exact readAt_unit_unread (Val := Elt Ideal) harg4 x1 _ _ _ (coords_kv 1 1 rfl (offset_diag i) hi c d)
      · exact readAt_unit_unread (Val := Elt Ideal) harg5 x2 _ _ _ (coords_kv 1 1 rfl (offset_diag i) hi c 64)
      · refine (readAt_unit arg7.view _ _ _ (ix3 1 r 0) (coords_head 1 1 rfl r 0)).trans ?_
        rw [View.read_writes_cons_unit_of_not_mem _ _ _ _ _ _ rfl (0 : Fin 3) (Or.inr le_rfl)]
        exact after_t1_max c i arg3 harg3 arg4 harg4 arg5 harg5 arg6 harg6 arg7 harg7 arg8 harg8 x0 x1 x2 1 r
      · refine (readAt_unit arg8.view _ _ _ (ix3 1 r 64) (coords_head 1 1 rfl r 64)).trans ?_
        rw [View.read_writes_cons_unit_of_not_mem _ _ _ _ _ _ rfl (0 : Fin 3) (Or.inr le_rfl)]
        exact after_t1_acc c i arg3 harg3 arg4 harg4 arg5 harg5 arg6 harg6 arg7 harg7 arg8 harg8 x0 x1 x2 1 r 64

end Cert.KernelIdeal.Attn

end
-- ==== Proof.Spec.lean ====
/- What the attention computes, as a function of the three arrays: the row of scores of one query, its values, and the
   quotient of their weighted sum by the sum of the weights. -/
module

public import proofs.«01_k».proof.Proof.Block

@[expose] public section

set_option maxRecDepth 16384

noncomputable section

namespace Cert.Attn

open Idealize.ShloMosaic

/-- The weighted sum looks at its first `n` scores and values only. -/
theorem acc_congr {s s' v v' : ℕ → EReal} {n : ℕ} (hs : ∀ c < n, s c = s' c) (hv : ∀ c < n, v c = v' c) :
    acc s v n = acc s' v' n := by
  have ht : top s n = top s' n := Finset.sup_congr rfl fun c hc => hs c (Finset.mem_range.1 hc)
  unfold acc
  rw [ht]
  exact Finset.sum_congr rfl fun c hc => by rw [hs c (Finset.mem_range.1 hc), hv c (Finset.mem_range.1 hc)]

/-- Queries, keys and values: head, token (batch and position), lane. -/
abbrev Arr := (⟨3, ![8, 32768, 128]⟩ : Shape).Idx → EReal

/-- The token of position `c` in the sequence that token `R` belongs to. -/
def tok (R c : ℕ) : Fin 32768 := Fin.ofNat 32768 (8192 * (R / 8192) + c)

/-- The score of query `R` of head `g` against the key at position `c` of its own sequence. -/
def rawAt (Q K : Arr) (g : Fin 8) (R : Fin 32768) (c : ℕ) : EReal := ∑ d : Fin 128, Q (ix3 g R d) * K (ix3 g (tok R.val c) d)

/-- The same, a position after the query's scoring minus infinity. -/
def scoreAt (Q K : Arr) (g : Fin 8) (R : Fin 32768) (c : ℕ) : EReal :=
  if c ≤ R.val % 8192 then rawAt Q K g R c else ⊥

/-- Lane `d` of the values of query `R`'s sequence. -/
def valAt (V : Arr) (g : Fin 8) (R : Fin 32768) (d : Fin 128) (c : ℕ) : EReal := V (ix3 g (tok R.val c) d)

/-- The quotient of the weighted sum of lane `d` by that of lane 64. -/
def quotAt (Q K V : Arr) (g : Fin 8) (R : Fin 32768) (d : Fin 128) : EReal :=
  Ideal.div (acc (scoreAt Q K g R) (valAt V g R d) 8192) (acc (scoreAt Q K g R) (valAt V g R 64) 8192)

/-- The result: 64 lanes per head, the heads beside one another. -/
def attn (Q K V : Arr) (j : (⟨2, ![32768, 512]⟩ : Shape).Idx) : EReal :=
  quotAt Q K V ⟨(j 1).val / 64, by have := (j 1).isLt; change (j 1).val < 512 at this; omega⟩ (j 0)
    ⟨(j 1).val % 64, by omega⟩

/-- The scores end with the row: past position `R % 8192` nothing is added. -/
theorem acc_scoreAt (Q K V : Arr) (g : Fin 8) (R : Fin 32768) (d : Fin 128) (n : ℕ) (hn : n ≤ 8192)
    (h : R.val % 8192 < n) :
    acc (scoreAt Q K g R) (valAt V g R d) 8192 = acc (scoreAt Q K g R) (valAt V g R d) n :=
  acc_of_bot _ _ hn fun c hc => if_neg (by omega)

/-- A finite sum of real numbers is the real number that their sum is. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A score of finite queries and keys is a real number. -/
theorem rawAt_real (Q K : Arr) (hQ : ∀ i, Q i ≠ ⊤ ∧ Q i ≠ ⊥) (hK : ∀ i, K i ≠ ⊤ ∧ K i ≠ ⊥) (g : Fin 8) (R : Fin 32768) (c : ℕ) :
    ∃ x : ℝ, rawAt Q K g R c = (x : EReal) := by
  refine ⟨∑ d : Fin 128, (Q (ix3 g R d)).toReal * (K (ix3 g (tok R.val c) d)).toReal, ?_⟩
  unfold rawAt
  rw [coe_sum]
  refine Finset.sum_congr rfl fun d _ => ?_
  rw [EReal.coe_mul, EReal.coe_toReal (hQ _).1 (hQ _).2, EReal.coe_toReal (hK _).1 (hK _).2]

theorem scoreAt_ne_top (Q K : Arr) (hQ : ∀ i, Q i ≠ ⊤ ∧ Q i ≠ ⊥) (hK : ∀ i, K i ≠ ⊤ ∧ K i ≠ ⊥) (g : Fin 8) (R : Fin 32768) (c : ℕ) :
    scoreAt Q K g R c ≠ ⊤ := by
  unfold scoreAt
  obtain ⟨x, hx⟩ := rawAt_real Q K hQ hK g R c
  split
  · rw [hx]; exact EReal.coe_ne_top x
  · exact bot_ne_top

theorem scoreAt_ne_bot (Q K : Arr) (hQ : ∀ i, Q i ≠ ⊤ ∧ Q i ≠ ⊥) (hK : ∀ i, K i ≠ ⊤ ∧ K i ≠ ⊥) (g : Fin 8) (R : Fin 32768) (c : ℕ)
    (hc : c ≤ R.val % 8192) : scoreAt Q K g R c ≠ ⊥ := by
  unfold scoreAt
  obtain ⟨x, hx⟩ := rawAt_real Q K hQ hK g R c
  rw [if_pos hc, hx]
  exact EReal.coe_ne_bot x

end Cert.Attn

end

end
-- ==== Proof.Final.lean ====
/- The array the attention leaves: the blocks of all grid points together. -/
module

public import proofs.«01_k».proof.Proof.Spec
public import proofs.«01_k».proof.Proof.Gen.KernelIdeal.Value
public import Idealize.ShloMosaic.Lib.Pipeline.Covers

@[expose] public section

set_option maxRecDepth 16384

noncomputable section

namespace Cert.KernelIdeal.Attn

open Cert.KernelIdeal Cert.KernelIdeal.Gen Idealize.ShloMosaic Idealize.ShloMosaic.Tactic Idealize.SL.Sem
open Idealize.ShloMosaic.TcCoe

/-- Where the four windows stand at a grid point. -/
theorem idx (t : Fin grid0.N) :
    win0_0.index t = ![(grid0.coords t 1).val, (grid0.coords t 0).val * 16 + (grid0.coords t 2).val, 0]
    ∧ win0_1.index t = ![(grid0.coords t 1).val, (grid0.coords t 0).val, 0]
    ∧ win0_2.index t = ![(grid0.coords t 1).val, (grid0.coords t 0).val, 0]
    ∧ win0_3.index t = ![(grid0.coords t 0).val * 16 + (grid0.coords t 2).val, (grid0.coords t 1).val] := by
  revert t; decide +kernel

variable (m : (ℓ : Loc nD τ sig) → Buf (Elt Ideal) ℓ) (c : Dev nD)

/-- A query block at an index. -/
theorem q_at (t : Fin grid0.N) (h : Fin 2) (r : Fin 512) (d : Fin 128) (g : Fin 8) (R : Fin 32768)
    (hg : g.val = 2 * (grid0.coords t 1).val + h.val)
    (hR : R.val = 512 * (16 * (grid0.coords t 0).val + (grid0.coords t 2).val) + r.val) :
    iblk (F := Ideal) m c 0 t (ix3 h r d) = m ((c : Thread nD τ).loc main_arg0) (ix3 g R d) := by
  obtain ⟨e0, -⟩ := idx t
  blk_ext [iblk, V, e0]

/-- A key block at an index. -/
theorem k_at (t : Fin grid0.N) (h : Fin 2) (x : Fin 8192) (d : Fin 128) (g : Fin 8) (T : Fin 32768)
    (hg : g.val = 2 * (grid0.coords t 1).val + h.val)
    (hT : T.val = 8192 * (grid0.coords t 0).val + x.val) :
    iblk (F := Ideal) m c 1 t (ix3 h x d) = m ((c : Thread nD τ).loc main_arg1) (ix3 g T d) := by
  obtain ⟨-, e1, -⟩ := idx t
  blk_ext [iblk, V, e1]

/-- A value block at an index. -/
theorem v_at (t : Fin grid0.N) (h : Fin 2) (x : Fin 8192) (d : Fin 128) (g : Fin 8) (T : Fin 32768)
    (hg : g.val = 2 * (grid0.coords t 1).val + h.val)
    (hT : T.val = 8192 * (grid0.coords t 0).val + x.val) :
    iblk (F := Ideal) m c 2 t (ix3 h x d) = m ((c : Thread nD τ).loc main_arg2) (ix3 g T d) := by
  obtain ⟨-, -, e2, -⟩ := idx t
  blk_ext [iblk, V, e2]

/-- The quotient of one grid point is the one of its queries' rows. -/
theorem quot_iblk (t : Fin grid0.N) (h : Fin 2) (r : Fin 512) (d : Fin 128) (g : Fin 8) (R : Fin 32768)
    (hg : g.val = 2 * (grid0.coords t 1).val + h.val)
    (hR : R.val = 512 * (16 * (grid0.coords t 0).val + (grid0.coords t 2).val) + r.val) :
    quot (iblk (F := Ideal) m c 0 t) (iblk (F := Ideal) m c 1 t) (iblk (F := Ideal) m c 2 t) (grid0.coords t 2).val h r d
      = Cert.Attn.quotAt (m ((c : Thread nD τ).loc main_arg0)) (m ((c : Thread nD τ).loc main_arg1))
          (m ((c : Thread nD τ).loc main_arg2)) g R d := by
  have hi : (grid0.coords t 2).val < 16 := (grid0.coords t 2).isLt
  have hb : (grid0.coords t 0).val < 4 := (grid0.coords t 0).isLt
  have hr := r.isLt
  have htok : ∀ x < 8192, (Cert.Attn.tok R.val x).val = 8192 * (grid0.coords t 0).val + (Fin.ofNat 8192 x).val := by
    intro x hx
    simp only [Cert.Attn.tok, Fin.val_ofNat]
    omega
  have hs : ∀ x < 512 * (grid0.coords t 2).val + 512,
      causal (iblk (F := Ideal) m c 0 t) (iblk (F := Ideal) m c 1 t) (512 * (grid0.coords t 2).val) h r x
        = Cert.Attn.scoreAt (m ((c : Thread nD τ).loc main_arg0)) (m ((c : Thread nD τ).loc main_arg1)) g R x := by
    intro x hx
    unfold causal Cert.Attn.scoreAt
    refine if_congr (by omega) ?_ rfl
    exact Finset.sum_congr rfl fun e _ => by
      rw [q_at m c t h r e g R hg hR, k_at m c t h (Fin.ofNat 8192 x) e g _ hg (htok x (by omega))]
  have hv : ∀ e : Fin 128, ∀ x < 512 * (grid0.coords t 2).val + 512,
      val (iblk (F := Ideal) m c 2 t) h e x = Cert.Attn.valAt (m ((c : Thread nD τ).loc main_arg2)) g R e x := fun e x hx =>
    v_at m c t h (Fin.ofNat 8192 x) e g _ hg (htok x (by omega))
  unfold quot Cert.Attn.quotAt
  rw [Cert.Attn.acc_scoreAt _ _ _ g R d (512 * (grid0.coords t 2).val + 512) (by omega) (by omega),
    Cert.Attn.acc_scoreAt _ _ _ g R 64 (512 * (grid0.coords t 2).val + 512) (by omega) (by omega),
    Cert.Attn.acc_congr hs (hv d), Cert.Attn.acc_congr hs (hv 64)]

/-- The output array. -/
theorem final : (dats (F := Ideal) m 0 c).arrAt 3 cfg0.N
    = Cert.Attn.attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  obtain ⟨r, d, rfl⟩ : ∃ (r : Fin 512) (d : Fin 128), y = ix2 r d := ⟨y 0, y 1, by funext a; fin_cases a <;> rfl⟩
  rw [block_apply]
  obtain ⟨-, -, -, e3⟩ := idx t
  have h0 : (((win0_3.blk t).view.emb (ix2 r d)) 0 : ℕ) = 512 * (16 * (grid0.coords t 0).val + (grid0.coords t 2).val) + r.val := by
    blk_simp [e3]; ring
  have h1 : (((win0_3.blk t).view.emb (ix2 r d)) 1 : ℕ) = 128 * (grid0.coords t 1).val + d.val := by
    blk_simp [e3]; ring
  have hd := d.isLt
  unfold Cert.Attn.attn
  split
  · next h =>
    rw [quot_iblk m c t 0 r d _ _ _ h0]
    · congr 1; ext; simp only [h1]; omega
    · simp only [h1]; simp; omega
  · next h =>
    rw [quot_iblk m c t 1 r _ _ _ _ h0]
    · congr 1; ext; simp only [h1]; omega
    · simp only [h1]; simp; omega

end Cert.KernelIdeal.Attn

end

end
-- ==== Proof.Inputs.lean ====
/- What the precondition gives: finite queries and keys, and a one in lane 64 of every value row. -/
module

public import proofs.«01_k».proof.Proof.Spec
public import proofs.«01_k».proof.Proof.Gen.Pre_attention_inputs
public import Idealize.ShloMosaic.Lib.ReduceAll
public import Idealize.ShloMosaic.Lib.WordArith

@[expose] public section

set_option maxRecDepth 16384

noncomputable section

namespace Cert.Attn

open Idealize.ShloMosaic Idealize.ShloMosaic.Tactic

theorem of_ofBool {p : Prop} [Decidable p] (h : BitVec.ofBool (decide p) = 1#1) : p := by
  by_contra hp
  simp [hp] at h

theorem ofBits_posInf : Ideal.ofBits .f32 0x7F800000#32 = ⊤ := by simp [Ideal.ofBits, Ideal.ieee]

/-- A number whose absolute value is below infinity is finite. -/
theorem finite_of_abs (x : EReal) (h : max x (-x) < ⊤) : x ≠ ⊤ ∧ x ≠ ⊥ := by
  constructor <;> rintro rfl <;> simp at h

/-- Both sides of a conjunction that is one are one. -/
theorem andi_split (a b : BitVec 1) (h : IntOp.andi a b = 1#1) : a = 1#1 ∧ b = 1#1 := by
  revert h; revert a b; decide

/-- The precondition at the entries of the three arrays. -/
theorem inputs (Q K V : Arr) (h : Cert.Pre_attention_inputs.fn (F := Ideal) Q K V = fun _ => 1#1) :
    (∀ i, Q i ≠ ⊤ ∧ Q i ≠ ⊥) ∧ (∀ i, K i ≠ ⊤ ∧ K i ≠ ⊥) ∧ ∀ g R, V (ix3 g R 64) = 1 := by
  have h0 := congrFun h default
  dsimp only [Cert.Pre_attention_inputs.fn] at h0
  obtain ⟨h1, hv⟩ := andi_split _ _ h0
  obtain ⟨hq, hk⟩ := andi_split _ _ h1
  refine ⟨fun i => ?_, fun i => ?_, fun g R => ?_⟩
  · have := Host.reduce_andi_all _ _ _ _ _ hq i
    pointwise at this
    rw [ofBits_posInf] at this
    exact finite_of_abs _ (of_ofBool this)
  · have := Host.reduce_andi_all _ _ _ _ _ hk i
    pointwise at this
    rw [ofBits_posInf] at this
    exact finite_of_abs _ (of_ofBool this)
  · have := Host.reduce_andi_all _ _ _ _ _ hv (ix2 g R)
    pointwise at this
    exact of_ofBool this

end Cert.Attn

end

end
-- ==== Proof.Reference.lean ====
/- The reference at an index: the softmax of the row of scores, applied to the values. -/
module

public import proofs.«01_k».proof.Proof.Inputs
public import proofs.«01_k».proof.Proof.Gen.ReferenceIdeal.Run
public import proofs.«01_k».proof.Proof.Gen.ReferenceIdeal.Read

@[expose] public section

set_option maxRecDepth 16384

noncomputable section

namespace Cert.ReferenceIdeal.Attn

open Cert.ReferenceIdeal Cert.ReferenceIdeal.Gen Cert.ReferenceIdeal.Read Idealize.ShloMosaic Idealize.ShloMosaic.Tactic Idealize.SL.Sem
open Idealize.ShloMosaic.TcCoe

/-- The causal mask's comparison of two positions. -/
theorem select_pos (k q : Fin 8192) (x y : EReal) :
    Scalar.select (IntOp.cmpi CmpIPredicate.sle (BitVec.ofNat 32 k.val) (BitVec.ofNat 32 q.val)) x y
      = if k.val ≤ q.val then x else y := by
  have hk := k.isLt
  have hq := q.isLt
  have h : IntOp.cmpi CmpIPredicate.sle (BitVec.ofNat 32 k.val) (BitVec.ofNat 32 q.val) = 1 ↔ k.val ≤ q.val := by
    word_omega
  unfold Scalar.select
  simp only [h]

/-- The masked scores. -/
theorem masked_apply (Q K : Cert.Attn.Arr) (g : Fin 8) (b : Fin 4) (q k : Fin 8192) (R : Fin 32768)
    (hR : R.val = 8192 * b.val + q.val) :
    val_main_v14 (F := Ideal) Q K (ix4 g b q k) = Cert.Attn.scoreAt Q K g R k.val := by
  rw [val_main_v14_apply, val_main_v7_apply, val_main_call0_v1_apply, val_main_call0_v2_apply]
  simp only [val_main_v13_apply, val_main_v11_apply, val_main_v12_apply, val_main_v9_apply, val_main_v10_apply, val_main_v8_apply,
    val_main_call0_v0_apply, val_main_cst_apply, val_main_v1_apply, val_main_v3_apply, val_main_v0_apply, val_main_v2_apply]
  refine (select_pos k q _ _).trans ?_
  have hk := k.isLt
  have hq := q.isLt
  unfold Cert.Attn.scoreAt
  refine if_congr (by omega) (Finset.sum_congr rfl fun e _ => ?_) Cert.KernelIdeal.Attn.ofBits_negInf
  have hQ : idx_main_v1 (lidx_main_v7 (ix4 g b q k) e) = ix3 g R e := by
    funext a; apply Fin.ext; fin_cases a <;> simp [hR] <;> omega
  have hK : idx_main_v3 (ridx_main_v7 (ix4 g b q k) e) = ix3 g (Cert.Attn.tok R.val k.val) e := by
    funext a; apply Fin.ext; fin_cases a <;> simp [Cert.Attn.tok, hR] <;> omega
  rw [hQ, hK]
  rfl

/-- The row's greatest score. -/
theorem max_apply (Q K : Cert.Attn.Arr) (g : Fin 8) (b : Fin 4) (q : Fin 8192) (R : Fin 32768)
    (hR : R.val = 8192 * b.val + q.val) :
    val_main_v17 (F := Ideal) Q K (ix3 g b q) = Cert.Attn.top (Cert.Attn.scoreAt Q K g R) 8192 := by
  rw [val_main_v17_apply]
  unfold val_main_v15
  pointwise
  rw [val_main_v16_apply, val_main_cst_1_apply, val_main_cst_0_apply]
  simp only [masked_apply Q K g b q _ R hR]
  have h := Cert.Attn.top_add (Cert.Attn.scoreAt Q K g R) 0 8192
  simp only [Nat.zero_add, Cert.Attn.top_zero] at h
  rw [h]
  show max (Ideal.ofBits .f32 0xFF800000#32) (Finset.fold max (Ideal.ofBits .f32 0xFF800000#32) _ _) = _
  rw [Cert.KernelIdeal.Attn.ofBits_negInf]

/-- The weights before they are divided by their sum. -/
theorem weight_apply (Q K : Cert.Attn.Arr) (g : Fin 8) (b : Fin 4) (q k : Fin 8192) (R : Fin 32768)
    (hR : R.val = 8192 * b.val + q.val) :
    val_main_v21 (F := Ideal) Q K (ix4 g b q k)
      = Ideal.exp (Cert.Attn.scoreAt Q K g R k.val - Cert.Attn.top (Cert.Attn.scoreAt Q K g R) 8192) := by
  rw [val_main_v21_apply, val_main_v20_apply, masked_apply Q K g b q k R hR, val_main_v19_apply, val_main_v18_apply]
  have h : idx_main_v18 (idx_main_v19 (ix4 g b q k)) = ix3 g b q := by
    funext a; apply Fin.ext; fin_cases a <;> rfl
  rw [h, max_apply Q K g b q R hR]
  rfl

/-- The sum of the weights. -/
theorem sum_apply (Q K : Cert.Attn.Arr) (g : Fin 8) (b : Fin 4) (q : Fin 8192) (R : Fin 32768)
    (hR : R.val = 8192 * b.val + q.val) :
    val_main_v22 (F := Ideal) Q K (ix3 g b q) = Cert.Attn.acc (Cert.Attn.scoreAt Q K g R) (fun _ => 1) 8192 := by
  rw [val_main_v22_apply, val_main_cst_2_apply]
  have h : ∀ k : Fin 8192, idx_main_v22 (ix3 g b q) k = ix4 g b q k := fun k => by
    funext a; apply Fin.ext; fin_cases a <;> rfl
  simp only [h, weight_apply Q K g b q _ R hR]
  unfold Cert.Attn.acc
  rw [Finset.sum_range]
  simp only [mul_one]
  show Ideal.ofBits .f32 0x00000000#32 + _ = _
  rw [Ideal.ofBits_zero_f32, zero_add]

/-- The result. -/
theorem out_apply (Q K V : Cert.Attn.Arr) (g : Fin 8) (b : Fin 4) (q : Fin 8192) (e : Fin 64) (R : Fin 32768)
    (hR : R.val = 8192 * b.val + q.val) :
    val_main_v26 (F := Ideal) Q K V (ix4 b g e q)
      = ∑ c ∈ Finset.range 8192, Ideal.div (Ideal.exp (Cert.Attn.scoreAt Q K g R c
          - Cert.Attn.top (Cert.Attn.scoreAt Q K g R) 8192)) (Cert.Attn.acc (Cert.Attn.scoreAt Q K g R) (fun _ => 1) 8192)
          * Cert.Attn.valAt V g R ⟨e.val, by omega⟩ c := by
  rw [val_main_v26_apply, Finset.sum_range]
  refine Finset.sum_congr rfl fun k _ => ?_
  have hr : ridx_main_v26 (ix4 b g e q) k = ix4 g b q k := by
    funext a; apply Fin.ext; fin_cases a <;> rfl
  have hd : idx_main_v23 (idx_main_v24 (ix4 g b q k)) = ix3 g b q := by
    funext a; apply Fin.ext; fin_cases a <;> rfl
  have hk := k.isLt
  have hq := q.isLt
  have hl : idx_main_v5 (idx_main_v6 (lidx_main_v26 (ix4 b g e q) k)) = ix3 g (Cert.Attn.tok R.val k.val) ⟨e.val, by omega⟩ := by
    funext a; apply Fin.ext; fin_cases a <;> simp [Cert.Attn.tok, hR] <;> omega
  rw [hr, val_main_v25_apply, weight_apply Q K g b q k R hR, val_main_v24_apply, val_main_v23_apply, hd, sum_apply Q K g b q R hR,
    val_main_v6_apply, val_main_v5_apply, val_main_v4_apply, hl, mul_comm]
  rfl

/-- For finite queries and keys, and values holding a one in lane 64, the reference is the quotient the kernel stores. -/
theorem reference_eq (Q K V : Cert.Attn.Arr) (hQ : ∀ i, Q i ≠ ⊤ ∧ Q i ≠ ⊥) (hK : ∀ i, K i ≠ ⊤ ∧ K i ≠ ⊥)
    (hV : ∀ g R, V (ix3 g R 64) = 1) : val_main_v29 (F := Ideal) Q K V = Cert.Attn.attn Q K V := by
  funext j
  obtain ⟨R, C, rfl⟩ : ∃ (R : Fin 32768) (C : Fin 512), j = ix2 R C := ⟨j 0, j 1, by funext a; fin_cases a <;> rfl⟩
  rw [val_main_v29_apply, val_main_v28_apply, val_main_v27_apply]
  have hi : idx_main_v27 (idx_main_v28 (ix2 R C))
      = ix4 (⟨R.val / 8192, by omega⟩ : Fin 4) (⟨C.val / 64, by omega⟩ : Fin 8) (⟨C.val % 64, by omega⟩ : Fin 64)
          (⟨R.val % 8192, by omega⟩ : Fin 8192) := by
    funext a; apply Fin.ext; fin_cases a <;> simp <;> omega
  rw [hi, out_apply Q K V _ _ _ _ R (by simp only; omega)]
  have h1 : Cert.Attn.valAt V (⟨C.val / 64, by omega⟩ : Fin 8) R 64 = fun _ => 1 := funext fun c => hV _ _
  unfold Cert.Attn.attn Cert.Attn.quotAt
  refine (Cert.Attn.softmax_eq _ _ 8192 ?_ ?_).symm.trans ?_
  · exact Cert.Attn.scoreAt_ne_top Q K hQ hK _ _
  · exact ⟨R.val % 8192, by omega, Cert.Attn.scoreAt_ne_bot Q K hQ hK _ _ _ le_rfl⟩
  · show _ = Ideal.div _ (Cert.Attn.acc _ (Cert.Attn.valAt V (⟨C.val / 64, _⟩ : Fin 8) R 64) _)
    rw [h1]
    rfl

end Cert.ReferenceIdeal.Attn

end

end
-- ==== Proof.Attention.lean ====
/- The attention's claims: the reference's frame, and that the kernel and the reference end with the same array. -/
module

public import proofs.«01_k».proof.Defs
public import proofs.«01_k».proof.Proof.Final
public import proofs.«01_k».proof.Proof.Reference
public import Idealize.ShloMosaic.Adequacy
public import Idealize.ShloMosaic.Init

@[expose] public section

noncomputable section

namespace Cert.Proof.Attention

open Idealize.ShloMosaic Idealize.SL.Sem

/-- The reference runs, keeps its arguments and has no counter to leave. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The kernel and the reference end with the same array. -/
theorem value : Cert.algebraic_KernelIdeal_ReferenceIdeal_pre_attention_inputs := by
  intro m g m' g' hpre hag
  refine ⟨fun c => Cert.Attn.attn (m ((c.tc : Thread _ _).loc Cert.KernelIdeal.main_arg0))
    (m ((c.tc : Thread _ _).loc Cert.KernelIdeal.main_arg1)) (m ((c.tc : Thread _ _).loc Cert.KernelIdeal.main_arg2)), ?_, ?_⟩
  · exact (θ_run Cert.KernelIdeal.defs _ _).mono
      (fun r h c => ⟨(h c).1.trans (Cert.KernelIdeal.Attn.final m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨hQ, hK, hV⟩ := Cert.Attn.inputs _ _ _ (hpre c)
    rw [Cert.ReferenceIdeal.Read.val_main_v29_eq, (hag c).1, (hag c).2.1, (hag c).2.2]
    exact Cert.ReferenceIdeal.Attn.reference_eq _ _ _ hQ hK hV

end Cert.Proof.Attention

end

end
-- ==== Proof.Proj2.lean ====
/- The combined projection, the part the first branch reads: columns 0 to 383 of the joined weight. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Proj2

open Cert.Kernel2Ideal Cert.Kernel2Ideal.Gen Idealize.ShloMosaic Idealize.ShloMosaic.Tactic Idealize.SL.Sem
open Idealize.ShloMosaic.TcCoe

/-- The column of the joined weight that column `x` of this part is. -/
def col (x : Fin 384) : Fin 5416 := ⟨0 + x.val, by have := x.isLt; omega⟩

/-- The product of row `y 0` with the weight's column for `y 1`. -/
def prod (h : Vec Ideal S32768x1024 .f32) (w : Vec Ideal S1024x5416 .f32) : Vec Ideal S32768x384 .f32 :=
  fun y => ∑ k : Fin 1024, h (ix2 (y 0) k) * w (ix2 k (col (y 1)))

/-- What a grid point stores, at an index: a row of its rows times a column of its weight. -/
theorem pay_apply (a : Vec Ideal S512x1024 .f32) (b : Vec Ideal S1024x384 .bf16) (r : Fin 512) (x : Fin 384) :
    k0_pay1 (F := Ideal) a b (ix2 r x) = ∑ k : Fin 1024, a (ix2 r k) * b (ix2 k x) := by
  pointwise [k0_pay1]

/-- Where the three windows stand at a grid point. -/
theorem idx (t : Fin grid0.N) :
    win0_0.index t = ![(grid0.coords t 0).val, 0]
    ∧ win0_1.index t = ![0, (grid0.coords t 1).val]
    ∧ win0_2.index t = ![(grid0.coords t 0).val, (grid0.coords t 1).val] := by
  revert t; decide +kernel

variable (m : (ℓ : Loc nD τ sig) → Buf (Elt Ideal) ℓ) (c : Dev nD)

/-- A block of rows at an index. -/
theorem h_at (t : Fin grid0.N) (r : Fin 512) (k : Fin 1024) (R : Fin 32768)
    (hR : R.val = 512 * (grid0.coords t 0).val + r.val) :
    iblk (F := Ideal) m c 0 t (ix2 r k) = m ((c : Thread nD τ).loc main_arg0) (ix2 R k) := by
  obtain ⟨e0, -⟩ := idx t
  blk_ext [iblk, V, e0]

/-- The weight as the host leaves it for the kernel, at an index. -/
theorem entry (k : Fin 1024) (x : Fin 384) : (V m c main_v1 : Vec Ideal S1024x384 .bf16) (ix2 k x)
    = m ((c : Thread nD τ).loc main_arg1) (ix2 k (col x)) := by
  unfold col
  entry_read
  pointwise

/-- A block of the weight at an index. -/
theorem w_at (t : Fin grid0.N) (k : Fin 1024) (x : Fin 384) (C : Fin 384)
    (hC : C.val = 384 * (grid0.coords t 1).val + x.val) :
    iblk (F := Ideal) m c 1 t (ix2 k x) = m ((c : Thread nD τ).loc main_arg1) (ix2 k (col C)) := by
  obtain ⟨-, e1, -⟩ := idx t
  have h0 : (((win0_1.blk t).view.emb (ix2 k x)) 0 : ℕ) = k.val := by
    blk_simp [e1]
  have h1 : (((win0_1.blk t).view.emb (ix2 k x)) 1 : ℕ) = 384 * (grid0.coords t 1).val + x.val := by
    blk_simp [e1]; ring
  have h : iblk (F := Ideal) m c 1 t (ix2 k x) = (V m c main_v1 : Vec Ideal S1024x384 .bf16) ((win0_1.blk t).view.emb (ix2 k x)) := rfl
  rw [h, ← entry m c k C]
  refine congrArg (V m c main_v1 : Vec Ideal S1024x384 .bf16) ?_
  funext a
  fin_cases a
  · exact Fin.ext h0
  · exact Fin.ext (h1.trans hC.symm)

/-- The output array. -/
theorem final : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 384), y = ix2 r x := ⟨y 0, y 1, by funext a; fin_cases a <;> rfl⟩
  obtain ⟨-, -, e2⟩ := idx t
  have h0 : (((win0_2.blk t).view.emb (ix2 r x)) 0 : ℕ) = 512 * (grid0.coords t 0).val + r.val := by
    blk_simp [e2]; ring
  have h1 : (((win0_2.blk t).view.emb (ix2 r x)) 1 : ℕ) = 384 * (grid0.coords t 1).val + x.val := by
    blk_simp [e2]; ring
  frame_out
  refine (pay_apply _ _ r x).trans (Finset.sum_congr rfl fun k _ => ?_)
  rw [h_at m c t r k _ h0, w_at m c t k x _ h1]

/-- The reference's array. -/
theorem reference_eq (h : Vec Ideal S32768x1024 .f32) (w : Vec Ideal S1024x5416 .f32) :
    Cert.Reference2Ideal.Read.val_main_v1 (F := Ideal) h w = prod h w := by
  funext y
  rw [Cert.Reference2Ideal.Read.val_main_v1_apply, Cert.Reference2Ideal.Read.val_main_v0_apply]
  unfold prod
  refine Finset.sum_congr rfl fun k _ => ?_
  congr 1
  · refine congrArg h ?_
    funext a; fin_cases a <;> rfl
  · refine congrArg w ?_
    funext a
    fin_cases a
    · rfl
    · exact Fin.ext (by simp [col])

/-- The reference runs, keeps its arguments and has no counter to leave. -/
theorem frame_reference (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
        ∧ r.2.sem = fun _ => 0) :=
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The kernel and the reference end with the same array. -/
theorem value : Cert.algebraic_Kernel2Ideal_Reference2Ideal := by
  intro m g m' g' hpre hag
  refine ⟨fun c => prod (m ((c.tc : Thread _ _).loc Cert.Kernel2Ideal.main_arg0))
    (m ((c.tc : Thread _ _).loc Cert.Kernel2Ideal.main_arg1)), ?_, ?_⟩
  · exact (θ_run Cert.Kernel2Ideal.defs _ _).mono
      (fun r h c => ⟨(h c).1.trans (final m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    rw [Cert.Reference2Ideal.Read.val_main_v1_eq, (hag c).1, (hag c).2]
    exact reference_eq _ _

end Cert.Proof.Proj2

end

end
-- ==== Proof.Proj3.lean ====
/- The combined projection, the part the second branch reads: columns 384 to 1919 of the joined weight. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Proj3

open Cert.Kernel3Ideal Cert.Kernel3Ideal.Gen Idealize.ShloMosaic Idealize.ShloMosaic.Tactic Idealize.SL.Sem
open Idealize.ShloMosaic.TcCoe

/-- The column of the joined weight that column `x` of this part is. -/
def col (x : Fin 1536) : Fin 5416 := ⟨384 + x.val, by have := x.isLt; omega⟩

/-- The product of row `y 0` with the weight's column for `y 1`. -/
def prod (h : Vec Ideal S32768x1024 .f32) (w : Vec Ideal S1024x5416 .f32) : Vec Ideal S32768x1536 .f32 :=
  fun y => ∑ k : Fin 1024, h (ix2 (y 0) k) * w (ix2 k (col (y 1)))

/-- What a grid point stores, at an index: a row of its rows times a column of its weight. -/
theorem pay_apply (a : Vec Ideal S512x1024 .f32) (b : Vec Ideal S1024x768 .bf16) (r : Fin 512) (x : Fin 768) :
    k0_pay1 (F := Ideal) a b (ix2 r x) = ∑ k : Fin 1024, a (ix2 r k) * b (ix2 k x) := by
  pointwise [k0_pay1]

/-- Where the three windows stand at a grid point. -/
theorem idx (t : Fin grid0.N) :
    win0_0.index t = ![(grid0.coords t 0).val, 0]
    ∧ win0_1.index t = ![0, (grid0.coords t 1).val]
    ∧ win0_2.index t = ![(grid0.coords t 0).val, (grid0.coords t 1).val] := by
  revert t; decide +kernel

variable (m : (ℓ : Loc nD τ sig) → Buf (Elt Ideal) ℓ) (c : Dev nD)

/-- A block of rows at an index. -/
theorem h_at (t : Fin grid0.N) (r : Fin 512) (k : Fin 1024) (R : Fin 32768)
    (hR : R.val = 512 * (grid0.coords t 0).val + r.val) :
    iblk (F := Ideal) m c 0 t (ix2 r k) = m ((c : Thread nD τ).loc main_arg0) (ix2 R k) := by
  obtain ⟨e0, -⟩ := idx t
  blk_ext [iblk, V, e0]

/-- The weight as the host leaves it for the kernel, at an index. -/
theorem entry (k : Fin 1024) (x : Fin 1536) : (V m c main_v1 : Vec Ideal S1024x1536 .bf16) (ix2 k x)
    = m ((c : Thread nD τ).loc main_arg1) (ix2 k (col x)) := by
  unfold col
  entry_read
  pointwise

/-- A block of the weight at an index. -/
theorem w_at (t : Fin grid0.N) (k : Fin 1024) (x : Fin 768) (C : Fin 1536)
    (hC : C.val = 768 * (grid0.coords t 1).val + x.val) :
    iblk (F := Ideal) m c 1 t (ix2 k x) = m ((c : Thread nD τ).loc main_arg1) (ix2 k (col C)) := by
  obtain ⟨-, e1, -⟩ := idx t
  have h0 : (((win0_1.blk t).view.emb (ix2 k x)) 0 : ℕ) = k.val := by
    blk_simp [e1]
  have h1 : (((win0_1.blk t).view.emb (ix2 k x)) 1 : ℕ) = 768 * (grid0.coords t 1).val + x.val := by
    blk_simp [e1]; ring
  have h : iblk (F := Ideal) m c 1 t (ix2 k x) = (V m c main_v1 : Vec Ideal S1024x1536 .bf16) ((win0_1.blk t).view.emb (ix2 k x)) := rfl
  rw [h, ← entry m c k C]
  refine congrArg (V m c main_v1 : Vec Ideal S1024x1536 .bf16) ?_
  funext a
  fin_cases a
  · exact Fin.ext h0
  · exact Fin.ext (h1.trans hC.symm)

/-- The output array. -/
theorem final : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 768), y = ix2 r x := ⟨y 0, y 1, by funext a; fin_cases a <;> rfl⟩
  obtain ⟨-, -, e2⟩ := idx t
  have h0 : (((win0_2.blk t).view.emb (ix2 r x)) 0 : ℕ) = 512 * (grid0.coords t 0).val + r.val := by
    blk_simp [e2]; ring
  have h1 : (((win0_2.blk t).view.emb (ix2 r x)) 1 : ℕ) = 768 * (grid0.coords t 1).val + x.val := by
    blk_simp [e2]; ring
  frame_out
  refine (pay_apply _ _ r x).trans (Finset.sum_congr rfl fun k _ => ?_)
  rw [h_at m c t r k _ h0, w_at m c t k x _ h1]

/-- The reference's array. -/
theorem reference_eq (h : Vec Ideal S32768x1024 .f32) (w : Vec Ideal S1024x5416 .f32) :
    Cert.Reference3Ideal.Read.val_main_v2 (F := Ideal) h w = prod h w := by
  funext y
  rw [Cert.Reference3Ideal.Read.val_main_v2_apply, Cert.Reference3Ideal.Read.val_main_v0_apply]
  unfold prod
  refine Finset.sum_congr rfl fun k _ => ?_
  congr 1
  · refine congrArg h ?_
    funext a; fin_cases a <;> rfl
  · refine congrArg w ?_
    funext a
    fin_cases a
    · rfl
    · exact Fin.ext (by simp [col])

/-- The reference runs, keeps its arguments and has no counter to leave. -/
theorem frame_reference (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The kernel and the reference end with the same array. -/
theorem value : Cert.algebraic_Kernel3Ideal_Reference3Ideal := by
  intro m g m' g' hpre hag
  refine ⟨fun c => prod (m ((c.tc : Thread _ _).loc Cert.Kernel3Ideal.main_arg0))
    (m ((c.tc : Thread _ _).loc Cert.Kernel3Ideal.main_arg1)), ?_, ?_⟩
  · exact (θ_run Cert.Kernel3Ideal.defs _ _).mono
      (fun r h c => ⟨(h c).1.trans (final m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    rw [Cert.Reference3Ideal.Read.val_main_v2_eq, (hag c).1, (hag c).2]
    exact reference_eq _ _

end Cert.Proof.Proj3

end

end
-- ==== Proof.Finite.lean ====
/- Finite extended reals: a sum of their products is negated with its terms. -/
module

public import proofs.«01_k».proof.Proof.Spec

@[expose] public section

noncomputable section

namespace Cert.Proof

/-- Neither of the two infinities. -/
def Finite (x : EReal) : Prop := x ≠ ⊤ ∧ x ≠ ⊥

/-- Finite numbers are reals. -/
theorem reals {ι : Type*} (a : ι → EReal) (h : ∀ i, Finite (a i)) : ∃ b : ι → ℝ, a = fun i => (b i : EReal) :=
  ⟨fun i => (a i).toReal, funext fun i => (EReal.coe_toReal (h i).1 (h i).2).symm⟩

/-- A finite row times negated finite weights is the negated product. -/
theorem sum_neg {n : ℕ} (a b : Fin n → EReal) (ha : ∀ i, Finite (a i)) (hb : ∀ i, Finite (b i)) :
    ∑ i, a i * -b i = -∑ i, a i * b i := by
  obtain ⟨x, rfl⟩ := reals a ha
  obtain ⟨y, rfl⟩ := reals b hb
  simp only [← EReal.coe_neg, ← EReal.coe_mul, ← Cert.Attn.coe_sum]
  simp

end Cert.Proof

end

end
-- ==== Proof.Proj4.lean ====
/- The combined projection, the small inputs of the second and third branches, with the host code that lays the weight out in 512 columns. -/
module

public import proofs.«01_k».proof.Defs
public import proofs.«01_k».proof.Proof.Finite
public import proofs.«01_k».proof.Proof.Inputs
public import proofs.«01_k».proof.Proof.Gen.Pre_small_inputs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Exec
public import Idealize.ShloMosaic.Lib.Tactic
public import Idealize.ShloMosaic.Lib.Pointwise
public import Idealize.ShloMosaic.Lib.Claim
public import Idealize.ShloMosaic.Lib.StableHlo.RunRead
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Proj4

open Cert.Kernel4Ideal Cert.Kernel4Ideal.Gen Idealize.ShloMosaic Idealize.ShloMosaic.Tactic Idealize.SL.Sem
open Idealize.ShloMosaic.TcCoe
open Cert.Attn (of_ofBool ofBits_posInf finite_of_abs andi_split)

/-- A row of small inputs, from the columns of the joined product: the queries' and the keys' rows, the steps, zeros, the
shared part of the keys, and that part turned. -/
def lay (p : Fin 5416 → EReal) (x : Fin 512) : EReal :=
  if h1 : x.val < 384 then p ⟨1928 + x.val, by omega⟩
  else if h2 : x.val < 392 then p ⟨1920 + (x.val - 384), by omega⟩
  else if x.val < 448 then 0
  else if h4 : x.val < 480 then p ⟨2312 + (x.val - 448), by omega⟩
  else if h5 : x.val < 496 then -p ⟨2328 + (x.val - 480), by omega⟩
  else p ⟨2312 + (x.val - 496), by omega⟩

/-- The small inputs: the product of a row with the joined weight, laid out. -/
def prod (h : Vec Ideal S32768x1024 .f32) (w : Vec Ideal S1024x5416 .f32) : Vec Ideal S32768x512 .f32 :=
  fun y => lay (fun j => ∑ k : Fin 1024, h (ix2 (y 0) k) * w (ix2 k j)) (y 1)

/-- Where the rows are finite, and the columns that are negated, the product with the laid-out weight is the product laid out. -/
theorem lay_sum (a : Fin 1024 → EReal) (w : Vec Ideal S1024x5416 .f32) (ha : ∀ k, Finite (a k))
    (hw : ∀ (k : Fin 1024) (i : Fin 16), Finite (w (ix2 k ⟨2328 + i.val, by omega⟩))) (x : Fin 512) :
    ∑ k : Fin 1024, a k * lay (fun j => w (ix2 k j)) x = lay (fun j => ∑ k : Fin 1024, a k * w (ix2 k j)) x := by
  unfold lay
  split_ifs with h1 h2 h3 h4 h5
  · rfl
  · rfl
  · simp only [mul_zero, Finset.sum_const_zero]
  · rfl
  · exact sum_neg a _ ha fun k => hw k ⟨x.val - 480, by omega⟩
  · rfl

/-- What a grid point stores, at an index: a row of its rows times a column of its weight. -/
theorem pay_apply (a : Vec Ideal S512x1024 .f32) (b : Vec Ideal S1024x512 .bf16) (r : Fin 512) (x : Fin 512) :
    k0_pay1 (F := Ideal) a b (ix2 r x) = ∑ k : Fin 1024, a (ix2 r k) * b (ix2 k x) := by
  pointwise [k0_pay1]

/-- Where the three windows stand at a grid point. -/
theorem idx (t : Fin grid0.N) :
    win0_0.index t = ![(grid0.coords t 0).val, 0]
    ∧ win0_1.index t = ![0, (grid0.coords t 1).val]
    ∧ win0_2.index t = ![(grid0.coords t 0).val, (grid0.coords t 1).val] := by
  revert t; decide +kernel

variable (m : (ℓ : Loc nD τ sig) → Buf (Elt Ideal) ℓ) (c : Dev nD)

/-- A block of rows at an index. -/
theorem h_at (t : Fin grid0.N) (r : Fin 512) (k : Fin 1024) (R : Fin 32768)
    (hR : R.val = 512 * (grid0.coords t 0).val + r.val) :
    iblk (F := Ideal) m c 0 t (ix2 r k) = m ((c : Thread nD τ).loc main_arg0) (ix2 R k) := by
  obtain ⟨e0, -⟩ := idx t
  blk_ext [iblk, V, e0]

/-- The weight as the host leaves it for the kernel, at an index. -/
theorem entry (k : Fin 1024) (x : Fin 512) : (V m c main_v9 : Vec Ideal S1024x512 .bf16) (ix2 k x)
    = lay (fun j => (m ((c : Thread nD τ).loc main_arg1) : Vec Ideal S1024x5416 .f32) (ix2 k j)) x := by
  dsimp only [V]; after_reads_simp; pointwise; after_reads_simp; pointwise
  have e (i j : Fin 5416) (h : i.val = j.val) := congrArg
    (fun i => (m ((c : Thread nD τ).loc main_arg1) : Vec Ideal S1024x5416 .f32) (ix2 k i)) (Fin.ext h)
  unfold lay
  repeat' split
  all_goals first
    | omega
    | rfl
    | exact e _ _ (by dsimp only <;> omega)
    | exact congrArg (fun z : EReal => -z) (e _ _ (by dsimp only <;> omega))

/-- A block of the weight at an index. -/
theorem w_at (t : Fin grid0.N) (k : Fin 1024) (x : Fin 512) (C : Fin 512)
    (hC : C.val = 512 * (grid0.coords t 1).val + x.val) :
    iblk (F := Ideal) m c 1 t (ix2 k x) = lay (fun j => (m ((c : Thread nD τ).loc main_arg1) : Vec Ideal S1024x5416 .f32) (ix2 k j)) C := by
  obtain ⟨-, e1, -⟩ := idx t
  have h0 : (((win0_1.blk t).view.emb (ix2 k x)) 0 : ℕ) = k.val := by
    blk_simp [e1]
  have h1 : (((win0_1.blk t).view.emb (ix2 k x)) 1 : ℕ) = 512 * (grid0.coords t 1).val + x.val := by
    blk_simp [e1]; ring
  have h : iblk (F := Ideal) m c 1 t (ix2 k x) = (V m c main_v9 : Vec Ideal S1024x512 .bf16) ((win0_1.blk t).view.emb (ix2 k x)) := rfl
  rw [h, ← entry m c k C]
  refine congrArg (V m c main_v9 : Vec Ideal S1024x512 .bf16) ?_
  funext a
  fin_cases a
  · exact Fin.ext h0
  · exact Fin.ext (h1.trans hC.symm)

/-- The output array. -/
theorem final (hh : ∀ i, Finite ((m ((c : Thread nD τ).loc main_arg0) : Vec Ideal S32768x1024 .f32) i))
    (hw : ∀ (k : Fin 1024) (i : Fin 16), Finite ((m ((c : Thread nD τ).loc main_arg1) : Vec Ideal S1024x5416 .f32) (ix2 k ⟨2328 + i.val, by omega⟩))) :
    (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 512), y = ix2 r x := ⟨y 0, y 1, by funext a; fin_cases a <;> rfl⟩
  obtain ⟨-, -, e2⟩ := idx t
  have h0 : (((win0_2.blk t).view.emb (ix2 r x)) 0 : ℕ) = 512 * (grid0.coords t 0).val + r.val := by
    blk_simp [e2]; ring
  have h1 : (((win0_2.blk t).view.emb (ix2 r x)) 1 : ℕ) = 512 * (grid0.coords t 1).val + x.val := by
    blk_simp [e2]; ring
  frame_out
  refine (pay_apply _ _ r x).trans (Eq.trans ?_ (lay_sum _ _ (fun k => hh _) hw _))
  refine Finset.sum_congr rfl fun k _ => ?_
  rw [h_at m c t r k _ h0, w_at m c t k x _ h1]

/-- The reference's array. -/
theorem reference_eq (h : Vec Ideal S32768x1024 .f32) (w : Vec Ideal S1024x5416 .f32) :
    Cert.Reference4Ideal.Read.val_main_v11 (F := Ideal) h w = prod h w := by
  refine funext fun y => ?_
  obtain ⟨R, x, rfl⟩ : ∃ (R : Fin 32768) (x : Fin 512), y = ix2 R x := ⟨y 0, y 1, by funext a; fin_cases a <;> rfl⟩
  change _ = lay (fun j => ∑ k : Fin 1024, h (ix2 R k) * w (ix2 k j)) x
  pointwise [Cert.Reference4Ideal.Read.val_main_v11, Cert.Reference4Ideal.Read.val_main_v10, Cert.Reference4Ideal.Read.val_main_v9,
    Cert.Reference4Ideal.Read.val_main_v8, Cert.Reference4Ideal.Read.val_main_v7, Cert.Reference4Ideal.Read.val_main_v5,
    Cert.Reference4Ideal.Read.val_main_v4, Cert.Reference4Ideal.Read.val_main_v3, Cert.Reference4Ideal.Read.val_main_v2,
    Cert.Reference4Ideal.Read.val_main_v0, Cert.Reference4Ideal.Read.val_main_cst]
  have e (i j : Fin 5416) (h' : i.val = j.val) := congrArg (fun i => (∑ k : Fin 1024, h (ix2 R k) * w (ix2 k i) : EReal)) (Fin.ext h')
  unfold lay
  repeat' split
  all_goals first
    | omega
    | rfl
    | exact e _ _ (by dsimp only <;> omega)
    | exact congrArg (fun z : EReal => -z) (e _ _ (by dsimp only <;> omega))

/-- What the precondition gives. -/
theorem inputs (h : Vec Ideal S32768x1024 .f32) (w : Vec Ideal S1024x5416 .f32)
    (e : Cert.Pre_small_inputs.fn (F := Ideal) h w = fun _ => 1#1) :
    (∀ i, Finite (h i)) ∧ ∀ (k : Fin 1024) (i : Fin 16), Finite (w (ix2 k ⟨2328 + i.val, by omega⟩)) := by
  have h0 := congrFun e default
  dsimp only [Cert.Pre_small_inputs.fn] at h0
  obtain ⟨hh, hw⟩ := andi_split _ _ h0
  refine ⟨fun i => ?_, fun k i => ?_⟩
  · have := Host.reduce_andi_all _ _ _ _ _ hh i
    pointwise at this
    rw [ofBits_posInf] at this
    exact finite_of_abs _ (of_ofBool this)
  · have := Host.reduce_andi_all _ _ _ _ _ hw (ix2 k i)
    pointwise at this
    rw [ofBits_posInf] at this
    exact finite_of_abs _ (of_ofBool this)

/-- The reference runs, keeps its arguments and has no counter to leave. -/
theorem frame_reference (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal)))
      ⟨m, fun _ => 0, ρ⟩ (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
        ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The kernel and the reference end with the same array. -/
theorem value : Cert.algebraic_Kernel4Ideal_Reference4Ideal_pre_small_inputs := by
  intro m g m' g' hpre hag
  refine ⟨fun c => prod (m ((c.tc : Thread _ _).loc Cert.Kernel4Ideal.main_arg0))
    (m ((c.tc : Thread _ _).loc Cert.Kernel4Ideal.main_arg1)), ?_, ?_⟩
  · exact (θ_run Cert.Kernel4Ideal.defs _ _).mono
      (fun r h c => ⟨(h c).1.trans (final m c (inputs _ _ (hpre c)).1 (inputs _ _ (hpre c)).2), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    rw [Cert.Reference4Ideal.Read.val_main_v11_eq, (hag c).1, (hag c).2]
    exact reference_eq _ _

end Cert.Proof.Proj4

end

end
-- ==== Proof.Proj5.lean ====
/- The combined projection, the gates: columns 2344 to 5415 of the joined weight. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Proj5

open Cert.Kernel5Ideal Cert.Kernel5Ideal.Gen Idealize.ShloMosaic Idealize.ShloMosaic.Tactic Idealize.SL.Sem
open Idealize.ShloMosaic.TcCoe

/-- The column of the joined weight that column `x` of this part is. -/
def col (x : Fin 3072) : Fin 5416 := ⟨2344 + x.val, by have := x.isLt; omega⟩

/-- The product of row `y 0` with the weight's column for `y 1`. -/
def prod (h : Vec Ideal S32768x1024 .f32) (w : Vec Ideal S1024x5416 .f32) : Vec Ideal S32768x3072 .bf16 :=
  fun y => ∑ k : Fin 1024, h (ix2 (y 0) k) * w (ix2 k (col (y 1)))

/-- What a grid point stores, at an index: a row of its rows times a column of its weight. -/
theorem pay_apply (a : Vec Ideal S512x1024 .f32) (b : Vec Ideal S1024x1024 .bf16) (r : Fin 512) (x : Fin 1024) :
    k0_pay1 (F := Ideal) a b (ix2 r x) = ∑ k : Fin 1024, a (ix2 r k) * b (ix2 k x) := by
  pointwise [k0_pay1]

/-- Where the three windows stand at a grid point. -/
theorem idx (t : Fin grid0.N) :
    win0_0.index t = ![(grid0.coords t 0).val, 0]
    ∧ win0_1.index t = ![0, (grid0.coords t 1).val]
    ∧ win0_2.index t = ![(grid0.coords t 0).val, (grid0.coords t 1).val] := by
  revert t; decide +kernel

variable (m : (ℓ : Loc nD τ sig) → Buf (Elt Ideal) ℓ) (c : Dev nD)

/-- A block of rows at an index. -/
theorem h_at (t : Fin grid0.N) (r : Fin 512) (k : Fin 1024) (R : Fin 32768)
    (hR : R.val = 512 * (grid0.coords t 0).val + r.val) :
    iblk (F := Ideal) m c 0 t (ix2 r k) = m ((c : Thread nD τ).loc main_arg0) (ix2 R k) := by
  obtain ⟨e0, -⟩ := idx t
  blk_ext [iblk, V, e0]

/-- The weight as the host leaves it for the kernel, at an index. -/
theorem entry (k : Fin 1024) (x : Fin 3072) : (V m c main_v1 : Vec Ideal S1024x3072 .bf16) (ix2 k x)
    = m ((c : Thread nD τ).loc main_arg1) (ix2 k (col x)) := by
  unfold col
  entry_read
  pointwise

/-- A block of the weight at an index. -/
theorem w_at (t : Fin grid0.N) (k : Fin 1024) (x : Fin 1024) (C : Fin 3072)
    (hC : C.val = 1024 * (grid0.coords t 1).val + x.val) :
    iblk (F := Ideal) m c 1 t (ix2 k x) = m ((c : Thread nD τ).loc main_arg1) (ix2 k (col C)) := by
  obtain ⟨-, e1, -⟩ := idx t
  have h0 : (((win0_1.blk t).view.emb (ix2 k x)) 0 : ℕ) = k.val := by
    blk_simp [e1]
  have h1 : (((win0_1.blk t).view.emb (ix2 k x)) 1 : ℕ) = 1024 * (grid0.coords t 1).val + x.val := by
    blk_simp [e1]; ring
  have h : iblk (F := Ideal) m c 1 t (ix2 k x) = (V m c main_v1 : Vec Ideal S1024x3072 .bf16) ((win0_1.blk t).view.emb (ix2 k x)) := rfl
  rw [h, ← entry m c k C]
  refine congrArg (V m c main_v1 : Vec Ideal S1024x3072 .bf16) ?_
  funext a
  fin_cases a
  · exact Fin.ext h0
  · exact Fin.ext (h1.trans hC.symm)

/-- The output array. -/
theorem final : (dats (F := Ideal) m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, x, rfl⟩ : ∃ (r : Fin 512) (x : Fin 1024), y = ix2 r x := ⟨y 0, y 1, by funext a; fin_cases a <;> rfl⟩
  obtain ⟨-, -, e2⟩ := idx t
  have h0 : (((win0_2.blk t).view.emb (ix2 r x)) 0 : ℕ) = 512 * (grid0.coords t 0).val + r.val := by
    blk_simp [e2]; ring
  have h1 : (((win0_2.blk t).view.emb (ix2 r x)) 1 : ℕ) = 1024 * (grid0.coords t 1).val + x.val := by
    blk_simp [e2]; ring
  frame_out
  refine (pay_apply _ _ r x).trans (Finset.sum_congr rfl fun k _ => ?_)
  rw [h_at m c t r k _ h0, w_at m c t k x _ h1]

/-- The reference's array. -/
theorem reference_eq (h : Vec Ideal S32768x1024 .f32) (w : Vec Ideal S1024x5416 .f32) :
    Cert.Reference5Ideal.Read.val_main_v3 (F := Ideal) h w = prod h w := by
  funext y
  rw [Cert.Reference5Ideal.Read.val_main_v3_apply, Cert.Reference5Ideal.Read.val_main_v2_apply, Cert.Reference5Ideal.Read.val_main_v0_apply]
  unfold prod
  show (∑ k : Fin 1024, _) = _
  refine Finset.sum_congr rfl fun k _ => ?_
  congr 1
  · refine congrArg h ?_
    funext a; fin_cases a <;> rfl
  · refine congrArg w ?_
    funext a
    fin_cases a
    · rfl
    · exact Fin.ext (by simp [col])

/-- The reference runs, keeps its arguments and has no counter to leave. -/
theorem frame_reference (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal)))
      ⟨m, fun _ => 0, ρ⟩ (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
        ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The kernel and the reference end with the same array. -/
theorem value : Cert.algebraic_Kernel5Ideal_Reference5Ideal := by
  intro m g m' g' hpre hag
  refine ⟨fun c => prod (m ((c.tc : Thread _ _).loc Cert.Kernel5Ideal.main_arg0))
    (m ((c.tc : Thread _ _).loc Cert.Kernel5Ideal.main_arg1)), ?_, ?_⟩
  · exact (θ_run Cert.Kernel5Ideal.defs _ _).mono
      (fun r h c => ⟨(h c).1.trans (final m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    rw [Cert.Reference5Ideal.Read.val_main_v3_eq, (hag c).1, (hag c).2]
    exact reference_eq _ _

end Cert.Proof.Proj5

end

end
-- ==== Proof.MergeSpec.lean ====
/- The merge as a function of its arrays: three gated branches, the output product, the residual, the layer norm and
   the experts' query. -/
module

public import proofs.«01_k».proof.Proof.Gen.Kernel6Ideal.Value
public import Idealize.ShloMosaic.Lib.Exec
public import Idealize.ShloMosaic.Lib.Tactic
public import Idealize.ShloMosaic.Lib.Pointwise

@[expose] public section

noncomputable section

namespace Cert.Proof.Merge

open Cert.Kernel6Ideal Idealize.ShloMosaic Idealize.ShloMosaic.Tactic

/-- An array of `a` rows and `b` columns of extended reals. -/
abbrev Arr (a b : ℕ) := Fin a → Fin b → EReal

/-- The logistic function. -/
def gate (v : EReal) : EReal := Ideal.div 1 (1 + Ideal.exp (-v))

/-- Column `n` of the three gated branches' sum, from the row of gates and the three branches' products. -/
def mixed (gt : Fin 3072 → EReal) (a b c : Fin 1024 → EReal) (n : Fin 1024) : EReal :=
  gate (gt ⟨n.val, by have := n.isLt; omega⟩) * a n
    + gate (gt ⟨1024 + n.val, by have := n.isLt; omega⟩) * b n
    + gate (gt ⟨2048 + n.val, by have := n.isLt; omega⟩) * c n

/-- Column `j` of a row times a matrix. -/
def times {p q : ℕ} (a : Fin p → EReal) (w : Arr p q) (j : Fin q) : EReal := ∑ k : Fin p, a k * w k j

/-- The mean of a row. -/
def mean (s : Fin 1024 → EReal) : EReal := Ideal.div (∑ i : Fin 1024, s i) (Ideal.ofBits .f32 0x44800000#32)

/-- The layer norm of a row, scaled and shifted. -/
def norm (s g b : Fin 1024 → EReal) (j : Fin 1024) : EReal :=
  (s j - mean s)
    * Ideal.rsqrt (Ideal.div (∑ i : Fin 1024, (s i - mean s) * (s i - mean s)) (Ideal.ofBits .f32 0x44800000#32)
        + Ideal.ofBits .f32 0x3727C5AC#32)
    * g j + b j

/-- A row of the residual: the square root of two times the row that came in, and the branches' mix. -/
def resid (h : Fin 1024 → EReal) (ya : Fin 384 → EReal) (yb yc : Fin 512 → EReal) (gt : Fin 3072 → EReal)
    (wa : Arr 384 1024) (wb wc : Arr 512 1024) (wo : Arr 1024 1024) (j : Fin 1024) : EReal :=
  ((Real.sqrt 2 : ℝ) : EReal) * h j + times (mixed gt (times ya wa) (times yb wb) (times yc wc)) wo j

/-- Row `R` of the residual, from the arrays. -/
def residAt (h : Vec Ideal S32768x1024 .f32) (ya : Vec Ideal S32768x384 .bf16) (yb yc : Vec Ideal S32768x512 .bf16)
    (gt : Vec Ideal S32768x3072 .bf16) (wa : Vec Ideal S384x1024 .f32) (wb wc : Vec Ideal S512x1024 .f32)
    (wo : Vec Ideal S1024x1024 .f32) (R : Fin 32768) : Fin 1024 → EReal :=
  resid (fun i => h (ix2 R i)) (fun k => ya (ix2 R k)) (fun k => yb (ix2 R k)) (fun k => yc (ix2 R k)) (fun n => gt (ix2 R n))
    (fun k n => wa (ix2 k n)) (fun k n => wb (ix2 k n)) (fun k n => wc (ix2 k n)) (fun n j => wo (ix2 n j))

/-- Row `R` of the first output, from the arrays. -/
def normAt (h : Vec Ideal S32768x1024 .f32) (ya : Vec Ideal S32768x384 .bf16) (yb yc : Vec Ideal S32768x512 .bf16)
    (gt : Vec Ideal S32768x3072 .bf16) (wa : Vec Ideal S384x1024 .f32) (wb wc : Vec Ideal S512x1024 .f32)
    (wo : Vec Ideal S1024x1024 .f32) (lg lb : Vec Ideal S1024 .f32) (R : Fin 32768) : Fin 1024 → EReal :=
  norm (residAt h ya yb yc gt wa wb wc wo R) (fun i => lg (ix1 i)) (fun i => lb (ix1 i))

/-- The first output: every row's layer norm. -/
def rows (h : Vec Ideal S32768x1024 .f32) (ya : Vec Ideal S32768x384 .bf16) (yb yc : Vec Ideal S32768x512 .bf16)
    (gt : Vec Ideal S32768x3072 .bf16) (wa : Vec Ideal S384x1024 .f32) (wb wc : Vec Ideal S512x1024 .f32)
    (wo : Vec Ideal S1024x1024 .f32) (lg lb : Vec Ideal S1024 .f32) : Vec Ideal S32768x1024 .f32 :=
  fun y => normAt h ya yb yc gt wa wb wc wo lg lb (y 0) (y 1)

/-- The second output: every normalised row times the query weight. -/
def queries (h : Vec Ideal S32768x1024 .f32) (ya : Vec Ideal S32768x384 .bf16) (yb yc : Vec Ideal S32768x512 .bf16)
    (gt : Vec Ideal S32768x3072 .bf16) (wa : Vec Ideal S384x1024 .f32) (wb wc : Vec Ideal S512x1024 .f32)
    (wo : Vec Ideal S1024x1024 .f32) (lg lb : Vec Ideal S1024 .f32) (wq : Vec Ideal S1024x2048 .f32) : Vec Ideal S32768x2048 .bf16 :=
  fun y => times (normAt h ya yb yc gt wa wb wc wo lg lb (y 0)) (fun n j => wq (ix2 n j)) (y 1)

end Cert.Proof.Merge

end

end
-- ==== Proof.MergePay.lean ====
/- What one grid point of the merge stores, at an index. -/
module

public import proofs.«01_k».proof.Proof.MergeSpec
public import Idealize.ShloMosaic.PureOps.IdealRules

@[expose] public section

set_option maxRecDepth 16384

noncomputable section

namespace Cert.Proof.Merge

open Cert.Kernel6Ideal Cert.Kernel6Ideal.Gen Idealize.ShloMosaic Idealize.ShloMosaic.Tactic Idealize.SL.Sem
open Idealize.ShloMosaic.TcCoe

/-- The named factor is the square root of two. -/
theorem alpha : (Named.named (F := Ideal) κ "alpha" (φ := .f32) 0x3FB504F3#32) = ((Real.sqrt 2 : ℝ) : EReal) :=
  IdealRules.named_const.ideal_named_scalar _ _ _ _ rfl

/-- The branches' mix, of one row of the blocks. -/
theorem pay3_apply (v0 : Vec Ideal S512x3072 .bf16) (v10 : Vec Ideal S512x384 .bf16) (v11 : Vec Ideal S384x1024 .bf16)
    (v16 : Vec Ideal S512x512 .bf16) (v17 : Vec Ideal S512x1024 .bf16) (v23 : Vec Ideal S512x512 .bf16)
    (v24 : Vec Ideal S512x1024 .bf16) (v30 : Vec Ideal S1024x1024 .bf16) (r : Fin 512) (j : Fin 1024) :
    k0_pay3 (F := Ideal) v0 v10 v11 v16 v17 v23 v24 v30 (ix2 r j)
      = times (mixed (fun n => v0 (ix2 r n)) (times (fun k => v10 (ix2 r k)) fun k n => v11 (ix2 k n))
          (times (fun k => v16 (ix2 r k)) fun k n => v17 (ix2 k n)) (times (fun k => v23 (ix2 r k)) fun k n => v24 (ix2 k n)))
          (fun n j => v30 (ix2 n j)) j := by
  pointwise [k0_pay3]
  simp only [zero_sub]
  rfl

/-- The layer norm of the residual, of one row of the blocks. -/
theorem pay1_apply (a : FVec Ideal S512x1024 .f32) (x : Vec Ideal S512x1024 .f32) (g b : Vec Ideal S1x1024 .f32) (r : Fin 512) (j : Fin 1024) :
    k0_pay1 (F := Ideal) a x g b (ix2 r j)
      = norm (fun i => ((Real.sqrt 2 : ℝ) : EReal) * x (ix2 r i) + a (ix2 r i)) (fun i => g (ix2 0 i)) (fun i => b (ix2 0 i)) j := by
  pointwise [k0_pay1]
  simp only [alpha]
  rfl

/-- The experts' query, of one row of the blocks. -/
theorem pay2_apply (a : FVec Ideal S512x1024 .f32) (x : Vec Ideal S512x1024 .f32) (g b : Vec Ideal S1x1024 .f32)
    (w : Vec Ideal S1024x2048 .bf16) (r : Fin 512) (j : Fin 2048) :
    k0_pay2 (F := Ideal) a x g b w (ix2 r j)
      = times (fun n => k0_pay1 (F := Ideal) a x g b (ix2 r n)) (fun n j => w (ix2 n j)) j := by
  unfold k0_pay2
  generalize k0_pay1 (F := Ideal) a x g b = y
  pointwise
  rfl

end Cert.Proof.Merge

end

end
-- ==== Proof.MergeFinal.lean ====
/- The two arrays the merge leaves: the blocks of all grid points together. -/
module

public import proofs.«01_k».proof.Proof.MergePay
public import Idealize.ShloMosaic.Lib.Claim
public import Idealize.ShloMosaic.Lib.Pipeline.Covers
public import Idealize.ShloMosaic.Lib.Pipeline.ValueKit.Acc

@[expose] public section

set_option maxRecDepth 16384

noncomputable section

namespace Cert.Proof.Merge

open Cert.Kernel6Ideal Cert.Kernel6Ideal.Gen Idealize.ShloMosaic Idealize.ShloMosaic.Tactic Idealize.SL.Sem
open Idealize.ShloMosaic.TcCoe

/-- Where the windows that move stand at a grid point. -/
theorem idx (t : Fin grid0.N) :
    win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_12.index t = ![(grid0.coords t 0).val, 0]
    ∧ win0_13.index t = ![(grid0.coords t 0).val, 0] := by
  revert t; decide +kernel

/-- The windows of the weights stand still. -/
theorem idxw (t : Fin grid0.N) :
    win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] := by
  revert t; decide +kernel

variable (m : (ℓ : Loc nD τ sig) → Buf (Elt Ideal) ℓ) (c : Dev nD)

/-- A block of the incoming rows, at an index. -/
theorem row0 (t : Fin grid0.N) (r : Fin 512) (k : Fin 1024) (R : Fin 32768)
    (hR : R.val = 512 * (grid0.coords t 0).val + r.val) :
    iblk (F := Ideal) m c 0 t (ix2 r k) = m ((c : Thread nD τ).loc main_arg0) (ix2 R k) := by
  obtain ⟨e, -⟩ := idx t
  blk_ext [iblk, V, e]

/-- A block of the first branch's rows, at an index. -/
theorem row1 (t : Fin grid0.N) (r : Fin 512) (k : Fin 384) (R : Fin 32768)
    (hR : R.val = 512 * (grid0.coords t 0).val + r.val) :
    iblk (F := Ideal) m c 1 t (ix2 r k) = m ((c : Thread nD τ).loc main_arg1) (ix2 R k) := by
  obtain ⟨-, e, -⟩ := idx t
  blk_ext [iblk, V, e]

/-- A block of the second branch's rows, at an index. -/
theorem row2 (t : Fin grid0.N) (r : Fin 512) (k : Fin 512) (R : Fin 32768)
    (hR : R.val = 512 * (grid0.coords t 0).val + r.val) :
    iblk (F := Ideal) m c 2 t (ix2 r k) = m ((c : Thread nD τ).loc main_arg2) (ix2 R k) := by
  obtain ⟨-, -, e, -⟩ := idx t
  blk_ext [iblk, V, e]

/-- A block of the third branch's rows, at an index. -/
theorem row3 (t : Fin grid0.N) (r : Fin 512) (k : Fin 512) (R : Fin 32768)
    (hR : R.val = 512 * (grid0.coords t 0).val + r.val) :
    iblk (F := Ideal) m c 3 t (ix2 r k) = m ((c : Thread nD τ).loc main_arg3) (ix2 R k) := by
  obtain ⟨-, -, -, e, -⟩ := idx t
  blk_ext [iblk, V, e]

/-- A block of the gates, at an index. -/
theorem row4 (t : Fin grid0.N) (r : Fin 512) (k : Fin 3072) (R : Fin 32768)
    (hR : R.val = 512 * (grid0.coords t 0).val + r.val) :
    iblk (F := Ideal) m c 4 t (ix2 r k) = m ((c : Thread nD τ).loc main_arg4) (ix2 R k) := by
  obtain ⟨-, -, -, -, e, -⟩ := idx t
  blk_ext [iblk, V, e]

/-- The host's copy of the first branch's weight, at an index. -/
theorem entry5 (k : Fin 384) (x : Fin 1024) : (V m c main_v0 : Vec Ideal S384x1024 .bf16) (ix2 k x)
    = m ((c : Thread nD τ).loc main_arg5) (ix2 k x) := by
  entry_read
  pointwise

/-- The block of the first branch's weight, at an index. -/
theorem w5 (t : Fin grid0.N) (k : Fin 384) (x : Fin 1024) :
    iblk (F := Ideal) m c 5 t (ix2 k x) = m ((c : Thread nD τ).loc main_arg5) (ix2 k x) := by
  obtain ⟨e, -⟩ := idxw t
  have h0 : (((win0_5.blk t).view.emb (ix2 k x)) 0 : ℕ) = k.val := by
    blk_simp [e]
  have h1 : (((win0_5.blk t).view.emb (ix2 k x)) 1 : ℕ) = x.val := by
    blk_simp [e]
  have h : iblk (F := Ideal) m c 5 t (ix2 k x) = (V m c main_v0 : Vec Ideal S384x1024 .bf16) ((win0_5.blk t).view.emb (ix2 k x)) := rfl
  rw [h, ← entry5 m c k x]
  refine congrArg (V m c main_v0 : Vec Ideal S384x1024 .bf16) ?_
  funext a
  fin_cases a
  · exact Fin.ext h0
  · exact Fin.ext h1

/-- The host's copy of the second branch's weight, at an index. -/
theorem entry6 (k : Fin 512) (x : Fin 1024) : (V m c main_v1 : Vec Ideal S512x1024 .bf16) (ix2 k x)
    = m ((c : Thread nD τ).loc main_arg6) (ix2 k x) := by
  entry_read
  pointwise

/-- The block of the second branch's weight, at an index. -/
theorem w6 (t : Fin grid0.N) (k : Fin 512) (x : Fin 1024) :
    iblk (F := Ideal) m c 6 t (ix2 k x) = m ((c : Thread nD τ).loc main_arg6) (ix2 k x) := by
  obtain ⟨-, e, -⟩ := idxw t
  have h0 : (((win0_6.blk t).view.emb (ix2 k x)) 0 : ℕ) = k.val := by
    blk_simp [e]
  have h1 : (((win0_6.blk t).view.emb (ix2 k x)) 1 : ℕ) = x.val := by
    blk_simp [e]
  have h : iblk (F := Ideal) m c 6 t (ix2 k x) = (V m c main_v1 : Vec Ideal S512x1024 .bf16) ((win0_6.blk t).view.emb (ix2 k x)) := rfl
  rw [h, ← entry6 m c k x]
  refine congrArg (V m c main_v1 : Vec Ideal S512x1024 .bf16) ?_
  funext a
  fin_cases a
  · exact Fin.ext h0
  · exact Fin.ext h1

/-- The host's copy of the third branch's weight, at an index. -/
theorem entry7 (k : Fin 512) (x : Fin 1024) : (V m c main_v2 : Vec Ideal S512x1024 .bf16) (ix2 k x)
    = m ((c : Thread nD τ).loc main_arg7) (ix2 k x) := by
  entry_read
  pointwise

/-- The block of the third branch's weight, at an index. -/
theorem w7 (t : Fin grid0.N) (k : Fin 512) (x : Fin 1024) :
    iblk (F := Ideal) m c 7 t (ix2 k x) = m ((c : Thread nD τ).loc main_arg7) (ix2 k x) := by
  obtain ⟨-, -, e, -⟩ := idxw t
  have h0 : (((win0_7.blk t).view.emb (ix2 k x)) 0 : ℕ) = k.val := by
    blk_simp [e]
  have h1 : (((win0_7.blk t).view.emb (ix2 k x)) 1 : ℕ) = x.val := by
    blk_simp [e]
  have h : iblk (F := Ideal) m c 7 t (ix2 k x) = (V m c main_v2 : Vec Ideal S512x1024 .bf16) ((win0_7.blk t).view.emb (ix2 k x)) := rfl
  rw [h, ← entry7 m c k x]
  refine congrArg (V m c main_v2 : Vec Ideal S512x1024 .bf16) ?_
  funext a
  fin_cases a
  · exact Fin.ext h0
  · exact Fin.ext h1

/-- The host's copy of the output weight, at an index. -/
theorem entry8 (k : Fin 1024) (x : Fin 1024) : (V m c main_v3 : Vec Ideal S1024x1024 .bf16) (ix2 k x)
    = m ((c : Thread nD τ).loc main_arg8) (ix2 k x) := by
  entry_read
  pointwise

/-- The block of the output weight, at an index. -/
theorem w8 (t : Fin grid0.N) (k : Fin 1024) (x : Fin 1024) :
    iblk (F := Ideal) m c 8 t (ix2 k x) = m ((c : Thread nD τ).loc main_arg8) (ix2 k x) := by
  obtain ⟨-, -, -, e, -⟩ := idxw t
  have h0 : (((win0_8.blk t).view.emb (ix2 k x)) 0 : ℕ) = k.val := by
    blk_simp [e]
  have h1 : (((win0_8.blk t).view.emb (ix2 k x)) 1 : ℕ) = x.val := by
    blk_simp [e]
  have h : iblk (F := Ideal) m c 8 t (ix2 k x) = (V m c main_v3 : Vec Ideal S1024x1024 .bf16) ((win0_8.blk t).view.emb (ix2 k x)) := rfl
  rw [h, ← entry8 m c k x]
  refine congrArg (V m c main_v3 : Vec Ideal S1024x1024 .bf16) ?_
  funext a
  fin_cases a
  · exact Fin.ext h0
  · exact Fin.ext h1

/-- The host's copy of the layer norm's scale, at an index. -/
theorem entry9 (k : Fin 1) (x : Fin 1024) : (V m c main_v4 : Vec Ideal S1x1024 .f32) (ix2 k x)
    = m ((c : Thread nD τ).loc main_arg9) (ix1 x) := by
  entry_read
  pointwise

/-- The block of the layer norm's scale, at an index. -/
theorem w9 (t : Fin grid0.N) (k : Fin 1) (x : Fin 1024) :
    iblk (F := Ideal) m c 9 t (ix2 k x) = m ((c : Thread nD τ).loc main_arg9) (ix1 x) := by
  obtain ⟨-, -, -, -, e, -⟩ := idxw t
  have h0 : (((win0_9.blk t).view.emb (ix2 k x)) 0 : ℕ) = k.val := by
    blk_simp [e]
  have h1 : (((win0_9.blk t).view.emb (ix2 k x)) 1 : ℕ) = x.val := by
    blk_simp [e]
  have h : iblk (F := Ideal) m c 9 t (ix2 k x) = (V m c main_v4 : Vec Ideal S1x1024 .f32) ((win0_9.blk t).view.emb (ix2 k x)) := rfl
  rw [h, ← entry9 m c k x]
  refine congrArg (V m c main_v4 : Vec Ideal S1x1024 .f32) ?_
  funext a
  fin_cases a
  · exact Fin.ext h0
  · exact Fin.ext h1

/-- The host's copy of the layer norm's shift, at an index. -/
theorem entry10 (k : Fin 1) (x : Fin 1024) : (V m c main_v5 : Vec Ideal S1x1024 .f32) (ix2 k x)
    = m ((c : Thread nD τ).loc main_arg10) (ix1 x) := by
  entry_read
  pointwise

/-- The block of the layer norm's shift, at an index. -/
theorem w10 (t : Fin grid0.N) (k : Fin 1) (x : Fin 1024) :
    iblk (F := Ideal) m c 10 t (ix2 k x) = m ((c : Thread nD τ).loc main_arg10) (ix1 x) := by
  obtain ⟨-, -, -, -, -, e, -⟩ := idxw t
  have h0 : (((win0_10.blk t).view.emb (ix2 k x)) 0 : ℕ) = k.val := by
    blk_simp [e]
  have h1 : (((win0_10.blk t).view.emb (ix2 k x)) 1 : ℕ) = x.val := by
    blk_simp [e]
  have h : iblk (F := Ideal) m c 10 t (ix2 k x) = (V m c main_v5 : Vec Ideal S1x1024 .f32) ((win0_10.blk t).view.emb (ix2 k x)) := rfl
  rw [h, ← entry10 m c k x]
  refine congrArg (V m c main_v5 : Vec Ideal S1x1024 .f32) ?_
  funext a
  fin_cases a
  · exact Fin.ext h0
  · exact Fin.ext h1

/-- The host's copy of the query weight, at an index. -/
theorem entry11 (k : Fin 1024) (x : Fin 2048) : (V m c main_v6 : Vec Ideal S1024x2048 .bf16) (ix2 k x)
    = m ((c : Thread nD τ).loc main_arg11) (ix2 k x) := by
  entry_read
  pointwise

/-- The block of the query weight, at an index. -/
theorem w11 (t : Fin grid0.N) (k : Fin 1024) (x : Fin 2048) :
    iblk (F := Ideal) m c 11 t (ix2 k x) = m ((c : Thread nD τ).loc main_arg11) (ix2 k x) := by
  obtain ⟨-, -, -, -, -, -, e⟩ := idxw t
  have h0 : (((win0_11.blk t).view.emb (ix2 k x)) 0 : ℕ) = k.val := by
    blk_simp [e]
  have h1 : (((win0_11.blk t).view.emb (ix2 k x)) 1 : ℕ) = x.val := by
    blk_simp [e]
  have h : iblk (F := Ideal) m c 11 t (ix2 k x) = (V m c main_v6 : Vec Ideal S1024x2048 .bf16) ((win0_11.blk t).view.emb (ix2 k x)) := rfl
  rw [h, ← entry11 m c k x]
  refine congrArg (V m c main_v6 : Vec Ideal S1024x2048 .bf16) ?_
  funext a
  fin_cases a
  · exact Fin.ext h0
  · exact Fin.ext h1

/-- The branches' mix reads the blocks whole. -/
theorem pay4_eq (x0 : Vec Ideal S512x1024 .f32) (x1 : Vec Ideal S512x384 .bf16) (x2 x3 : Vec Ideal S512x512 .bf16)
    (x4 : Vec Ideal S512x3072 .bf16) (x5 : Vec Ideal S384x1024 .bf16) (x6 x7 : Vec Ideal S512x1024 .bf16)
    (x8 : Vec Ideal S1024x1024 .bf16) (x9 x10 : Vec Ideal S1x1024 .f32) (x11 : Vec Ideal S1024x2048 .bf16) :
    k0_pay4 (F := Ideal) x0 x1 x2 x3 x4 x5 x6 x7 x8 x9 x10 x11 = k0_pay3 (F := Ideal) x4 x1 x5 x2 x6 x3 x7 x8 := by
  unfold k0_pay4
  rw [View.ld_unit_zero (by decide), View.ld_unit_zero (by decide), View.ld_unit_zero (by decide), View.ld_unit_zero (by decide),
    View.ld_unit_zero (by decide), View.ld_unit_zero (by decide), View.ld_unit_zero (by decide), View.ld_unit_zero (by decide)]

/-- The residual's row of a grid point's row. -/
theorem resid_iblk (t : Fin grid0.N) (r : Fin 512) (R : Fin 32768) (hR : R.val = 512 * (grid0.coords t 0).val + r.val) :
    (fun i => ((Real.sqrt 2 : ℝ) : EReal) * iblk (F := Ideal) m c 0 t (ix2 r i)
        + k0_pay3 (F := Ideal) (iblk (F := Ideal) m c 4 t) (iblk (F := Ideal) m c 1 t) (iblk (F := Ideal) m c 5 t) (iblk (F := Ideal) m c 2 t)
            (iblk (F := Ideal) m c 6 t) (iblk (F := Ideal) m c 3 t) (iblk (F := Ideal) m c 7 t) (iblk (F := Ideal) m c 8 t) (ix2 r i))
      = residAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R := by
  funext i
  rw [pay3_apply]
  unfold residAt resid
  simp only [row0 m c t r _ R hR, row1 m c t r _ R hR, row2 m c t r _ R hR, row3 m c t r _ R hR, row4 m c t r _ R hR,
    w5 m c t, w6 m c t, w7 m c t, w8 m c t]

/-- The first output's row of a grid point's row. -/
theorem norm_iblk (t : Fin grid0.N) (r : Fin 512) (R : Fin 32768) (hR : R.val = 512 * (grid0.coords t 0).val + r.val) (j : Fin 1024) :
    k0_pay1 (F := Ideal) (k0_pay3 (F := Ideal) (iblk (F := Ideal) m c 4 t) (iblk (F := Ideal) m c 1 t) (iblk (F := Ideal) m c 5 t) (iblk (F := Ideal) m c 2 t)
            (iblk (F := Ideal) m c 6 t) (iblk (F := Ideal) m c 3 t) (iblk (F := Ideal) m c 7 t) (iblk (F := Ideal) m c 8 t))
        (iblk (F := Ideal) m c 0 t) (iblk (F := Ideal) m c 9 t) (iblk (F := Ideal) m c 10 t) (ix2 r j)
      = normAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) R j := by
  rw [pay1_apply]
  unfold normAt
  refine congrFun (congr (congr (congrArg norm (resid_iblk m c t r R hR)) ?_) ?_) j
  · funext i; exact w9 m c t 0 i
  · funext i; exact w10 m c t 0 i

/-- The first output array: the normalised rows. -/
theorem final12 : (dats (F := Ideal) m 0 c).arrAt 12 cfg0.N = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t hf y => ?_
  blk_simp
  rw [after0_12]
  obtain ⟨r, x, rfl⟩ : ∃ (r : Fin 512) (x : Fin 1024), y = ix2 r x := ⟨y 0, y 1, by funext a; fin_cases a <;> rfl⟩
  obtain ⟨-, -, -, -, -, e, -⟩ := idx t
  have h0 : (((win0_12.blk t).view.emb (ix2 r x)) 0 : ℕ) = 512 * (grid0.coords t 0).val + r.val := by
    blk_simp [e]; ring
  have h1 : (((win0_12.blk t).view.emb (ix2 r x)) 1 : ℕ) = x.val := by
    blk_simp [e]
  frame_out
  rw [pay4_eq]
  refine (norm_iblk m c t r _ h0 x).trans ?_
  unfold rows
  exact congrArg (normAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _) (Fin.ext h1.symm)

/-- The second output array: the experts' queries. -/
theorem final13 : (dats (F := Ideal) m 0 c).arrAt 13 cfg0.N = queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  obtain ⟨r, x, rfl⟩ : ∃ (r : Fin 512) (x : Fin 2048), y = ix2 r x := ⟨y 0, y 1, by funext a; fin_cases a <;> rfl⟩
  obtain ⟨-, -, -, -, -, -, e⟩ := idx t
  have h0 : (((win0_13.blk t).view.emb (ix2 r x)) 0 : ℕ) = 512 * (grid0.coords t 0).val + r.val := by
    blk_simp [e]; ring
  have h1 : (((win0_13.blk t).view.emb (ix2 r x)) 1 : ℕ) = x.val := by
    blk_simp [e]
  frame_out
  rw [pay4_eq]
  refine (pay2_apply _ _ _ _ _ r x).trans ?_
  unfold queries
  refine (congr (congrArg times (funext fun n => norm_iblk m c t r _ h0 n)) (funext fun n => funext fun j => w11 m c t n j) |> fun h => congrFun h x).trans ?_
  exact congrArg (times _ _) (Fin.ext h1.symm)

end Cert.Proof.Merge

end

end
-- ==== Proof.MergeReference.lean ====
/- The plain reference of the merge, at an index: the same two arrays. -/
module

public import proofs.«01_k».proof.Proof.MergeSpec
public import proofs.«01_k».proof.Proof.Gen.Reference6Ideal.Run
public import proofs.«01_k».proof.Proof.Gen.Reference6Ideal.Read

@[expose] public section

set_option maxRecDepth 16384

noncomputable section

namespace Cert.Proof.Merge.Reference

open Cert.Reference6Ideal Cert.Reference6Ideal.Gen Cert.Reference6Ideal.Read Cert.Proof.Merge
open Idealize.ShloMosaic Idealize.ShloMosaic.Tactic Idealize.SL.Sem Idealize.ShloMosaic.StableHlo

variable (h : Vec Ideal S32768x1024 .f32) (ya : Vec Ideal S32768x384 .bf16) (yb : Vec Ideal S32768x512 .bf16) (yc : Vec Ideal S32768x512 .bf16) (gt : Vec Ideal S32768x3072 .bf16) (wa : Vec Ideal S384x1024 .f32) (wb : Vec Ideal S512x1024 .f32) (wc : Vec Ideal S512x1024 .f32) (wo : Vec Ideal S1024x1024 .f32) (lg : Vec Ideal S1024 .f32) (lb : Vec Ideal S1024 .f32) (wq : Vec Ideal S1024x2048 .f32)

/-- The word the reference's constant `2` is spelt with. -/
theorem ofBits_two : Ideal.ofBits .f32 0x40000000#32 = ((2 : ℝ) : EReal) := by
  simp [Ideal.ofBits, Ideal.ieee]
  rw [← EReal.coe_mul]
  norm_num

/-- The gates. -/
theorem gate_at (R : Fin 32768) (n : Fin 3072) : val_main_v6 (F := Ideal) gt (ix2 R n) = gate (gt (ix2 R n)) := by
  rw [val_main_v6_apply, val_main_v5_apply, val_main_cst_0_apply, val_main_v4_apply, val_main_v3_apply, val_main_cst_apply,
    val_main_v2_apply, val_main_v1_apply, val_main_v0_apply]
  change Ideal.div (Ideal.ofBits .f32 0x3F800000#32) (Ideal.ofBits .f32 0x3F800000#32 + Ideal.exp (-(gt (ix2 R n) : EReal))) = _
  rw [Ideal.ofBits_one_f32]
  rfl

/-- The three branches' products. -/
theorem prod_a (R : Fin 32768) (n : Fin 1024) :
    val_main_v11 (F := Ideal) ya wa (ix2 R n) = times (fun k => ya (ix2 R k)) (fun k n => wa (ix2 k n)) n := by
  rw [val_main_v11_apply]
  refine Finset.sum_congr rfl fun k _ => ?_
  have e1 : lidx_main_v11 (ix2 R n) k = ix2 R k := by funext a; fin_cases a <;> rfl
  have e2 : ridx_main_v11 (ix2 R n) k = ix2 k n := by funext a; fin_cases a <;> rfl
  rw [e1, e2]; rfl

theorem prod_b (R : Fin 32768) (n : Fin 1024) :
    val_main_v14 (F := Ideal) yb wb (ix2 R n) = times (fun k => yb (ix2 R k)) (fun k n => wb (ix2 k n)) n := by
  rw [val_main_v14_apply]
  refine Finset.sum_congr rfl fun k _ => ?_
  have e1 : lidx_main_v14 (ix2 R n) k = ix2 R k := by funext a; fin_cases a <;> rfl
  have e2 : ridx_main_v14 (ix2 R n) k = ix2 k n := by funext a; fin_cases a <;> rfl
  rw [e1, e2]; rfl

theorem prod_c (R : Fin 32768) (n : Fin 1024) :
    val_main_v18 (F := Ideal) yc wc (ix2 R n) = times (fun k => yc (ix2 R k)) (fun k n => wc (ix2 k n)) n := by
  rw [val_main_v18_apply]
  refine Finset.sum_congr rfl fun k _ => ?_
  have e1 : lidx_main_v18 (ix2 R n) k = ix2 R k := by funext a; fin_cases a <;> rfl
  have e2 : ridx_main_v18 (ix2 R n) k = ix2 k n := by funext a; fin_cases a <;> rfl
  rw [e1, e2]; rfl

/-- The three gated branches' sum. -/
theorem mixed_at (R : Fin 32768) (n : Fin 1024) :
    val_main_v20 (F := Ideal) ya yb yc gt wa wb wc (ix2 R n)
      = mixed (fun n => gt (ix2 R n)) (times (fun k => ya (ix2 R k)) fun k n => wa (ix2 k n))
          (times (fun k => yb (ix2 R k)) fun k n => wb (ix2 k n)) (times (fun k => yc (ix2 R k)) fun k n => wc (ix2 k n)) n := by
  have hn := n.isLt
  have e1 : idx_main_v7 (ix2 R n) = ix2 R ⟨n.val, by omega⟩ := by funext a; fin_cases a <;> rfl
  have e2 : idx_main_v8 (ix2 R n) = ix2 R ⟨1024 + n.val, by omega⟩ := by funext a; fin_cases a <;> rfl
  have e3 : idx_main_v9 (ix2 R n) = ix2 R ⟨2048 + n.val, by omega⟩ := by funext a; fin_cases a <;> rfl
  rw [val_main_v20_apply, val_main_v19_apply, val_main_v16_apply, val_main_v15_apply, val_main_v12_apply, prod_a, prod_b, prod_c,
    val_main_v7_apply, val_main_v8_apply, val_main_v9_apply, e1, e2, e3, gate_at, gate_at, gate_at]
  rfl

/-- The output product. -/
theorem out_at (R : Fin 32768) (j : Fin 1024) :
    val_main_v21 (F := Ideal) ya yb yc gt wa wb wc wo (ix2 R j)
      = times (mixed (fun n => gt (ix2 R n)) (times (fun k => ya (ix2 R k)) fun k n => wa (ix2 k n))
          (times (fun k => yb (ix2 R k)) fun k n => wb (ix2 k n)) (times (fun k => yc (ix2 R k)) fun k n => wc (ix2 k n)))
          (fun n j => wo (ix2 n j)) j := by
  rw [val_main_v21_apply]
  refine Finset.sum_congr rfl fun k _ => ?_
  have e1 : lidx_main_v21 (ix2 R j) k = ix2 R k := by funext a; fin_cases a <;> rfl
  have e2 : ridx_main_v21 (ix2 R j) k = ix2 k j := by funext a; fin_cases a <;> rfl
  rw [e1, e2, mixed_at]

/-- The residual. -/
theorem resid_at (R : Fin 32768) (j : Fin 1024) :
    val_main_v25 (F := Ideal) h ya yb yc gt wa wb wc wo (ix2 R j) = residAt h ya yb yc gt wa wb wc wo R j := by
  rw [val_main_v25_apply, val_main_v24_apply, val_main_v23_apply, val_main_v22_apply, val_main_cst_1_apply, out_at]
  have e : FloatOps.hostUnary (F := Ideal) .sqrt (FloatOps.ofBits .f32 0x40000000#32) = ((Real.sqrt 2 : ℝ) : EReal) := by
    change FloatOps.hostUnary (F := Ideal) .sqrt (Ideal.ofBits .f32 0x40000000#32) = _
    rw [ofBits_two, Ideal.hostUnary_sqrt_def, Ideal.sqrt_coe, if_neg (by norm_num)]
  rw [e]
  rfl

/-- A row's mean. -/
theorem mean_at (R : Fin 32768) :
    val_main_v29 (F := Ideal) h ya yb yc gt wa wb wc wo (ix2 R 0) = mean (residAt h ya yb yc gt wa wb wc wo R) := by
  rw [val_main_v29_apply, val_main_v28_apply, val_main_cst_3_apply, val_main_v27_apply, val_main_v26_apply, val_main_cst_2_apply]
  unfold mean
  change Ideal.div (Ideal.ofBits .f32 0x00000000#32 + ∑ k : Fin 1024, _) (Ideal.ofBits .f32 0x44800000#32) = _
  rw [Ideal.ofBits_zero_f32, zero_add]
  congr 1
  refine Finset.sum_congr rfl fun k _ => ?_
  rw [← resid_at]
  congr 1
  funext a; fin_cases a <;> rfl

/-- A row's deviation from its mean, where the variance reads it. -/
theorem dev_at (R : Fin 32768) (j : Fin 1024) :
    val_main_v31 (F := Ideal) h ya yb yc gt wa wb wc wo (ix2 R j)
      = residAt h ya yb yc gt wa wb wc wo R j - mean (residAt h ya yb yc gt wa wb wc wo R) := by
  have e : idx_main_v30 (ix2 R j) = ix2 R 0 := by funext a; fin_cases a <;> rfl
  rw [val_main_v31_apply, val_main_v30_apply, e, mean_at, resid_at]
  rfl

/-- The same deviation, where the quotient reads it. -/
theorem dev_at' (R : Fin 32768) (j : Fin 1024) :
    val_main_v38 (F := Ideal) h ya yb yc gt wa wb wc wo (ix2 R j)
      = residAt h ya yb yc gt wa wb wc wo R j - mean (residAt h ya yb yc gt wa wb wc wo R) := by
  have e : idx_main_v37 (ix2 R j) = ix2 R 0 := by funext a; fin_cases a <;> rfl
  rw [val_main_v38_apply, val_main_v37_apply, e, mean_at, resid_at]
  rfl

/-- A row's reciprocal deviation. -/
theorem rstd_at (R : Fin 32768) :
    val_main_v41 (F := Ideal) h ya yb yc gt wa wb wc wo (ix2 R 0)
      = Ideal.rsqrt (Ideal.div (∑ i : Fin 1024, (residAt h ya yb yc gt wa wb wc wo R i - mean (residAt h ya yb yc gt wa wb wc wo R))
            * (residAt h ya yb yc gt wa wb wc wo R i - mean (residAt h ya yb yc gt wa wb wc wo R))) (Ideal.ofBits .f32 0x44800000#32)
          + Ideal.ofBits .f32 0x3727C5AC#32) := by
  rw [val_main_v41_apply, val_main_v40_apply, val_main_v39_apply, val_main_cst_6_apply, val_main_v36_apply, val_main_v35_apply,
    val_main_cst_5_apply, val_main_v34_apply, val_main_v33_apply, val_main_cst_4_apply]
  change Ideal.rsqrt (Ideal.div (Ideal.ofBits .f32 0x00000000#32 + ∑ k : Fin 1024, _) (Ideal.ofBits .f32 0x44800000#32)
    + Ideal.ofBits .f32 0x3727C5AC#32) = _
  rw [Ideal.ofBits_zero_f32, zero_add]
  congr 3
  refine Finset.sum_congr rfl fun k _ => ?_
  have e : idx_main_v33 (idx_main_v34 (ix2 R 0)) k = ix2 R k := by funext a; fin_cases a <;> rfl
  rw [e, val_main_v32_apply, dev_at]
  rfl

/-- The layer norm. -/
theorem norm_at (R : Fin 32768) (j : Fin 1024) :
    val_main_v49 (F := Ideal) h ya yb yc gt wa wb wc wo lg lb (ix2 R j) = normAt h ya yb yc gt wa wb wc wo lg lb R j := by
  have e1 : idx_main_v42 (ix2 R j) = ix2 R 0 := by funext a; fin_cases a <;> rfl
  have e2 : idx_main_v44 (idx_main_v45 (ix2 R j)) = ix1 j := by funext a; fin_cases a <;> rfl
  have e3 : idx_main_v47 (idx_main_v48 (ix2 R j)) = ix1 j := by funext a; fin_cases a <;> rfl
  rw [val_main_v49_apply, val_main_v46_apply, val_main_v43_apply, val_main_v42_apply, e1, rstd_at, dev_at', val_main_v45_apply,
    val_main_v44_apply, e2, val_main_v48_apply, val_main_v47_apply, e3]
  rfl

/-- The reference's first array. -/
theorem rows_eq : val_main_v49 (F := Ideal) h ya yb yc gt wa wb wc wo lg lb = rows h ya yb yc gt wa wb wc wo lg lb := by
  funext y
  obtain ⟨R, j, rfl⟩ : ∃ (R : Fin 32768) (j : Fin 1024), y = ix2 R j := ⟨y 0, y 1, by funext a; fin_cases a <;> rfl⟩
  exact norm_at h ya yb yc gt wa wb wc wo lg lb R j

/-- The reference's second array. -/
theorem queries_eq : val_main_v51 (F := Ideal) h ya yb yc gt wa wb wc wo lg lb wq = queries h ya yb yc gt wa wb wc wo lg lb wq := by
  funext y
  obtain ⟨R, j, rfl⟩ : ∃ (R : Fin 32768) (j : Fin 2048), y = ix2 R j := ⟨y 0, y 1, by funext a; fin_cases a <;> rfl⟩
  rw [val_main_v51_apply, val_main_v50_apply]
  unfold queries times
  change (∑ k : Fin 1024, (_ : EReal)) = _
  refine Finset.sum_congr rfl fun k _ => ?_
  have e1 : lidx_main_v50 (ix2 R j) k = ix2 R k := by funext a; fin_cases a <;> rfl
  have e2 : ridx_main_v50 (ix2 R j) k = ix2 k j := by funext a; fin_cases a <;> rfl
  rw [e1, e2, norm_at]
  rfl

end Cert.Proof.Merge.Reference

end

end
-- ==== Proof.Merge.lean ====
/- The merge's claims: the reference's frame, the named factor, and that the kernel and the reference end with the same two arrays. -/
module

public import proofs.«01_k».proof.Defs
public import proofs.«01_k».proof.Proof.MergeFinal
public import proofs.«01_k».proof.Proof.MergeReference
public import Idealize.ShloMosaic.Adequacy
public import Idealize.ShloMosaic.Init

@[expose] public section

noncomputable section

namespace Cert.Proof.Merge

open Idealize.ShloMosaic Idealize.SL.Sem

/-- The reference runs, keeps its arguments and has no counter to leave. -/
theorem frame_reference (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal)))
      ⟨m, fun _ => 0, ρ⟩ (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
        ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
        ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
        ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
        ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
        ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
        ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
        ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
        ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
        ∧ r.2.sem = fun _ => 0) :=
  (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The factor the idealization names is the word the kernel spells, rounded. -/
theorem preserves : Cert.preserves_Kernel6_Kernel6Ideal :=
  IdealRules.named_const.statement Cert.Kernel6Ideal.κ "alpha" .f32 0x3FB504F3#32 ((Real.sqrt 2 : ℝ) : EReal) rfl

/-- The kernel and the reference end with the same two arrays. -/
theorem value : Cert.algebraic_Kernel6Ideal_Reference6Ideal := by
  intro m g m' g' hpre hag
  refine ⟨fun c => rows (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg5)) (m ((c.tc : Thread _ _).loc Cert.Kernel6Ideal.main_arg6)) (m ((c.tc : Thread _ _).loc Cert.Kernel6Ideal.main_arg7)) (m ((c.tc : Thread _ _).loc Cert.Kernel6Ideal.main_arg8)) (m ((c.tc : Thread _ _).loc Cert.Kernel6Ideal.main_arg9)) (m ((c.tc : Thread _ _).loc Cert.Kernel6Ideal.main_arg10)),
    fun c => queries (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg5)) (m ((c.tc : Thread _ _).loc Cert.Kernel6Ideal.main_arg6)) (m ((c.tc : Thread _ _).loc Cert.Kernel6Ideal.main_arg7)) (m ((c.tc : Thread _ _).loc Cert.Kernel6Ideal.main_arg8)) (m ((c.tc : Thread _ _).loc Cert.Kernel6Ideal.main_arg9)) (m ((c.tc : Thread _ _).loc Cert.Kernel6Ideal.main_arg10)) (m ((c.tc : Thread _ _).loc Cert.Kernel6Ideal.main_arg11)), ?_, ?_⟩
  · exact (θ_run Cert.Kernel6Ideal.defs _ _).mono
      (fun r h c => ⟨(h c).1.trans (final12 m c), (h c).2.1.trans (final13 m c), (h c).2.2⟩)
      (Cert.Kernel6Ideal.Value.run_blocks (F := Ideal) m g)
  · refine (θ_run Cert.Reference6Ideal.defs _ _).mono (fun r h c => ⟨(h c).1.trans ?_, (h c).2.1.trans ?_, (h c).2.2⟩)
      (Cert.Reference6Ideal.Value.run (F := Ideal) m' g')
    · rw [Cert.Reference6Ideal.Read.val_main_v49_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1]
      exact Reference.rows_eq _ _ _ _ _ _ _ _ _ _ _
    · rw [Cert.Reference6Ideal.Read.val_main_v51_eq, (hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2]
      exact Reference.queries_eq _ _ _ _ _ _ _ _ _ _ _ _

end Cert.Proof.Merge

end

end
-- ==== Proof.Entry.lean ====
/- The norm that the rows enter the layers with. -/
module

public import proofs.«01_k».proof.Defs
public import proofs.«01_k».proof.Proof.MergeSpec
public import proofs.«01_k».proof.Proof.Gen.Kernel7Ideal.Value
public import proofs.«01_k».proof.Proof.Gen.Reference7Ideal.Run
public import proofs.«01_k».proof.Proof.Gen.Reference7Ideal.Read
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Entry

open Cert.Kernel7Ideal Cert.Kernel7Ideal.Gen Idealize.ShloMosaic Idealize.ShloMosaic.Tactic Idealize.SL.Sem
open Idealize.ShloMosaic.TcCoe
open Cert.Proof.Merge (mean norm)

/-- Row `R` of the input: token `R % 8192` of sequence `R / 8192`. -/
def row (x : Vec Ideal S4x8192x1024 .f32) (R : Fin 32768) (j : Fin 1024) : EReal :=
  x (ix3 (⟨R.val / 8192, by have := R.isLt; omega⟩ : Fin 4) (⟨R.val % 8192, by omega⟩ : Fin 8192) j)

/-- Every row's layer norm. -/
def rows (x : Vec Ideal S4x8192x1024 .f32) (g b : Vec Ideal S1024 .f32) : Vec Ideal S32768x1024 .f32 :=
  fun y => norm (row x (y 0)) (fun i => g (ix1 i)) (fun i => b (ix1 i)) (y 1)

/-- What a grid point stores, at an index: the layer norm of its row. -/
theorem pay_apply (x : Vec Ideal S512x1024 .f32) (g b : Vec Ideal S1x1024 .f32) (r : Fin 512) (j : Fin 1024) :
    k0_pay1 (F := Ideal) x g b (ix2 r j) = norm (fun i => x (ix2 r i)) (fun i => g (ix2 0 i)) (fun i => b (ix2 0 i)) j := by
  pointwise [k0_pay1]
  rfl

/-- Where the windows stand at a grid point. -/
theorem idx (t : Fin grid0.N) :
    win0_0.index t = ![(grid0.coords t 0).val, 0] ∧ win0_1.index t = ![0, 0] ∧ win0_2.index t = ![0, 0]
    ∧ win0_3.index t = ![(grid0.coords t 0).val, 0] := by
  revert t; decide +kernel

variable (m : (ℓ : Loc nD τ sig) → Buf (Elt Ideal) ℓ) (c : Dev nD)

/-- The rows as the host leaves them for the kernel, at an index. -/
theorem entry0 (R : Fin 32768) (j : Fin 1024) : (V m c main_v0 : Vec Ideal S32768x1024 .f32) (ix2 R j)
    = row (m ((c : Thread nD τ).loc main_arg0)) R j := by
  unfold row
  entry_read
  pointwise

/-- The scale as the host leaves it for the kernel, at an index. -/
theorem entry1 (k : Fin 1) (j : Fin 1024) : (V m c main_v1 : Vec Ideal S1x1024 .f32) (ix2 k j)
    = m ((c : Thread nD τ).loc main_arg1) (ix1 j) := by
  entry_read
  pointwise

/-- The shift as the host leaves it for the kernel, at an index. -/
theorem entry2 (k : Fin 1) (j : Fin 1024) : (V m c main_v2 : Vec Ideal S1x1024 .f32) (ix2 k j)
    = m ((c : Thread nD τ).loc main_arg2) (ix1 j) := by
  entry_read
  pointwise

/-- A block of rows, at an index. -/
theorem row_at (t : Fin grid0.N) (r : Fin 512) (j : Fin 1024) (R : Fin 32768)
    (hR : R.val = 512 * (grid0.coords t 0).val + r.val) :
    iblk (F := Ideal) m c 0 t (ix2 r j) = row (m ((c : Thread nD τ).loc main_arg0)) R j := by
  obtain ⟨e, -⟩ := idx t
  have h0 : (((win0_0.blk t).view.emb (ix2 r j)) 0 : ℕ) = 512 * (grid0.coords t 0).val + r.val := by
    blk_simp [e]; ring
  have h1 : (((win0_0.blk t).view.emb (ix2 r j)) 1 : ℕ) = j.val := by
    blk_simp [e]
  have h : iblk (F := Ideal) m c 0 t (ix2 r j) = (V m c main_v0 : Vec Ideal S32768x1024 .f32) ((win0_0.blk t).view.emb (ix2 r j)) := rfl
  rw [h, ← entry0 m c R j]
  refine congrArg (V m c main_v0 : Vec Ideal S32768x1024 .f32) ?_
  funext a
  fin_cases a
  · exact Fin.ext (h0.trans hR.symm)
  · exact Fin.ext h1

/-- The block of the scale, at an index. -/
theorem scale_at (t : Fin grid0.N) (r : Fin 1) (j : Fin 1024) :
    iblk (F := Ideal) m c 1 t (ix2 r j) = m ((c : Thread nD τ).loc main_arg1) (ix1 j) := by
  obtain ⟨-, e, -⟩ := idx t
  have h0 : (((win0_1.blk t).view.emb (ix2 r j)) 0 : ℕ) = r.val := by
    blk_simp [e]
  have h1 : (((win0_1.blk t).view.emb (ix2 r j)) 1 : ℕ) = j.val := by
    blk_simp [e]
  have h : iblk (F := Ideal) m c 1 t (ix2 r j) = (V m c main_v1 : Vec Ideal S1x1024 .f32) ((win0_1.blk t).view.emb (ix2 r j)) := rfl
  rw [h, ← entry1 m c r j]
  refine congrArg (V m c main_v1 : Vec Ideal S1x1024 .f32) ?_
  funext a
  fin_cases a
  · exact Fin.ext h0
  · exact Fin.ext h1

/-- The block of the shift, at an index. -/
theorem shift_at (t : Fin grid0.N) (r : Fin 1) (j : Fin 1024) :
    iblk (F := Ideal) m c 2 t (ix2 r j) = m ((c : Thread nD τ).loc main_arg2) (ix1 j) := by
  obtain ⟨-, -, e, -⟩ := idx t
  have h0 : (((win0_2.blk t).view.emb (ix2 r j)) 0 : ℕ) = r.val := by
    blk_simp [e]
  have h1 : (((win0_2.blk t).view.emb (ix2 r j)) 1 : ℕ) = j.val := by
    blk_simp [e]
  have h : iblk (F := Ideal) m c 2 t (ix2 r j) = (V m c main_v2 : Vec Ideal S1x1024 .f32) ((win0_2.blk t).view.emb (ix2 r j)) := rfl
  rw [h, ← entry2 m c r j]
  refine congrArg (V m c main_v2 : Vec Ideal S1x1024 .f32) ?_
  funext a
  fin_cases a
  · exact Fin.ext h0
  · exact Fin.ext h1

/-- The output array. -/
theorem final : (dats (F := Ideal) m 0 c).arrAt 3 cfg0.N
    = rows (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, x, rfl⟩ : ∃ (r : Fin 512) (x : Fin 1024), y = ix2 r x := ⟨y 0, y 1, by funext a; fin_cases a <;> rfl⟩
  obtain ⟨-, -, -, e⟩ := idx t
  have h0 : (((win0_3.blk t).view.emb (ix2 r x)) 0 : ℕ) = 512 * (grid0.coords t 0).val + r.val := by
    blk_simp [e]; ring
  have h1 : (((win0_3.blk t).view.emb (ix2 r x)) 1 : ℕ) = x.val := by
    blk_simp [e]
  frame_out
  refine (pay_apply _ _ _ r x).trans ?_
  unfold rows
  refine congr (congr (congr (congrArg norm (funext fun i => row_at m c t r i _ h0)) (funext fun i => scale_at m c t 0 i))
    (funext fun i => shift_at m c t 0 i)) (Fin.ext h1.symm)

section Reference

open Cert.Reference7Ideal.Read

variable (x : Vec Ideal S4x8192x1024 .f32) (g b : Vec Ideal S1024 .f32) (s : Fin 4) (p : Fin 8192)

/-- The reference's mean of a token. -/
theorem mean_at : val_main_v3 (F := Ideal) x (ix3 s p 0) = mean fun j => x (ix3 s p j) := by
  rw [val_main_v3_apply, val_main_v2_apply, val_main_cst_0_apply, val_main_v1_apply, val_main_v0_apply, val_main_cst_apply]
  unfold mean
  change Ideal.div (Ideal.ofBits .f32 0x00000000#32 + ∑ k : Fin 1024, _) (Ideal.ofBits .f32 0x44800000#32) = _
  rw [Ideal.ofBits_zero_f32, zero_add]
  congr 1
  refine Finset.sum_congr rfl fun k _ => congrArg x ?_
  funext a; fin_cases a <;> rfl

/-- A token's deviation from its mean, where the variance reads it. -/
theorem dev_at (j : Fin 1024) : val_main_v5 (F := Ideal) x (ix3 s p j) = x (ix3 s p j) - mean fun j => x (ix3 s p j) := by
  have e : idx_main_v4 (ix3 s p j) = ix3 s p 0 := by funext a; fin_cases a <;> rfl
  rw [val_main_v5_apply, val_main_v4_apply, e, mean_at]
  rfl

/-- The same deviation, where the quotient reads it. -/
theorem dev_at' (j : Fin 1024) : val_main_v12 (F := Ideal) x (ix3 s p j) = x (ix3 s p j) - mean fun j => x (ix3 s p j) := by
  have e : idx_main_v11 (ix3 s p j) = ix3 s p 0 := by funext a; fin_cases a <;> rfl
  rw [val_main_v12_apply, val_main_v11_apply, e, mean_at]
  rfl

/-- A token's reciprocal deviation. -/
theorem rstd_at : val_main_v15 (F := Ideal) x (ix3 s p 0)
    = Ideal.rsqrt (Ideal.div (∑ i : Fin 1024, (x (ix3 s p i) - mean fun j => x (ix3 s p j)) * (x (ix3 s p i) - mean fun j => x (ix3 s p j)))
        (Ideal.ofBits .f32 0x44800000#32) + Ideal.ofBits .f32 0x3727C5AC#32) := by
  rw [val_main_v15_apply, val_main_v14_apply, val_main_v13_apply, val_main_cst_3_apply, val_main_v10_apply, val_main_v9_apply,
    val_main_cst_2_apply, val_main_v8_apply, val_main_v7_apply, val_main_cst_1_apply]
  change Ideal.rsqrt (Ideal.div (Ideal.ofBits .f32 0x00000000#32 + ∑ k : Fin 1024, _) (Ideal.ofBits .f32 0x44800000#32)
    + Ideal.ofBits .f32 0x3727C5AC#32) = _
  rw [Ideal.ofBits_zero_f32, zero_add]
  congr 3
  refine Finset.sum_congr rfl fun k _ => ?_
  have e : idx_main_v7 (idx_main_v8 (ix3 s p 0)) k = ix3 s p k := by funext a; fin_cases a <;> rfl
  rw [e, val_main_v6_apply, dev_at]
  rfl

/-- A token's layer norm. -/
theorem norm_at (j : Fin 1024) :
    val_main_v23 (F := Ideal) x g b (ix3 s p j) = norm (fun j => x (ix3 s p j)) (fun i => g (ix1 i)) (fun i => b (ix1 i)) j := by
  have e1 : idx_main_v16 (ix3 s p j) = ix3 s p 0 := by funext a; fin_cases a <;> rfl
  have e2 : idx_main_v18 (idx_main_v19 (ix3 s p j)) = ix1 j := by funext a; fin_cases a <;> rfl
  have e3 : idx_main_v21 (idx_main_v22 (ix3 s p j)) = ix1 j := by funext a; fin_cases a <;> rfl
  rw [val_main_v23_apply, val_main_v20_apply, val_main_v17_apply, val_main_v16_apply, e1, rstd_at, dev_at', val_main_v19_apply,
    val_main_v18_apply, e2, val_main_v22_apply, val_main_v21_apply, e3]
  rfl

end Reference

/-- The reference's array. -/
theorem reference_eq (x : Vec Ideal S4x8192x1024 .f32) (g b : Vec Ideal S1024 .f32) :
    Cert.Reference7Ideal.Read.val_main_v24 (F := Ideal) x g b = rows x g b := by
  funext y
  obtain ⟨R, j, rfl⟩ : ∃ (R : Fin 32768) (j : Fin 1024), y = ix2 R j := ⟨y 0, y 1, by funext a; fin_cases a <;> rfl⟩
  have e : Cert.Reference7Ideal.Read.idx_main_v24 (ix2 R j)
      = ix3 (⟨R.val / 8192, by have := R.isLt; omega⟩ : Fin 4) (⟨R.val % 8192, by omega⟩ : Fin 8192) j := by
    have hj := j.isLt
    funext a
    fin_cases a
    · exact Fin.ext (by show (R.val * 1024 + j.val) / 8388608 = R.val / 8192; omega)
    · exact Fin.ext (by show (R.val * 1024 + j.val) / 1024 % 8192 = R.val % 8192; omega)
    · exact Fin.ext (by show (R.val * 1024 + j.val) % 1024 = j.val; omega)
  rw [Cert.Reference7Ideal.Read.val_main_v24_apply, e, norm_at]
  rfl

/-- The reference runs, keeps its arguments and has no counter to leave. -/
theorem frame_reference (m : (ℓ : Loc Cert.Reference7Ideal.nD Cert.Reference7Ideal.τ Cert.Reference7Ideal.sig) → Buf (Elt Ideal) ℓ) (ρ : Dev Cert.Reference7Ideal.nD → PrngReg) :
    θ_run (Cert.Reference7Ideal.defs (F := Ideal)) (onTc (τ := Cert.Reference7Ideal.τ) (Cert.Reference7Ideal.main (F := Ideal)))
      ⟨m, fun _ => 0, ρ⟩ (fun r => (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
        ∧ r.2.sem = fun _ => 0) :=
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The kernel and the reference end with the same array. -/
theorem value : Cert.algebraic_Kernel7Ideal_Reference7Ideal := by
  intro m g m' g' hpre hag
  refine ⟨fun c => rows (m ((c.tc : Thread _ _).loc Cert.Kernel7Ideal.main_arg0)) (m ((c.tc : Thread _ _).loc Cert.Kernel7Ideal.main_arg1)) (m ((c.tc : Thread _ _).loc Cert.Kernel7Ideal.main_arg2)), ?_, ?_⟩
  · exact (θ_run Cert.Kernel7Ideal.defs _ _).mono
      (fun r h c => ⟨(h c).1.trans (final m c), (h c).2⟩)
      (Cert.Kernel7Ideal.Value.run_blocks (F := Ideal) m g)
  · refine (θ_run Cert.Reference7Ideal.defs _ _).mono (fun r h c => ⟨(h c).1.trans ?_, (h c).2⟩)
      (Cert.Reference7Ideal.Value.run (F := Ideal) m' g')
    rw [Cert.Reference7Ideal.Read.val_main_v24_eq, (hag c).1, (hag c).2.1, (hag c).2.2]
    exact reference_eq _ _ _

end Cert.Proof.Entry

end

end
-- ==== Proof.Glu.lean ====
/- The gated unit at the end of the first branch. -/
module

public import proofs.«01_k».proof.Defs
public import proofs.«01_k».proof.Proof.MergeSpec
public import proofs.«01_k».proof.Proof.Gen.Kernel8Ideal.Value
public import proofs.«01_k».proof.Proof.Gen.Reference8Ideal.Run
public import proofs.«01_k».proof.Proof.Gen.Reference8Ideal.Read
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Glu

open Cert.Kernel8Ideal Cert.Kernel8Ideal.Gen Idealize.ShloMosaic Idealize.ShloMosaic.Tactic Idealize.SL.Sem
open Idealize.ShloMosaic.TcCoe
open Cert.Proof.Merge (Arr gate times)

/-- The tanh form of the gelu. -/
def gelu (v : EReal) : EReal :=
  v * (Ideal.ofBits .f32 0x3F000000#32
    * (1 + Ideal.tanh (Ideal.ofBits .f32 0x3F4C422A#32 * (v + Ideal.ofBits .f32 0x3D372713#32 * (v * v * v)))))

/-- A row before its gate: the gelu of the scan's row and the scaled input row. -/
def unit (y u d : Fin 384 → EReal) (i : Fin 384) : EReal := gelu (y i + d i * u i)

/-- A row times the gate that it takes from itself. -/
def gated (z : Fin 384 → EReal) (w : Arr 384 384) (j : Fin 384) : EReal := z j * gate (times z w j)

/-- The rows, gated. -/
def rows (y u : Vec Ideal S32768x384 .f32) (d : Vec Ideal S384 .f32) (w : Vec Ideal S384x384 .f32) : Vec Ideal S32768x384 .bf16 :=
  fun i => gated (unit (fun k => y (ix2 (i 0) k)) (fun k => u (ix2 (i 0) k)) fun k => d (ix1 k)) (fun k j => w (ix2 k j)) (i 1)

/-- The kernel's order of the gelu's factors. -/
theorem gelu_eq (v : EReal) :
    Ideal.ofBits .f32 0x3F000000#32 * v
        * (1 + Ideal.tanh (Ideal.ofBits .f32 0x3F4C422A#32 * (v + Ideal.ofBits .f32 0x3D372713#32 * (v * v * v))))
      = gelu v := by
  unfold gelu
  rw [mul_comm _ v, mul_assoc]

/-- What a grid point stores, at an index: a gated row. -/
theorem pay_apply (y : Vec Ideal S512x384 .f32) (d : Vec Ideal S1x384 .f32) (u : Vec Ideal S512x384 .f32) (w : Vec Ideal S384x384 .bf16)
    (r : Fin 512) (j : Fin 384) :
    k0_pay1 (F := Ideal) y d u w (ix2 r j)
      = gated (unit (fun k => y (ix2 r k)) (fun k => u (ix2 r k)) fun k => d (ix2 0 k)) (fun k j => w (ix2 k j)) j := by
  pointwise [k0_pay1]
  simp only [zero_sub, gelu_eq]
  rfl

/-- Where the windows stand at a grid point. -/
theorem idx (t : Fin grid0.N) :
    win0_0.index t = ![(grid0.coords t 0).val, 0] ∧ win0_1.index t = ![(grid0.coords t 0).val, 0]
    ∧ win0_2.index t = ![0, 0] ∧ win0_3.index t = ![0, 0] ∧ win0_4.index t = ![(grid0.coords t 0).val, 0] := by
  revert t; decide +kernel

variable (m : (ℓ : Loc nD τ sig) → Buf (Elt Ideal) ℓ) (c : Dev nD)

/-- A block of the scan's rows, at an index. -/
theorem scan_at (t : Fin grid0.N) (r : Fin 512) (k : Fin 384) (R : Fin 32768)
    (hR : R.val = 512 * (grid0.coords t 0).val + r.val) :
    iblk (F := Ideal) m c 0 t (ix2 r k) = m ((c : Thread nD τ).loc main_arg0) (ix2 R k) := by
  obtain ⟨e, -⟩ := idx t
  blk_ext [iblk, V, e]

/-- A block of the input rows, at an index. -/
theorem input_at (t : Fin grid0.N) (r : Fin 512) (k : Fin 384) (R : Fin 32768)
    (hR : R.val = 512 * (grid0.coords t 0).val + r.val) :
    iblk (F := Ideal) m c 1 t (ix2 r k) = m ((c : Thread nD τ).loc main_arg1) (ix2 R k) := by
  obtain ⟨-, e, -⟩ := idx t
  blk_ext [iblk, V, e]

/-- The input's factor as the host leaves it for the kernel, at an index. -/
theorem entry2 (k : Fin 1) (j : Fin 384) : (V m c main_v0 : Vec Ideal S1x384 .f32) (ix2 k j)
    = m ((c : Thread nD τ).loc main_arg2) (ix1 j) := by
  entry_read
  pointwise

/-- The gate's weight as the host leaves it for the kernel, at an index. -/
theorem entry3 (k : Fin 384) (j : Fin 384) : (V m c main_v1 : Vec Ideal S384x384 .bf16) (ix2 k j)
    = m ((c : Thread nD τ).loc main_arg3) (ix2 k j) := by
  entry_read
  pointwise

/-- The block of the input's factor, at an index. -/
theorem factor_at (t : Fin grid0.N) (k : Fin 1) (j : Fin 384) :
    iblk (F := Ideal) m c 2 t (ix2 k j) = m ((c : Thread nD τ).loc main_arg2) (ix1 j) := by
  obtain ⟨-, -, e, -⟩ := idx t
  have h0 : (((win0_2.blk t).view.emb (ix2 k j)) 0 : ℕ) = k.val := by
    blk_simp [e]
  have h1 : (((win0_2.blk t).view.emb (ix2 k j)) 1 : ℕ) = j.val := by
    blk_simp [e]
  have h : iblk (F := Ideal) m c 2 t (ix2 k j) = (V m c main_v0 : Vec Ideal S1x384 .f32) ((win0_2.blk t).view.emb (ix2 k j)) := rfl
  rw [h, ← entry2 m c k j]
  refine congrArg (V m c main_v0 : Vec Ideal S1x384 .f32) ?_
  funext a
  fin_cases a
  · exact Fin.ext h0
  · exact Fin.ext h1

/-- The block of the gate's weight, at an index. -/
theorem weight_at (t : Fin grid0.N) (k : Fin 384) (j : Fin 384) :
    iblk (F := Ideal) m c 3 t (ix2 k j) = m ((c : Thread nD τ).loc main_arg3) (ix2 k j) := by
  obtain ⟨-, -, -, e, -⟩ := idx t
  have h0 : (((win0_3.blk t).view.emb (ix2 k j)) 0 : ℕ) = k.val := by
    blk_simp [e]
  have h1 : (((win0_3.blk t).view.emb (ix2 k j)) 1 : ℕ) = j.val := by
    blk_simp [e]
  have h : iblk (F := Ideal) m c 3 t (ix2 k j) = (V m c main_v1 : Vec Ideal S384x384 .bf16) ((win0_3.blk t).view.emb (ix2 k j)) := rfl
  rw [h, ← entry3 m c k j]
  refine congrArg (V m c main_v1 : Vec Ideal S384x384 .bf16) ?_
  funext a
  fin_cases a
  · exact Fin.ext h0
  · exact Fin.ext h1

/-- The output array. -/
theorem final : (dats (F := Ideal) m 0 c).arrAt 4 cfg0.N
    = rows (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, x, rfl⟩ : ∃ (r : Fin 512) (x : Fin 384), y = ix2 r x := ⟨y 0, y 1, by funext a; fin_cases a <;> rfl⟩
  obtain ⟨-, -, -, -, e⟩ := idx t
  have h0 : (((win0_4.blk t).view.emb (ix2 r x)) 0 : ℕ) = 512 * (grid0.coords t 0).val + r.val := by
    blk_simp [e]; ring
  have h1 : (((win0_4.blk t).view.emb (ix2 r x)) 1 : ℕ) = x.val := by
    blk_simp [e]
  frame_out
  refine (pay_apply _ _ _ _ r x).trans ?_
  unfold rows
  refine congr (congr (congrArg gated ?_) (funext fun k => funext fun j => weight_at m c t k j)) (Fin.ext h1.symm)
  refine congr (congr (congrArg unit (funext fun k => scan_at m c t r k _ h0)) (funext fun k => input_at m c t r k _ h0))
    (funext fun k => factor_at m c t 0 k)

section Reference

open Cert.Reference8Ideal.Read

variable (y u : Vec Ideal S32768x384 .f32) (d : Vec Ideal S384 .f32) (w : Vec Ideal S384x384 .f32) (R : Fin 32768) (j : Fin 384)

/-- The reference's row before its gate. -/
theorem unit_at : val_main_v16 (F := Ideal) y u d (ix2 R j)
    = unit (fun k => y (ix2 R k)) (fun k => u (ix2 R k)) (fun k => d (ix1 k)) j := by
  have e : idx_main_v0 (idx_main_v1 (ix2 R j)) = ix1 j := by funext a; fin_cases a <;> rfl
  have h : val_main_v3 (F := Ideal) y u d (ix2 R j) = y (ix2 R j) + d (ix1 j) * u (ix2 R j) := by
    rw [val_main_v3_apply, val_main_v2_apply, val_main_v1_apply, val_main_v0_apply, e]
    rfl
  rw [val_main_v16_apply, val_main_v15_apply, val_main_v14_apply, val_main_cst_2_apply, val_main_v13_apply, val_main_v12_apply,
    val_main_cst_1_apply, val_main_v11_apply, val_main_v10_apply, val_main_v9_apply, val_main_cst_0_apply, val_main_v8_apply,
    val_main_v7_apply, val_main_v6_apply, val_main_cst_apply, val_main_v5_apply, val_main_v4_apply, h]
  unfold unit gelu
  rw [← Ideal.ofBits_one_f32]
  rfl

/-- The reference's gate. -/
theorem gate_at : val_main_v23 (F := Ideal) y u d w (ix2 R j)
    = gate (times (unit (fun k => y (ix2 R k)) (fun k => u (ix2 R k)) fun k => d (ix1 k)) (fun k j => w (ix2 k j)) j) := by
  have h : val_main_v17 (F := Ideal) y u d w (ix2 R j)
      = times (unit (fun k => y (ix2 R k)) (fun k => u (ix2 R k)) fun k => d (ix1 k)) (fun k j => w (ix2 k j)) j := by
    rw [val_main_v17_apply]
    refine Finset.sum_congr rfl fun k _ => ?_
    have e1 : lidx_main_v17 (ix2 R j) k = ix2 R k := by funext a; fin_cases a <;> rfl
    have e2 : ridx_main_v17 (ix2 R j) k = ix2 k j := by funext a; fin_cases a <;> rfl
    rw [e1, e2, unit_at]
  rw [val_main_v23_apply, val_main_v22_apply, val_main_cst_4_apply, val_main_v21_apply, val_main_v20_apply, val_main_cst_3_apply,
    val_main_v19_apply, val_main_v18_apply, h]
  unfold gate
  rw [← Ideal.ofBits_one_f32]
  rfl

end Reference

/-- The reference's array. -/
theorem reference_eq (y u : Vec Ideal S32768x384 .f32) (d : Vec Ideal S384 .f32) (w : Vec Ideal S384x384 .f32) :
    Cert.Reference8Ideal.Read.val_main_v25 (F := Ideal) y u d w = rows y u d w := by
  funext i
  obtain ⟨R, j, rfl⟩ : ∃ (R : Fin 32768) (j : Fin 384), i = ix2 R j := ⟨i 0, i 1, by funext a; fin_cases a <;> rfl⟩
  rw [Cert.Reference8Ideal.Read.val_main_v25_apply, Cert.Reference8Ideal.Read.val_main_v24_apply, unit_at, gate_at]
  rfl

/-- The reference runs, keeps its arguments and has no counter to leave. -/
theorem frame_reference (m : (ℓ : Loc Cert.Reference8Ideal.nD Cert.Reference8Ideal.τ Cert.Reference8Ideal.sig) → Buf (Elt Ideal) ℓ) (ρ : Dev Cert.Reference8Ideal.nD → PrngReg) :
    θ_run (Cert.Reference8Ideal.defs (F := Ideal)) (onTc (τ := Cert.Reference8Ideal.τ) (Cert.Reference8Ideal.main (F := Ideal)))
      ⟨m, fun _ => 0, ρ⟩ (fun r => (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
        ∧ r.2.sem = fun _ => 0) :=
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The kernel and the reference end with the same array. -/
theorem value : Cert.algebraic_Kernel8Ideal_Reference8Ideal := by
  intro m g m' g' hpre hag
  refine ⟨fun c => rows (m ((c.tc : Thread _ _).loc Cert.Kernel8Ideal.main_arg0)) (m ((c.tc : Thread _ _).loc Cert.Kernel8Ideal.main_arg1)) (m ((c.tc : Thread _ _).loc Cert.Kernel8Ideal.main_arg2)) (m ((c.tc : Thread _ _).loc Cert.Kernel8Ideal.main_arg3)), ?_, ?_⟩
  · exact (θ_run Cert.Kernel8Ideal.defs _ _).mono
      (fun r h c => ⟨(h c).1.trans (final m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    rw [Cert.Reference8Ideal.Read.val_main_v25_eq, (hag c).1, (hag c).2.1, (hag c).2.2.1, (hag c).2.2.2]
    exact reference_eq _ _ _ _

end Cert.Proof.Glu

end

end
-- ==== Proof.PrepSpec.lean ====
/- What the preparation of the queries, keys and values is to leave, lane by lane. -/
module

public import proofs.«01_k».proof.Proof.MergeSpec
public import proofs.«01_k».proof.Proof.Gen.Kernel9Ideal.Skeleton

@[expose] public section

set_option maxRecDepth 16384

noncomputable section

namespace Cert.Proof.Prep

open Cert.Kernel9Ideal Idealize.ShloMosaic Idealize.ShloMosaic.Tactic
open Cert.Proof.Merge (Arr times)

/-- One over the square root of the width of a head's query. -/
def scale : EReal := (((Real.sqrt 96)⁻¹ : ℝ) : EReal)

/-- A row over its root mean square, times a weight; `n` is the row's length as an f32. -/
def rms {p : ℕ} (n : EReal) (x g : Fin p → EReal) (i : Fin p) : EReal :=
  x i * Ideal.rsqrt (Ideal.div (∑ j : Fin p, x j * x j) n + Ideal.ofBits .f32 0x358637BD#32) * g i

/-- The angle of position `p` at frequency `f`. -/
def angle (p : BitVec 32) (f : ℕ) : EReal :=
  FloatOps.sitofp (F := Ideal) FTy.f32 p
    * Ideal.div 1 (Ideal.pow (Ideal.ofBits .f32 0x461C4000#32)
        (Ideal.div (Ideal.ofBits .f32 0x40000000#32 * FloatOps.sitofp (F := Ideal) FTy.f32 (BitVec.ofNat 32 f))
          (Ideal.ofBits .f32 0x42000000#32)))

/-- The angle of row `R`, the positions lying four times 8192. -/
def angleAt (pos : Vec Ideal S4x8192 .i32) (R : Fin 32768) (f : Fin 16) : EReal :=
  angle (pos (ix2 (⟨R.val / 8192, by omega⟩ : Fin 4) (⟨R.val % 8192, by omega⟩ : Fin 8192))) f.val

/-- Lane `64 + i` of a packed row, for a rotated part of two halves. -/
def rope (x : Fin 32 → EReal) (c s : Fin 16 → EReal) (i : Fin 32) : EReal :=
  if h : i.val < 16 then x i * c ⟨i.val, h⟩ - x ⟨i.val + 16, by omega⟩ * s ⟨i.val, h⟩
  else x i * c ⟨i.val - 16, by omega⟩ + x ⟨i.val - 16, by omega⟩ * s ⟨i.val - 16, by omega⟩

/-- Head `h`'s query, from the row of all heads' queries. -/
def qlane (z : Fin 768 → EReal) (c s : Fin 16 → EReal) (h : Fin 8) (l : Fin 128) : EReal :=
  if hl : l.val < 64 then z ⟨96 * h.val + l.val, by omega⟩ * scale
  else if hr : l.val < 96 then rope (fun i => z ⟨96 * h.val + 64 + i.val, by omega⟩) c s ⟨l.val - 64, by omega⟩ * scale
  else 0

/-- Head `h`'s key, from the row of all heads' keys and values and the shared part. -/
def klane (z : Fin 1024 → EReal) (x : Fin 32 → EReal) (c s : Fin 16 → EReal) (h : Fin 8) (l : Fin 128) : EReal :=
  if hl : l.val < 64 then z ⟨128 * h.val + l.val, by omega⟩
  else if hr : l.val < 96 then rope x c s ⟨l.val - 64, by omega⟩
  else 0

/-- Head `h`'s value and a one, from the row of all heads' keys and values. -/
def vlane (z : Fin 1024 → EReal) (h : Fin 8) (l : Fin 128) : EReal :=
  if hl : l.val < 64 then z ⟨128 * h.val + 64 + l.val, by omega⟩ else if l.val < 65 then 1 else 0

/-- Row `R` of all heads' queries, from the arrays. -/
def qrow (x : Vec Ideal S32768x512 .f32) (g : Vec Ideal S256 .f32) (w : Vec Ideal S256x768 .f32) (R : Fin 32768) : Fin 768 → EReal :=
  times (rms (Ideal.ofBits .f32 0x43800000#32) (fun k => x (ix2 R (⟨k.val, by omega⟩ : Fin 512))) fun k : Fin 256 => g (ix1 k))
    fun k j => w (ix2 k j)

/-- Row `R` of all heads' keys and values, from the arrays. -/
def kvrow (x : Vec Ideal S32768x512 .f32) (g : Vec Ideal S128 .f32) (w : Vec Ideal S128x1024 .f32) (R : Fin 32768) : Fin 1024 → EReal :=
  times (rms (Ideal.ofBits .f32 0x43000000#32) (fun k => x (ix2 R (⟨256 + k.val, by omega⟩ : Fin 512))) fun k : Fin 128 => g (ix1 k))
    fun k j => w (ix2 k j)

/-- The part of row `R` that all heads' keys share. -/
def shared (x : Vec Ideal S32768x512 .f32) (R : Fin 32768) (i : Fin 32) : EReal := x (ix2 R (⟨448 + i.val, by omega⟩ : Fin 512))

/-- The cosines and the sines of row `R`. -/
def cosAt (pos : Vec Ideal S4x8192 .i32) (R : Fin 32768) (f : Fin 16) : EReal := Ideal.cos (angleAt pos R f)
def sinAt (pos : Vec Ideal S4x8192 .i32) (R : Fin 32768) (f : Fin 16) : EReal := Ideal.sin (angleAt pos R f)

/-- The packed queries. -/
def queries (x : Vec Ideal S32768x512 .f32) (pos : Vec Ideal S4x8192 .i32) (g : Vec Ideal S256 .f32) (w : Vec Ideal S256x768 .f32) :
    Vec Ideal S8x32768x128 .bf16 :=
  fun y => qlane (qrow x g w (y 1)) (cosAt pos (y 1)) (sinAt pos (y 1)) (y 0) (y 2)

/-- The packed keys. -/
def keys (x : Vec Ideal S32768x512 .f32) (pos : Vec Ideal S4x8192 .i32) (g : Vec Ideal S128 .f32) (w : Vec Ideal S128x1024 .f32) :
    Vec Ideal S8x32768x128 .bf16 :=
  fun y => klane (kvrow x g w (y 1)) (shared x (y 1)) (cosAt pos (y 1)) (sinAt pos (y 1)) (y 0) (y 2)

/-- The packed values. -/
def values (x : Vec Ideal S32768x512 .f32) (g : Vec Ideal S128 .f32) (w : Vec Ideal S128x1024 .f32) : Vec Ideal S8x32768x128 .bf16 :=
  fun y => vlane (kvrow x g w (y 1)) (y 0) (y 2)

end Cert.Proof.Prep

end

end
-- ==== Proof.PrepPay.lean ====
/- What the kernel's body computes in the preparation, at an index. -/
module

public import proofs.«01_k».proof.Proof.PrepSpec
public import proofs.«01_k».proof.Proof.Gen.Kernel9Ideal.Frame
public import Idealize.ShloMosaic.Lib.Exec
public import Idealize.ShloMosaic.Lib.Tactic
public import Idealize.ShloMosaic.Lib.Pointwise
public import Idealize.ShloMosaic.Lib.Claim
public import Idealize.ShloMosaic.Lib.Pipeline.Covers
public import Idealize.ShloMosaic.Lib.Pipeline.ValueKit.Acc
public import Idealize.ShloMosaic.Lib.Pipeline.ValueKit
public import Idealize.ShloMosaic.PureOps.IdealRules

@[expose] public section

set_option maxRecDepth 16384

noncomputable section

namespace Cert.Proof.Prep

open Cert.Kernel9Ideal Cert.Kernel9Ideal.Gen Idealize.ShloMosaic Idealize.ShloMosaic.Tactic Idealize.SL.Sem
open Cert.Proof.Merge (Arr times)

theorem named_scale : (Named.named (F := Ideal) κ "scale" (φ := .f32) 0x3DD105EC#32) = scale :=
  IdealRules.named_const.ideal_named_scalar _ _ _ _ rfl

/-- The lane that a rotation by 96 reads. -/
def back (l : Fin 128) : Fin 128 := ⟨(l.val + 32) % 128, by omega⟩

/-- All heads' queries of one row. -/
theorem pay3_apply (x : Vec Ideal S512x256 .f32) (g : Vec Ideal S1x256 .f32) (w : Vec Ideal S256x1024 .bf16) (r : Fin 512) (j : Fin 1024) :
    k0_pay3 (F := Ideal) x g w (ix2 r j)
      = times (rms (Ideal.ofBits .f32 0x43800000#32) (fun k => x (ix2 r k)) fun k => g (ix2 0 k)) (fun k j => w (ix2 k j)) j := by
  pointwise [k0_pay3]
  rfl

/-- All heads' keys and values of one row. -/
theorem pay4_apply (x : Vec Ideal S512x128 .f32) (g : Vec Ideal S1x128 .f32) (w : Vec Ideal S128x2048 .bf16) (r : Fin 512) (j : Fin 2048) :
    k0_pay4 (F := Ideal) x g w (ix2 r j)
      = times (rms (Ideal.ofBits .f32 0x43000000#32) (fun k => x (ix2 r k)) fun k => g (ix2 0 k)) (fun k j => w (ix2 k j)) j := by
  pointwise [k0_pay4]
  rfl

/-- The shared rotated part. -/
theorem pay7_apply (c s x : Vec Ideal S512x128 .f32) (r : Fin 512) (l : Fin 128) :
    k0_pay7 (F := Ideal) c s x (ix2 r l) = x (ix2 r l) * c (ix2 r l) + x (ix2 r (back l)) * s (ix2 r l) := by
  pointwise [k0_pay7, k0_pay5, k0_pay6]
  rfl

/-- Whether a lane is below 64, as an f32. -/
theorem below (l : Fin 128) :
    FloatOps.sitofp (F := Ideal) FTy.f32 (BitVec.setWidth 32 (IntOp.cmpi CmpIPredicate.slt (BitVec.ofNat 32 l.val) 64#32))
      = if l.val < 64 then 1 else 0 := by
  have h : ∀ l : Fin 128, BitVec.setWidth 32 (IntOp.cmpi CmpIPredicate.slt (BitVec.ofNat 32 l.val) 64#32) = if l.val < 64 then 1#32 else 0#32 := by
    decide +kernel
  rw [h l]
  change ((BitVec.toInt _ : ℝ) : EReal) = _
  split <;> simp

/-- Whether a lane is lane 64, as an f32. -/
theorem at64 (l : Fin 128) :
    FloatOps.sitofp (F := Ideal) FTy.f32 (BitVec.setWidth 32 (IntOp.cmpi CmpIPredicate.eq (BitVec.ofNat 32 l.val) 64#32))
      = if l.val = 64 then 1 else 0 := by
  have h : ∀ l : Fin 128, BitVec.setWidth 32 (IntOp.cmpi CmpIPredicate.eq (BitVec.ofNat 32 l.val) 64#32) = if l.val = 64 then 1#32 else 0#32 := by
    decide +kernel
  rw [h l]
  change ((BitVec.toInt _ : ℝ) : EReal) = _
  split <;> simp

/-- The factors of a query's own lanes. -/
theorem pay8_apply (c : Vec Ideal S512x128 .f32) (r : Fin 512) (l : Fin 128) :
    k0_pay8 (F := Ideal) c (ix2 r l) = scale * (c (ix2 r l) + if l.val < 64 then 1 else 0) := by
  pointwise [k0_pay8, k0_pay5]
  rw [named_scale, below]

/-- The factors of a query's rotated lanes. -/
theorem pay9_apply (s : Vec Ideal S512x128 .f32) (r : Fin 512) (l : Fin 128) :
    k0_pay9 (F := Ideal) s (ix2 r l) = scale * s (ix2 r l) := by
  pointwise [k0_pay9, k0_pay6]
  rw [named_scale]

/-- The one in lane 64. -/
theorem pay10_apply (l : Fin 128) : k0_pay10 (F := Ideal) (ix2 0 l) = if l.val = 64 then 1 else 0 := by
  pointwise [k0_pay10]
  rw [at64]

section
variable (x0 : Vec Ideal S512x256 .f32) (x1 x2 x3 x4 : Vec Ideal S512x128 .f32) (x5 : Vec Ideal S1x256 .f32) (x6 : Vec Ideal S1x128 .f32)
    (x7 : Vec Ideal S256x1024 .bf16) (x8 : Vec Ideal S128x2048 .bf16)

/-! The body reads its blocks whole. -/

theorem pay39_eq : k0_pay39 (F := Ideal) x0 x1 x2 x3 x4 x5 x6 x7 x8 = k0_pay3 (F := Ideal) x0 x5 x7 := by
  unfold k0_pay39
  rw [View.ld_unit_zero (by decide), View.ld_unit_zero (by decide), View.ld_unit_zero (by decide)]

theorem pay40_eq : k0_pay40 (F := Ideal) x0 x1 x2 x3 x4 x5 x6 x7 x8 = k0_pay4 (F := Ideal) x1 x6 x8 := by
  unfold k0_pay40
  rw [View.ld_unit_zero (by decide), View.ld_unit_zero (by decide), View.ld_unit_zero (by decide)]

theorem pay41_eq : k0_pay41 (F := Ideal) x0 x1 x2 x3 x4 x5 x6 x7 x8 = k0_pay7 (F := Ideal) x3 x4 x2 := by
  unfold k0_pay41
  rw [View.ld_unit_zero (by decide), View.ld_unit_zero (by decide), View.ld_unit_zero (by decide)]

theorem pay42_eq : k0_pay42 (F := Ideal) x0 x1 x2 x3 x4 x5 x6 x7 x8 = k0_pay8 (F := Ideal) x3 := by
  unfold k0_pay42
  rw [View.ld_unit_zero (by decide)]

theorem pay43_eq : k0_pay43 (F := Ideal) x0 x1 x2 x3 x4 x5 x6 x7 x8 = k0_pay9 (F := Ideal) x4 := by
  unfold k0_pay43
  rw [View.ld_unit_zero (by decide)]

/-- The first coordinate of an index. -/
theorem ix3_val0 {a b c : ℕ} (i : Fin a) (j : Fin b) (k : Fin c) : ((ix3 i j k) 0).val = i.val := rfl

/-- The query's block, from all heads' queries and the lanes' factors. -/
theorem out9_apply (h : Fin 8) (r : Fin 512) (l : Fin 128) :
    out0_9 (F := Ideal) x0 x1 x2 x3 x4 x5 x6 x7 x8 (ix3 h r l)
      = k0_pay3 (F := Ideal) x0 x5 x7 (ix2 r ⟨128 * h.val + l.val, by omega⟩) * k0_pay8 (F := Ideal) x3 (ix2 r l)
        + k0_pay3 (F := Ideal) x0 x5 x7 (ix2 r ⟨128 * h.val + (back l).val, by have := (back l).isLt; omega⟩) * k0_pay9 (F := Ideal) x4 (ix2 r l) := by
  unfold out0_9
  rw [View.ld_unit_zero (by decide), View.ld_unit_zero (by decide), pay39_eq, pay42_eq, pay43_eq]
  generalize k0_pay3 (F := Ideal) x0 x5 x7 = z
  canon_tiles x hx
  all_goals
    obtain ⟨a, r', l', rfl⟩ : ∃ (a : Fin 1) (r' : Fin 512) (l' : Fin 128), x = ix3 a r' l' :=
      ⟨x 0, x 1, x 2, by funext i; fin_cases i <;> rfl⟩
    obtain rfl : r = r' := Fin.ext hx1
    obtain rfl : l = l' := Fin.ext hx2
    simp only [ix3_val0] at hx0
    try unfold k0_pay11
    generalize k0_pay8 (F := Ideal) x3 = p
    generalize k0_pay9 (F := Ideal) x4 = q
    pointwise [k0_pay37, k0_pay34, k0_pay30, k0_pay27, k0_pay26, k0_pay23, k0_pay19, k0_pay16]
    refine congr (congrArg _ (congrArg (· * _) (congrArg (fun i => z (ix2 r i)) (Fin.ext ?_))))
      (congrArg (· * _) (congrArg (fun i => z (ix2 r i)) (Fin.ext ?_)))
    all_goals dsimp only [back]; omega

/-- The key's block, from all heads' keys and the shared part. -/
theorem out10_apply (h : Fin 8) (r : Fin 512) (l : Fin 128) :
    out0_10 (F := Ideal) x0 x1 x2 x3 x4 x5 x6 x7 x8 (ix3 h r l)
      = k0_pay4 (F := Ideal) x1 x6 x8 (ix2 r ⟨256 * h.val + l.val, by omega⟩) + k0_pay7 (F := Ideal) x3 x4 x2 (ix2 r l) := by
  unfold out0_10
  rw [View.ld_unit_zero (by decide), View.ld_unit_zero (by decide), View.ld_unit_zero (by decide), pay40_eq, pay41_eq]
  generalize k0_pay4 (F := Ideal) x1 x6 x8 = z
  canon_tiles x hx
  all_goals
    obtain ⟨a, r', l', rfl⟩ : ∃ (a : Fin 1) (r' : Fin 512) (l' : Fin 128), x = ix3 a r' l' :=
      ⟨x 0, x 1, x 2, by funext i; fin_cases i <;> rfl⟩
    obtain rfl : r = r' := Fin.ext hx1
    obtain rfl : l = l' := Fin.ext hx2
    simp only [ix3_val0] at hx0
    try unfold k0_pay12
    generalize k0_pay7 (F := Ideal) x3 x4 x2 = p
    pointwise [k0_pay1, k0_pay38, k0_pay35, k0_pay31, k0_pay28, k0_pay24, k0_pay21, k0_pay20, k0_pay17]
    refine congrArg (· + _) (congrArg (fun i => z (ix2 r i)) (Fin.ext ?_))
    dsimp only
    omega

/-- The value's block, from all heads' values. -/
theorem out11_apply (h : Fin 8) (r : Fin 512) (l : Fin 128) :
    out0_11 (F := Ideal) x0 x1 x2 x3 x4 x5 x6 x7 x8 (ix3 h r l)
      = k0_pay4 (F := Ideal) x1 x6 x8 (ix2 r ⟨256 * h.val + 128 + l.val, by omega⟩) + k0_pay10 (F := Ideal) (ix2 0 l) := by
  unfold out0_11 k0_pay44
  rw [pay40_eq]
  generalize k0_pay4 (F := Ideal) x1 x6 x8 = z
  canon_tiles x hx
  all_goals
    obtain ⟨a, r', l', rfl⟩ : ∃ (a : Fin 1) (r' : Fin 512) (l' : Fin 128), x = ix3 a r' l' :=
      ⟨x 0, x 1, x 2, by funext i; fin_cases i <;> rfl⟩
    obtain rfl : r = r' := Fin.ext hx1
    obtain rfl : l = l' := Fin.ext hx2
    simp only [ix3_val0] at hx0
    try unfold k0_pay14
    generalize k0_pay10 (F := Ideal) = p
    pointwise [k0_pay2, k0_pay36, k0_pay33, k0_pay32, k0_pay29, k0_pay25, k0_pay22, k0_pay18, k0_pay15, k0_pay13]
    refine congrArg (· + _) (congrArg (fun i => z (ix2 r i)) (Fin.ext ?_))
    dsimp only
    omega

end

end Cert.Proof.Prep

end

end
-- ==== Proof.PrepEntry.lean ====
/- The operands that the host prepares for the preparation's kernel, at an index. -/
module

public import proofs.«01_k».proof.Proof.PrepSpec
public import proofs.«01_k».proof.Proof.Gen.Kernel9Ideal.Frame
public import Idealize.ShloMosaic.Lib.Exec
public import Idealize.ShloMosaic.Lib.Tactic
public import Idealize.ShloMosaic.Lib.Pointwise
public import Idealize.ShloMosaic.Lib.Claim
public import Idealize.ShloMosaic.Lib.StableHlo.RunRead
public import Idealize.ShloMosaic.Lib.Routing.OpsSet
public import Idealize.ShloMosaic.Lib.Routing.OpsPair

@[expose] public section

set_option maxRecDepth 16384

noncomputable section

namespace Cert.Proof.Prep

open Cert.Kernel9Ideal Cert.Kernel9Ideal.Gen Idealize.ShloMosaic Idealize.ShloMosaic.Tactic Idealize.SL.Sem
open Idealize.ShloMosaic.TcCoe

/-- An update `(a, b)` of 32 lanes set into a row of 128 at lane 64 lands at lane `64 + b` of row `a`. -/
theorem lands (idx : IVec S1 32) (hi : ∀ i, idx i = 64#32) (a : Fin 32768) (b : Fin 32) (r : Fin 32768) (l : Fin 128) :
    scatter_S32768x128_S1_S32768x32_01_n_1_0.resultIdx? (ix2 a b) idx = some (ix2 r l) ↔ a = r ∧ 64 + b.val = l.val := by
  have s0 : scatter_S32768x128_S1_S32768x32_01_n_1_0.start (ix2 a b) idx 0 = 0 := rfl
  have s1 : scatter_S32768x128_S1_S32768x32_01_n_1_0.start (ix2 a b) idx 1 = 64 := by
    unfold ScatterDims.start
    rw [dif_pos (by decide), hi]
    rfl
  have w0 : scatter_S32768x128_S1_S32768x32_01_n_1_0.window (ix2 a b) 0 = a.val := rfl
  have w1 : scatter_S32768x128_S1_S32768x32_01_n_1_0.window (ix2 a b) 1 = b.val := rfl
  rw [Routing.resultIdx?_eq_some]
  constructor
  · intro h
    have h0 := h 0
    have h1 := h 1
    rw [s0, w0] at h0
    rw [s1, w1] at h1
    change _ = (r.val : ℤ) at h0
    change _ = (l.val : ℤ) at h1
    exact ⟨Fin.ext (by omega), by omega⟩
  · rintro ⟨rfl, h⟩ x
    fin_cases x
    · change scatter_S32768x128_S1_S32768x32_01_n_1_0.start (ix2 a b) idx 0 + _ = (a.val : ℤ)
      rw [s0]
      change 0 + (a.val : ℤ) = _
      omega
    · change scatter_S32768x128_S1_S32768x32_01_n_1_0.start (ix2 a b) idx 1 + _ = (l.val : ℤ)
      rw [s1]
      change 64 + (b.val : ℤ) = _
      omega

/-- A row of 128 lanes with 32 lanes set from lane 64 on. -/
theorem set_lanes (x : S32768x128.Idx → EReal) (idx : IVec S1 32) (hi : ∀ i, idx i = 64#32) (u : S32768x32.Idx → EReal)
    (r : Fin 32768) (l : Fin 128) :
    Host.scatter scatter_S32768x128_S1_S32768x32_01_n_1_0 (fun _ b => b) x idx u (ix2 r l)
      = if h : 64 ≤ l.val ∧ l.val < 96 then u (ix2 r ⟨l.val - 64, by omega⟩) else x (ix2 r l) := by
  have hk : ∀ k : S32768x32.Idx, scatter_S32768x128_S1_S32768x32_01_n_1_0.resultIdx? k idx = some (ix2 r l) → k 0 = r ∧ 64 + (k 1).val = l.val := by
    intro k h
    rw [show k = ix2 (k 0 : Fin 32768) (k 1 : Fin 32) from funext fun a => by fin_cases a <;> rfl] at h
    exact (lands idx hi _ _ r l).1 h
  split
  · next h =>
    refine Routing.scatter_set_hit _ x idx u _ _ (fun k e => ?_) (ix2 r ⟨l.val - 64, by omega⟩) ((lands idx hi _ _ r l).2 ⟨rfl, by dsimp only; omega⟩)
    obtain ⟨h0, h1⟩ := hk k e
    refine congrArg u (funext fun a => ?_)
    fin_cases a
    · exact h0
    · exact Fin.ext (by show (k 1).val = l.val - 64; omega)
  · next h =>
    refine Routing.scatter_set_miss _ x idx u _ fun k e => h ?_
    obtain ⟨-, h1⟩ := hk k e
    have := (k 1).isLt
    change (k 1).val < 32 at this
    omega

variable (m : (ℓ : Loc nD τ sig) → Buf (Elt Ideal) ℓ) (c : Dev nD)

/-- The query weight's lanes of one head: the columns, and after lane 96 the rotated ones. -/
def wlane (w : Vec Ideal S256x768 .f32) (k : Fin 256) (h : Fin 8) (l : Fin 128) : EReal :=
  if hl : l.val < 96 then w (ix2 k ⟨96 * h.val + l.val, by omega⟩)
  else if hr : l.val < 112 then -w (ix2 k ⟨96 * h.val + (l.val - 16), by omega⟩)
  else w (ix2 k ⟨96 * h.val + (l.val - 48), by omega⟩)

theorem wlane_eq (w : Vec Ideal S256x768 .f32) (k : Fin 256) (h : Fin 8) (l : Fin 128) :
    (if _ : (128 * h.val + l.val) % 128 < 96 then
      w (ix2 k ⟨(128 * h.val + l.val) / 128 * 96 + (128 * h.val + l.val) % 128, by omega⟩)
    else if _ : (128 * h.val + l.val) % 128 - 96 < 16 then
      -w (ix2 k ⟨(128 * h.val + l.val) / 128 * 96 + (64 + (16 + ((128 * h.val + l.val) % 128 - 96))), by omega⟩)
    else w (ix2 k ⟨(128 * h.val + l.val) / 128 * 96 + (64 + ((128 * h.val + l.val) % 128 - 96 - 16)), by omega⟩))
      = wlane w k h l := by
  unfold wlane
  by_cases h1 : l.val < 96
  · rw [dif_pos (by omega), dif_pos h1]
    exact congrArg (fun i => w (ix2 k i)) (Fin.ext (by dsimp only; omega))
  · rw [dif_neg (by omega), dif_neg h1]
    by_cases h2 : l.val < 112
    · rw [dif_pos (by omega), dif_pos h2]
      exact congrArg (fun i => -w (ix2 k i)) (Fin.ext (by dsimp only; omega))
    · rw [dif_neg (by omega), dif_neg h2]
      exact congrArg (fun i => w (ix2 k i)) (Fin.ext (by dsimp only; omega))

/-- The host's query weight, at an index. -/
theorem entry45 (k : Fin 256) (h : Fin 8) (l : Fin 128) :
    (V m c main_v45 : Vec Ideal S256x1024 .bf16) (ix2 k ⟨128 * h.val + l.val, by omega⟩)
      = wlane (m ((c : Thread nD τ).loc main_arg3)) k h l := by
  entry_read
  pointwise
  exact wlane_eq _ k h l

/-- The key and value weight's lanes of one head: 64 columns, 64 zeros, 64 columns, 64 zeros. -/
def kvlane (w : Vec Ideal S128x1024 .f32) (k : Fin 128) (h : Fin 8) (l : Fin 256) : EReal :=
  if hl : l.val < 64 then w (ix2 k ⟨128 * h.val + l.val, by omega⟩)
  else if l.val < 128 then 0
  else if hr : l.val < 192 then w (ix2 k ⟨128 * h.val + (l.val - 64), by omega⟩)
  else 0

theorem kvlane_eq (w : Vec Ideal S128x1024 .f32) (k : Fin 128) (h : Fin 8) (l : Fin 256) :
    (if _ : (256 * h.val + l.val) % 256 < 64 then
      w (ix2 k ⟨(256 * h.val + l.val) / 256 * 128 + (256 * h.val + l.val) % 256, by omega⟩)
    else if _ : (256 * h.val + l.val) % 256 - 64 < 64 then (0 : EReal)
    else if _ : (256 * h.val + l.val) % 256 - 64 - 64 < 64 then
      w (ix2 k ⟨(256 * h.val + l.val) / 256 * 128 + (64 + ((256 * h.val + l.val) % 256 - 64 - 64)), by omega⟩)
    else 0) = kvlane w k h l := by
  unfold kvlane
  by_cases h1 : l.val < 64
  · rw [dif_pos (by omega), dif_pos h1]
    exact congrArg (fun i => w (ix2 k i)) (Fin.ext (by dsimp only; omega))
  rw [dif_neg (by omega), dif_neg h1]
  by_cases h2 : l.val < 128
  · rw [dif_pos (by omega), if_pos h2]
  rw [dif_neg (by omega), if_neg h2]
  by_cases h3 : l.val < 192
  · rw [dif_pos (by omega), dif_pos h3]
    exact congrArg (fun i => w (ix2 k i)) (Fin.ext (by dsimp only; omega))
  rw [dif_neg (by omega), dif_neg h3]

/-- The host's key and value weight, at an index. -/
theorem entry46 (k : Fin 128) (h : Fin 8) (l : Fin 256) :
    (V m c main_v46 : Vec Ideal S128x2048 .bf16) (ix2 k ⟨256 * h.val + l.val, by omega⟩)
      = kvlane (m ((c : Thread nD τ).loc main_arg5)) k h l := by
  dsimp only [V]
  after_reads_simp
  pointwise
  after_reads_simp
  pointwise
  exact kvlane_eq _ k h l

/-- The table of cosines or sines, by lane. -/
def tlane (t : Fin 16 → EReal) (l : Fin 128) : EReal :=
  if h : 64 ≤ l.val ∧ l.val < 80 then t ⟨l.val - 64, by omega⟩
  else if h : 80 ≤ l.val ∧ l.val < 96 then t ⟨l.val - 80, by omega⟩
  else 0

theorem tlane_eq (a : ℕ → EReal) (l : Fin 128) :
    (if _ : 64 ≤ l.val ∧ l.val < 96 then (if _ : l.val - 64 < 16 then a (l.val - 64) else a (l.val - 64 - 16)) else 0)
      = tlane (fun f => a f.val) l := by
  unfold tlane
  split_ifs
  all_goals first
    | omega
    | rfl

/-- The host's table of cosines, at an index. -/
theorem entry25 (R : Fin 32768) (l : Fin 128) :
    (V m c main_v25 : Vec Ideal S32768x128 .f32) (ix2 R l)
      = tlane (cosAt (m ((c : Thread nD τ).loc main_arg1)) R) l := by
  entry_read
  refine (set_lanes _ _ (fun i => ?_) _ R l).trans ?_
  · pointwise
  pointwise
  exact tlane_eq (fun n => Ideal.cos (angle ((m ((c : Thread nD τ).loc main_arg1) : Vec Ideal S4x8192 .i32)
    (ix2 ⟨R.val / 8192, by omega⟩ ⟨R.val % 8192, by omega⟩)) n)) l

/-- The host's table of sines, at an index. -/
theorem entry28 (R : Fin 32768) (l : Fin 128) :
    (V m c main_v28 : Vec Ideal S32768x128 .f32) (ix2 R l)
      = tlane (sinAt (m ((c : Thread nD τ).loc main_arg1)) R) l := by
  entry_read
  refine (set_lanes _ _ (fun i => ?_) _ R l).trans ?_
  · pointwise
  pointwise
  exact tlane_eq (fun n => Ideal.sin (angle ((m ((c : Thread nD τ).loc main_arg1) : Vec Ideal S4x8192 .i32)
    (ix2 ⟨R.val / 8192, by omega⟩ ⟨R.val % 8192, by omega⟩)) n)) l

/-- The queries' norm weight, at an index. -/
theorem entry43 (a : Fin 1) (k : Fin 256) :
    (V m c main_v43 : Vec Ideal S1x256 .f32) (ix2 a k) = m ((c : Thread nD τ).loc main_arg2) (ix1 k) := by
  entry_read
  pointwise

/-- The keys' norm weight, at an index. -/
theorem entry44 (a : Fin 1) (k : Fin 128) :
    (V m c main_v44 : Vec Ideal S1x128 .f32) (ix2 a k) = m ((c : Thread nD τ).loc main_arg4) (ix1 k) := by
  entry_read
  pointwise

end Cert.Proof.Prep

end

end
-- ==== Proof.PrepLanes.lean ====
/- One lane of a packed query, key or value: what the kernel's factors make of the laid-out weights. -/
module

public import proofs.«01_k».proof.Proof.PrepPay
public import proofs.«01_k».proof.Proof.PrepEntry
public import proofs.«01_k».proof.Proof.Finite

@[expose] public section

set_option maxRecDepth 16384

noncomputable section

namespace Cert.Proof.Prep

open Cert.Kernel9Ideal Idealize.ShloMosaic Idealize.ShloMosaic.Tactic
open Cert.Proof.Merge (Arr times)

/-- A factor that is a nonnegative real moves out of a sum. -/
theorem scale_add (x y : EReal) : (x + y) * scale = x * scale + y * scale :=
  EReal.right_distrib_of_nonneg_of_ne_top (EReal.coe_nonneg.2 (inv_nonneg.2 (Real.sqrt_nonneg _))) (EReal.coe_ne_top _) x y

/-- The sum of the squares of a row that is not all finite is infinite. -/
theorem sum_sq_top {n : ℕ} (x : Fin n → EReal) (h : ¬ ∀ i, Finite (x i)) : ∑ i, x i * x i = ⊤ := by
  obtain ⟨i, hi⟩ := not_forall.1 h
  have hx : x i * x i = ⊤ := by
    by_cases ht : x i = ⊤
    · rw [ht]; rfl
    · rw [not_not.1 fun hb => hi ⟨ht, hb⟩]; rfl
  refine top_le_iff.1 (hx ▸ Finset.single_le_sum (f := fun i => x i * x i) (fun j _ => ?_) (Finset.mem_univ i))
  obtain h | h := le_total 0 (x j)
  · exact EReal.mul_nonneg h h
  · rw [← neg_mul_neg]
    exact EReal.mul_nonneg (EReal.neg_nonneg.2 h) (EReal.neg_nonneg.2 h)

/-- A row over its root mean square, times finite weights, is finite: an infinite row has an infinite root, and becomes zero. -/
theorem rms_finite (x g : Fin 256 → EReal) (hg : ∀ i, Finite (g i)) (i : Fin 256) :
    Finite (rms (Ideal.ofBits .f32 0x43800000#32) x g i) := by
  have h256 : Ideal.ofBits .f32 0x43800000#32 = ((256 : ℝ) : EReal) := by
    simp [Ideal.ofBits, Ideal.ieee]
    rw [← EReal.coe_mul]
    norm_num
  have heps : ∃ e : ℝ, 0 < e ∧ Ideal.ofBits .f32 0x358637BD#32 = (e : EReal) := by
    simp [Ideal.ofBits, Ideal.ieee]
    rw [← EReal.coe_mul]
    exact ⟨_, by norm_num, rfl⟩
  obtain ⟨e, he, heq⟩ := heps
  unfold rms
  rw [h256, heq, Ideal.div_coe (by norm_num)]
  by_cases hx : ∀ i, Finite (x i)
  swap
  · rw [sum_sq_top x hx, EReal.top_mul_coe_of_pos (by norm_num), EReal.top_add_coe, Ideal.rsqrt_top, mul_zero, zero_mul]
    exact ⟨EReal.zero_ne_top, EReal.zero_ne_bot⟩
  obtain ⟨a, rfl⟩ := reals x hx
  obtain ⟨b, rfl⟩ := reals g hg
  simp only [← EReal.coe_mul, ← Cert.Attn.coe_sum, ← EReal.coe_add]
  have hp : 0 < (∑ j, a j * a j) * (1 / 256) + e := by
    have : 0 ≤ ∑ j, a j * a j := Finset.sum_nonneg fun j _ => mul_self_nonneg _
    positivity
  rw [Ideal.rsqrt_coe, if_neg (not_lt.2 hp.le), if_neg hp.ne']
  simp only [← EReal.coe_mul]
  exact ⟨EReal.coe_ne_top _, EReal.coe_ne_bot _⟩

/-- The table holds nothing outside lanes 64 to 95. -/
theorem tlane_out (t : Fin 16 → EReal) (l : Fin 128) (h : l.val < 64 ∨ 96 ≤ l.val) : tlane t l = 0 := by
  unfold tlane
  rw [dif_neg (by omega), dif_neg (by omega)]

theorem tlane_fst (t : Fin 16 → EReal) (i : Fin 16) : tlane t ⟨64 + i.val, by omega⟩ = t i := by
  unfold tlane
  rw [dif_pos (by dsimp only; omega)]
  exact congrArg t (Fin.ext (by dsimp only; omega))

theorem tlane_snd (t : Fin 16 → EReal) (i : Fin 16) : tlane t ⟨80 + i.val, by omega⟩ = t i := by
  unfold tlane
  rw [dif_neg (by dsimp only; omega), dif_pos (by dsimp only; omega)]
  exact congrArg t (Fin.ext (by dsimp only; omega))

/-- Every lane is one of 64, one of the next 16, one of the 16 after, or beyond. -/
theorem lane_cases (l : Fin 128) : l.val < 64 ∨ (∃ i : Fin 16, l = ⟨64 + i.val, by omega⟩)
    ∨ (∃ i : Fin 16, l = ⟨80 + i.val, by omega⟩) ∨ 96 ≤ l.val := by
  by_cases h1 : l.val < 64
  · exact .inl h1
  by_cases h2 : l.val < 80
  · exact .inr (.inl ⟨⟨l.val - 64, by omega⟩, Fin.ext (by dsimp only; omega)⟩)
  by_cases h3 : l.val < 96
  · exact .inr (.inr (.inl ⟨⟨l.val - 80, by omega⟩, Fin.ext (by dsimp only; omega)⟩))
  · exact .inr (.inr (.inr (by omega)))

theorem rope_fst (x : Fin 32 → EReal) (c s : Fin 16 → EReal) (i : Fin 16) (j : Fin 32) (hj : j.val = i.val) :
    rope x c s j = x ⟨i.val, by omega⟩ * c i - x ⟨i.val + 16, by omega⟩ * s i := by
  refine (congrArg (rope x c s) (Fin.ext hj : j = ⟨i.val, by omega⟩)).trans ?_
  unfold rope
  rw [dif_pos i.isLt]

theorem rope_snd (x : Fin 32 → EReal) (c s : Fin 16 → EReal) (i : Fin 16) (j : Fin 32) (hj : j.val = i.val + 16) :
    rope x c s j = x ⟨i.val + 16, by omega⟩ * c i + x ⟨i.val, by omega⟩ * s i := by
  refine (congrArg (rope x c s) (Fin.ext hj : j = ⟨i.val + 16, by omega⟩)).trans ?_
  unfold rope
  rw [dif_neg (by dsimp only; omega)]
  simp only [Nat.add_sub_cancel]

/-- A lane of the query. -/
theorem query_lane (q : Fin 256 → EReal) (w : Vec Ideal S256x768 .f32) (hq : ∀ k, Finite (q k))
    (hw : ∀ (k : Fin 256) (h : Fin 8) (i : Fin 16), Finite (w (ix2 k ⟨96 * h.val + 80 + i.val, by omega⟩)))
    (c s : Fin 16 → EReal) (h : Fin 8) (l : Fin 128) :
    (∑ k, q k * wlane w k h l) * (scale * (tlane c l + if l.val < 64 then 1 else 0))
        + (∑ k, q k * wlane w k h (back l)) * (scale * tlane s l)
      = qlane (times q fun k j => w (ix2 k j)) c s h l := by
  unfold qlane
  rcases lane_cases l with h1 | ⟨i, rfl⟩ | ⟨i, rfl⟩ | h4
  · rw [dif_pos h1, tlane_out c l (.inl h1), tlane_out s l (.inl h1), if_pos h1, zero_add, mul_one, mul_zero, mul_zero, add_zero]
    unfold times wlane
    simp only [dif_pos (show l.val < 96 by omega)]
  · rw [dif_neg (by dsimp only; omega), dif_pos (by dsimp only; omega), tlane_fst, tlane_fst, if_neg (by dsimp only; omega), add_zero,
      rope_fst _ _ _ i _ (by dsimp only; omega), sub_eq_add_neg, scale_add]
    have e : ∀ k, wlane w k h (back ⟨64 + i.val, by omega⟩) = -w (ix2 k ⟨96 * h.val + 64 + (i.val + 16), by omega⟩) := by
      intro k
      unfold wlane back
      dsimp only
      rw [dif_neg (by omega), dif_pos (by omega)]
      exact congrArg (fun i => -w (ix2 k i)) (Fin.ext (by dsimp only; omega))
    have e' : ∀ k, wlane w k h ⟨64 + i.val, by omega⟩ = w (ix2 k ⟨96 * h.val + 64 + i.val, by omega⟩) := by
      intro k
      unfold wlane
      dsimp only
      rw [dif_pos (by omega)]
      exact congrArg (fun i => w (ix2 k i)) (Fin.ext (by dsimp only; omega))
    simp only [e, e']
    have e2 : 96 * h.val + 64 + (i.val + 16) = 96 * h.val + 80 + i.val := by omega
    rw [sum_neg q _ hq fun k => by simp only [e2]; exact hw k h i]
    unfold times
    rw [mul_comm scale, ← mul_assoc, mul_comm scale, ← mul_assoc, EReal.neg_mul]
  · rw [dif_neg (by dsimp only; omega), dif_pos (by dsimp only; omega), tlane_snd, tlane_snd, if_neg (by dsimp only; omega), add_zero,
      rope_snd _ _ _ i _ (by dsimp only; omega), scale_add]
    have e : ∀ k, wlane w k h (back ⟨80 + i.val, by omega⟩) = w (ix2 k ⟨96 * h.val + 64 + i.val, by omega⟩) := by
      intro k
      unfold wlane back
      dsimp only
      rw [dif_neg (by omega), dif_neg (by omega)]
      exact congrArg (fun i => w (ix2 k i)) (Fin.ext (by dsimp only; omega))
    have e' : ∀ k, wlane w k h ⟨80 + i.val, by omega⟩ = w (ix2 k ⟨96 * h.val + 64 + (i.val + 16), by omega⟩) := by
      intro k
      unfold wlane
      dsimp only
      rw [dif_pos (by omega)]
      exact congrArg (fun i => w (ix2 k i)) (Fin.ext (by dsimp only; omega))
    simp only [e, e']
    unfold times
    rw [mul_comm scale, ← mul_assoc, mul_comm scale, ← mul_assoc]
  · rw [dif_neg (by omega), dif_neg (by omega), tlane_out c l (.inr h4), tlane_out s l (.inr h4), if_neg (by omega), add_zero,
      mul_zero, mul_zero, mul_zero, add_zero]

/-- A lane of the key: `y` is the shared part's 128 columns, the last 32 a turned copy of the 32 before. -/
theorem key_lane (q : Fin 128 → EReal) (w : Vec Ideal S128x1024 .f32) (y : Fin 128 → EReal)
    (hn : ∀ i : Fin 16, y ⟨96 + i.val, by omega⟩ = -y ⟨80 + i.val, by omega⟩)
    (hp : ∀ i : Fin 16, y ⟨112 + i.val, by omega⟩ = y ⟨64 + i.val, by omega⟩)
    (c s : Fin 16 → EReal) (h : Fin 8) (l : Fin 128) :
    (∑ k, q k * kvlane w k h ⟨l.val, by omega⟩) + (y l * tlane c l + y (back l) * tlane s l)
      = klane (times q fun k j => w (ix2 k j)) (fun i => y ⟨64 + i.val, by omega⟩) c s h l := by
  have z : 64 ≤ l.val → ∑ k, q k * kvlane w k h ⟨l.val, by omega⟩ = 0 := by
    intro hl
    refine Finset.sum_eq_zero fun k _ => ?_
    unfold kvlane
    rw [dif_neg (by dsimp only; omega), if_pos l.isLt, mul_zero]
  have e80 : ∀ i : Fin 16, y ⟨80 + i.val, by omega⟩ = y ⟨64 + (i.val + 16), by omega⟩ :=
    fun i => congrArg y (Fin.ext (by dsimp only; omega))
  unfold klane
  rcases lane_cases l with h1 | ⟨i, rfl⟩ | ⟨i, rfl⟩ | h4
  · rw [dif_pos h1, tlane_out c l (.inl h1), tlane_out s l (.inl h1), mul_zero, mul_zero, add_zero, add_zero]
    unfold times kvlane
    simp only [dif_pos h1]
  · rw [z (by dsimp only; omega), zero_add, dif_neg (by dsimp only; omega), dif_pos (by dsimp only; omega), tlane_fst, tlane_fst,
      rope_fst _ _ _ i _ (by dsimp only; omega), sub_eq_add_neg,
      show back ⟨64 + i.val, by omega⟩ = ⟨96 + i.val, by omega⟩ from Fin.ext (by unfold back; dsimp only; omega), hn, EReal.neg_mul]
    rw [e80]
  · rw [z (by dsimp only; omega), zero_add, dif_neg (by dsimp only; omega), dif_pos (by dsimp only; omega), tlane_snd, tlane_snd,
      rope_snd _ _ _ i _ (by dsimp only; omega),
      show back ⟨80 + i.val, by omega⟩ = ⟨112 + i.val, by omega⟩ from Fin.ext (by unfold back; dsimp only; omega), hp]
    rw [e80]
  · rw [z (by omega), dif_neg (by omega), dif_neg (by omega), tlane_out c l (.inr h4), tlane_out s l (.inr h4),
      mul_zero, mul_zero, add_zero, add_zero]

/-- A lane of the value. -/
theorem value_lane (q : Fin 128 → EReal) (w : Vec Ideal S128x1024 .f32) (h : Fin 8) (l : Fin 128) :
    (∑ k, q k * kvlane w k h ⟨128 + l.val, by omega⟩) + (if l.val = 64 then 1 else 0)
      = vlane (times q fun k j => w (ix2 k j)) h l := by
  unfold vlane kvlane
  dsimp only
  by_cases h1 : l.val < 64
  · rw [dif_pos h1, if_neg (by omega), add_zero]
    unfold times
    refine Finset.sum_congr rfl fun k _ => congrArg (q k * ·) ?_
    rw [dif_neg (by omega), if_neg (by omega), dif_pos (by omega)]
    exact congrArg (fun i => w (ix2 k i)) (Fin.ext (by dsimp only; omega))
  · have z : ∀ k : Fin 128, (if hl : 128 + l.val < 64 then w (ix2 k ⟨128 * h.val + (128 + l.val), by omega⟩)
        else if 128 + l.val < 128 then 0
        else if hr : 128 + l.val < 192 then w (ix2 k ⟨128 * h.val + (128 + l.val - 64), by omega⟩) else 0) = (0 : EReal) := by
      intro k
      rw [dif_neg (by omega), if_neg (by omega), dif_neg (by omega)]
    simp only [z, mul_zero, Finset.sum_const_zero, zero_add]
    rw [dif_neg h1]
    by_cases h2 : l.val = 64
    · rw [if_pos h2, if_pos (by omega)]
    · rw [if_neg h2, if_neg (by omega)]

end Cert.Proof.Prep

end

end
-- ==== Proof.PrepFinal.lean ====
/- The three arrays the preparation leaves: the blocks of all grid points together. -/
module

public import proofs.«01_k».proof.Proof.PrepLanes
public import Idealize.ShloMosaic.Lib.Claim
public import Idealize.ShloMosaic.Lib.Pipeline.Covers
public import Idealize.ShloMosaic.Lib.Pipeline.ValueKit.Acc

@[expose] public section

set_option maxRecDepth 16384

noncomputable section

namespace Cert.Proof.Prep

open Cert.Kernel9Ideal Cert.Kernel9Ideal.Gen Idealize.ShloMosaic Idealize.ShloMosaic.Tactic Idealize.SL.Sem
open Idealize.ShloMosaic.TcCoe
open Cert.Proof.Merge (Arr times)

/-- Where the windows of the small inputs and of the tables stand at a grid point. -/
theorem idx (t : Fin grid0.N) :
    win0_0.index t = ![(grid0.coords t 0).val, 0]
    ∧ win0_1.index t = ![(grid0.coords t 0).val, 2]
    ∧ win0_2.index t = ![(grid0.coords t 0).val, 3]
    ∧ win0_3.index t = ![(grid0.coords t 0).val, 0]
    ∧ win0_4.index t = ![(grid0.coords t 0).val, 0] := by
  revert t; decide +kernel

/-- The windows of the weights stand still. -/
theorem idxw (t : Fin grid0.N) :
    win0_5.index t = ![0, 0] ∧ win0_6.index t = ![0, 0] ∧ win0_7.index t = ![0, 0] ∧ win0_8.index t = ![0, 0] := by
  revert t; decide +kernel

/-- Where the outputs' windows stand at a grid point. -/
theorem idxo (t : Fin grid0.N) :
    win0_9.index t = ![0, (grid0.coords t 0).val, 0] ∧ win0_10.index t = ![0, (grid0.coords t 0).val, 0]
    ∧ win0_11.index t = ![0, (grid0.coords t 0).val, 0] := by
  revert t; decide +kernel

variable (m : (ℓ : Loc nD τ sig) → Buf (Elt Ideal) ℓ) (c : Dev nD)

/-- The small inputs' first 256 columns. -/
theorem blk0 (t : Fin grid0.N) (r : Fin 512) (k : Fin 256) (R : Fin 32768) (hR : R.val = 512 * (grid0.coords t 0).val + r.val) :
    iblk (F := Ideal) m c 0 t (ix2 r k)
      = (m ((c : Thread nD τ).loc main_arg0) : Vec Ideal S32768x512 .f32) (ix2 R (⟨k.val, by omega⟩ : Fin 512)) := by
  obtain ⟨e, -⟩ := idx t
  blk_ext [iblk, V, e]

/-- The small inputs' next 128 columns. -/
theorem blk1 (t : Fin grid0.N) (r : Fin 512) (k : Fin 128) (R : Fin 32768) (hR : R.val = 512 * (grid0.coords t 0).val + r.val) :
    iblk (F := Ideal) m c 1 t (ix2 r k)
      = (m ((c : Thread nD τ).loc main_arg0) : Vec Ideal S32768x512 .f32) (ix2 R (⟨256 + k.val, by omega⟩ : Fin 512)) := by
  obtain ⟨-, e, -⟩ := idx t
  blk_ext [iblk, V, e]

/-- The small inputs' last 128 columns. -/
theorem blk2 (t : Fin grid0.N) (r : Fin 512) (k : Fin 128) (R : Fin 32768) (hR : R.val = 512 * (grid0.coords t 0).val + r.val) :
    iblk (F := Ideal) m c 2 t (ix2 r k)
      = (m ((c : Thread nD τ).loc main_arg0) : Vec Ideal S32768x512 .f32) (ix2 R (⟨384 + k.val, by omega⟩ : Fin 512)) := by
  obtain ⟨-, -, e, -⟩ := idx t
  blk_ext [iblk, V, e]

/-- Reading a block of the first table reads the table where the block lies. -/
theorem read3 (A : (b : Ref sig .tc) → Buf (Elt Ideal) ((c : Thread nD τ).loc b)) (t : Fin grid0.N) (r : Fin 512) (l : Fin 128) :
    ((cfg0.win 3).blk t).view.read (Elt Ideal) (A (Pipeline.arrRef spec0 3)) (ix2 r l)
      = (A main_v25 : Vec Ideal S32768x128 .f32) ((win0_3.blk t).view.emb (ix2 r l)) := rfl

/-- The cosines of a block's rows. -/
theorem blk3 (t : Fin grid0.N) (r : Fin 512) (l : Fin 128) (R : Fin 32768) (hR : R.val = 512 * (grid0.coords t 0).val + r.val) :
    iblk (F := Ideal) m c 3 t (ix2 r l) = tlane (cosAt (m ((c : Thread nD τ).loc main_arg1)) R) l := by
  obtain ⟨-, -, -, e, -⟩ := idx t
  have h0 : (((win0_3.blk t).view.emb (ix2 r l)) 0 : ℕ) = R.val := by
    rw [hR]; blk_simp [e]; ring
  have h1 : (((win0_3.blk t).view.emb (ix2 r l)) 1 : ℕ) = l.val := by
    blk_simp [e]
  have hi : (win0_3.blk t).view.emb (ix2 r l) = ix2 R l := by
    funext a
    fin_cases a
    · exact Fin.ext h0
    · exact Fin.ext h1
  unfold iblk
  rw [read3 c (V m c) t r l, hi]
  exact entry25 m c R l

/-- Reading a block of the second table reads the table where the block lies. -/
theorem read4 (A : (b : Ref sig .tc) → Buf (Elt Ideal) ((c : Thread nD τ).loc b)) (t : Fin grid0.N) (r : Fin 512) (l : Fin 128) :
    ((cfg0.win 4).blk t).view.read (Elt Ideal) (A (Pipeline.arrRef spec0 4)) (ix2 r l)
      = (A main_v28 : Vec Ideal S32768x128 .f32) ((win0_4.blk t).view.emb (ix2 r l)) := rfl

/-- The sines of a block's rows. -/
theorem blk4 (t : Fin grid0.N) (r : Fin 512) (l : Fin 128) (R : Fin 32768) (hR : R.val = 512 * (grid0.coords t 0).val + r.val) :
    iblk (F := Ideal) m c 4 t (ix2 r l) = tlane (sinAt (m ((c : Thread nD τ).loc main_arg1)) R) l := by
  obtain ⟨-, -, -, -, e⟩ := idx t
  have h0 : (((win0_4.blk t).view.emb (ix2 r l)) 0 : ℕ) = R.val := by
    rw [hR]; blk_simp [e]; ring
  have h1 : (((win0_4.blk t).view.emb (ix2 r l)) 1 : ℕ) = l.val := by
    blk_simp [e]
  have hi : (win0_4.blk t).view.emb (ix2 r l) = ix2 R l := by
    funext a
    fin_cases a
    · exact Fin.ext h0
    · exact Fin.ext h1
  unfold iblk
  rw [read4 c (V m c) t r l, hi]
  exact entry28 m c R l

/-- The queries' norm weight. -/
theorem blk5 (t : Fin grid0.N) (a : Fin 1) (k : Fin 256) :
    iblk (F := Ideal) m c 5 t (ix2 a k) = m ((c : Thread nD τ).loc main_arg2) (ix1 k) := by
  obtain ⟨e, -⟩ := idxw t
  have h0 : (((win0_5.blk t).view.emb (ix2 a k)) 0 : ℕ) = a.val := by
    blk_simp [e]
  have h1 : (((win0_5.blk t).view.emb (ix2 a k)) 1 : ℕ) = k.val := by
    blk_simp [e]
  have h : iblk (F := Ideal) m c 5 t (ix2 a k) = (V m c main_v43 : Vec Ideal S1x256 .f32) ((win0_5.blk t).view.emb (ix2 a k)) := rfl
  refine (h.trans ?_).trans (entry43 m c a k)
  refine congrArg (V m c main_v43 : Vec Ideal S1x256 .f32) ?_
  funext i
  fin_cases i
  · exact Fin.ext h0
  · exact Fin.ext h1

/-- The keys' norm weight. -/
theorem blk6 (t : Fin grid0.N) (a : Fin 1) (k : Fin 128) :
    iblk (F := Ideal) m c 6 t (ix2 a k) = m ((c : Thread nD τ).loc main_arg4) (ix1 k) := by
  obtain ⟨-, e, -⟩ := idxw t
  have h0 : (((win0_6.blk t).view.emb (ix2 a k)) 0 : ℕ) = a.val := by
    blk_simp [e]
  have h1 : (((win0_6.blk t).view.emb (ix2 a k)) 1 : ℕ) = k.val := by
    blk_simp [e]
  have h : iblk (F := Ideal) m c 6 t (ix2 a k) = (V m c main_v44 : Vec Ideal S1x128 .f32) ((win0_6.blk t).view.emb (ix2 a k)) := rfl
  refine (h.trans ?_).trans (entry44 m c a k)
  refine congrArg (V m c main_v44 : Vec Ideal S1x128 .f32) ?_
  funext i
  fin_cases i
  · exact Fin.ext h0
  · exact Fin.ext h1

/-- The queries' weight, laid out by heads. -/
theorem blk7 (t : Fin grid0.N) (k : Fin 256) (h : Fin 8) (l : Fin 128) (j : Fin 1024) (hj : j.val = 128 * h.val + l.val) :
    iblk (F := Ideal) m c 7 t (ix2 k j) = wlane (m ((c : Thread nD τ).loc main_arg3)) k h l := by
  obtain ⟨-, -, e, -⟩ := idxw t
  have h0 : (((win0_7.blk t).view.emb (ix2 k j)) 0 : ℕ) = k.val := by
    blk_simp [e]
  have h1 : (((win0_7.blk t).view.emb (ix2 k j)) 1 : ℕ) = 128 * h.val + l.val := by
    rw [← hj]; blk_simp [e]
  have hv : iblk (F := Ideal) m c 7 t (ix2 k j) = (V m c main_v45 : Vec Ideal S256x1024 .bf16) ((win0_7.blk t).view.emb (ix2 k j)) := rfl
  refine (hv.trans ?_).trans (entry45 m c k h l)
  refine congrArg (V m c main_v45 : Vec Ideal S256x1024 .bf16) ?_
  funext a
  fin_cases a
  · exact Fin.ext h0
  · exact Fin.ext h1

/-- The keys' and values' weight, laid out by heads. -/
theorem blk8 (t : Fin grid0.N) (k : Fin 128) (h : Fin 8) (l : Fin 256) (j : Fin 2048) (hj : j.val = 256 * h.val + l.val) :
    iblk (F := Ideal) m c 8 t (ix2 k j) = kvlane (m ((c : Thread nD τ).loc main_arg5)) k h l := by
  obtain ⟨-, -, -, e⟩ := idxw t
  have h0 : (((win0_8.blk t).view.emb (ix2 k j)) 0 : ℕ) = k.val := by
    blk_simp [e]
  have h1 : (((win0_8.blk t).view.emb (ix2 k j)) 1 : ℕ) = 256 * h.val + l.val := by
    rw [← hj]; blk_simp [e]
  have hv : iblk (F := Ideal) m c 8 t (ix2 k j) = (V m c main_v46 : Vec Ideal S128x2048 .bf16) ((win0_8.blk t).view.emb (ix2 k j)) := rfl
  refine (hv.trans ?_).trans (entry46 m c k h l)
  refine congrArg (V m c main_v46 : Vec Ideal S128x2048 .bf16) ?_
  funext a
  fin_cases a
  · exact Fin.ext h0
  · exact Fin.ext h1

end Cert.Proof.Prep

end

end
-- ==== Proof.PrepArrays.lean ====
/- The three arrays the preparation leaves are the packed queries, keys and values. -/
module

public import proofs.«01_k».proof.Proof.PrepFinal

@[expose] public section

set_option maxRecDepth 16384

noncomputable section

namespace Cert.Proof.Prep

open Cert.Kernel9Ideal Cert.Kernel9Ideal.Gen Idealize.ShloMosaic Idealize.ShloMosaic.Tactic Idealize.SL.Sem
open Idealize.ShloMosaic.TcCoe
open Cert.Proof.Merge (Arr times)

/-- The last 32 small inputs are the 32 before, the halves exchanged and the second negated. -/
structure Turned (x : Vec Ideal S32768x512 .f32) : Prop where
  neg : ∀ (R : Fin 32768) (i : Fin 16), (x (ix2 R ⟨480 + i.val, by omega⟩) : EReal) = -x (ix2 R ⟨464 + i.val, by omega⟩)
  pos : ∀ (R : Fin 32768) (i : Fin 16), x (ix2 R ⟨496 + i.val, by omega⟩) = x (ix2 R ⟨448 + i.val, by omega⟩)

theorem turned_neg (x : Vec Ideal S32768x512 .f32) (h : Turned x) (R : Fin 32768) (i : Fin 16) :
    (x (ix2 R (⟨384 + (96 + i.val), by omega⟩ : Fin 512)) : EReal) = -x (ix2 R (⟨384 + (80 + i.val), by omega⟩ : Fin 512)) := by
  refine Eq.trans ?_ ((h.neg R i).trans ?_)
  · exact congrArg (fun k => x (ix2 R k)) (Fin.ext (by dsimp only; omega))
  · exact congrArg (fun k => -(x (ix2 R k) : EReal)) (Fin.ext (by dsimp only; omega))

theorem turned_pos (x : Vec Ideal S32768x512 .f32) (h : Turned x) (R : Fin 32768) (i : Fin 16) :
    x (ix2 R (⟨384 + (112 + i.val), by omega⟩ : Fin 512)) = x (ix2 R (⟨384 + (64 + i.val), by omega⟩ : Fin 512)) := by
  refine Eq.trans ?_ ((h.pos R i).trans ?_)
  · exact congrArg (fun k => x (ix2 R k)) (Fin.ext (by dsimp only; omega))
  · exact congrArg (fun k => x (ix2 R k)) (Fin.ext (by dsimp only; omega))

theorem turned_shared (x : Vec Ideal S32768x512 .f32) (R : Fin 32768) :
    (fun i : Fin 32 => x (ix2 R (⟨384 + (64 + i.val), by omega⟩ : Fin 512))) = shared x R := by
  funext i
  exact congrArg (fun k => x (ix2 R k)) (Fin.ext (by dsimp only; omega))

variable (m : (ℓ : Loc nD τ sig) → Buf (Elt Ideal) ℓ) (c : Dev nD)

/-- The normalised row that the queries are made of. -/
def qn (R : Fin 32768) : Fin 256 → EReal :=
  rms (Ideal.ofBits .f32 0x43800000#32)
    (fun k => (m ((c : Thread nD τ).loc main_arg0) : Vec Ideal S32768x512 .f32) (ix2 R (⟨k.val, by omega⟩ : Fin 512)))
    fun k => (m ((c : Thread nD τ).loc main_arg2) : Vec Ideal S256 .f32) (ix1 k)

/-- The normalised row that the keys and values are made of. -/
def kvn (R : Fin 32768) : Fin 128 → EReal :=
  rms (Ideal.ofBits .f32 0x43000000#32)
    (fun k => (m ((c : Thread nD τ).loc main_arg0) : Vec Ideal S32768x512 .f32) (ix2 R (⟨256 + k.val, by omega⟩ : Fin 512)))
    fun k => (m ((c : Thread nD τ).loc main_arg4) : Vec Ideal S128 .f32) (ix1 k)

/-- A column of all heads' queries, from the blocks. -/
theorem qcol (t : Fin grid0.N) (r : Fin 512) (R : Fin 32768) (hR : R.val = 512 * (grid0.coords t 0).val + r.val)
    (h : Fin 8) (l : Fin 128) (j : Fin 1024) (hj : j.val = 128 * h.val + l.val) :
    k0_pay3 (F := Ideal) (iblk (F := Ideal) m c 0 t) (iblk (F := Ideal) m c 5 t) (iblk (F := Ideal) m c 7 t) (ix2 r j)
      = ∑ k, qn m c R k * wlane (m ((c : Thread nD τ).loc main_arg3)) k h l := by
  rw [pay3_apply]
  unfold times qn
  refine Finset.sum_congr rfl fun k _ => congr (congrArg HMul.hMul (congrFun (congr (congrArg (rms _) ?_) ?_) k)) (blk7 m c t k h l j hj)
  · funext k; exact blk0 m c t r k R hR
  · funext k; exact blk5 m c t 0 k

/-- A column of all heads' keys and values, from the blocks. -/
theorem kvcol (t : Fin grid0.N) (r : Fin 512) (R : Fin 32768) (hR : R.val = 512 * (grid0.coords t 0).val + r.val)
    (h : Fin 8) (l : Fin 256) (j : Fin 2048) (hj : j.val = 256 * h.val + l.val) :
    k0_pay4 (F := Ideal) (iblk (F := Ideal) m c 1 t) (iblk (F := Ideal) m c 6 t) (iblk (F := Ideal) m c 8 t) (ix2 r j)
      = ∑ k, kvn m c R k * kvlane (m ((c : Thread nD τ).loc main_arg5)) k h l := by
  rw [pay4_apply]
  unfold times kvn
  refine Finset.sum_congr rfl fun k _ => congr (congrArg HMul.hMul (congrFun (congr (congrArg (rms _) ?_) ?_) k)) (blk8 m c t k h l j hj)
  · funext k; exact blk1 m c t r k R hR
  · funext k; exact blk6 m c t 0 k

/-- The norm's weights are finite, and so are the columns of the queries' weight that the host negates. -/
structure Given : Prop where
  norm : ∀ i, Finite ((m ((c : Thread nD τ).loc main_arg2) : Vec Ideal S256 .f32) i)
  weight : ∀ (k : Fin 256) (h : Fin 8) (i : Fin 16),
    Finite ((m ((c : Thread nD τ).loc main_arg3) : Vec Ideal S256x768 .f32) (ix2 k ⟨96 * h.val + 80 + i.val, by omega⟩))

theorem qn_finite (hg : Given m c) (R : Fin 32768) (k : Fin 256) : Finite (qn m c R k) :=
  rms_finite _ _ (fun _ => hg.norm _) k

/-- A lane of the query's block. -/
theorem query_at (hg : Given m c) (t : Fin grid0.N) (h : Fin 8) (r : Fin 512) (l : Fin 128) (R : Fin 32768)
    (hR : R.val = 512 * (grid0.coords t 0).val + r.val) :
    out0_9 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (ix3 h r l)
      = qlane (qrow (m ((c : Thread nD τ).loc main_arg0)) (m ((c : Thread nD τ).loc main_arg2)) (m ((c : Thread nD τ).loc main_arg3)) R)
          (cosAt (m ((c : Thread nD τ).loc main_arg1)) R) (sinAt (m ((c : Thread nD τ).loc main_arg1)) R) h l := by
  rw [out9_apply, qcol m c t r R hR h l _ rfl, qcol m c t r R hR h (back l) _ rfl, pay8_apply, pay9_apply, blk3 m c t r l R hR,
    blk4 m c t r l R hR]
  exact query_lane (qn m c R) _ (qn_finite m c hg R) hg.weight _ _ h l

/-- A lane of the key's block. -/
theorem key_at (hs : Turned (m ((c : Thread nD τ).loc main_arg0))) (t : Fin grid0.N) (h : Fin 8) (r : Fin 512) (l : Fin 128)
    (R : Fin 32768) (hR : R.val = 512 * (grid0.coords t 0).val + r.val) :
    out0_10 (F := Ideal) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (ix3 h r l)
      = klane (kvrow (m ((c : Thread nD τ).loc main_arg0)) (m ((c : Thread nD τ).loc main_arg4)) (m ((c : Thread nD τ).loc main_arg5)) R)
          (shared (m ((c : Thread nD τ).loc main_arg0)) R)
          (cosAt (m ((c : Thread nD τ).loc main_arg1)) R) (sinAt (m ((c : Thread nD τ).loc main_arg1)) R) h l := by
  rw [out10_apply, kvcol m c t r R hR h ⟨l.val, by omega⟩ _ rfl, pay7_apply, blk2 m c t r l R hR, blk2 m c t r (back l) R hR,
    blk3 m c t r l R hR, blk4 m c t r l R hR, ← turned_shared]
  exact key_lane (kvn m c R) _ (fun l => (m ((c : Thread nD τ).loc main_arg0) : Vec Ideal S32768x512 .f32) (ix2 R (⟨384 + l.val, by omega⟩ : Fin 512)))
    (turned_neg _ hs R) (turned_pos _ hs R) _ _ h l

/-- The first output array: the packed queries. -/
theorem final9 (hg : Given m c) : (dats (F := Ideal) m 0 c).arrAt 9 cfg0.N
    = queries (m ((c : Thread nD τ).loc main_arg0)) (m ((c : Thread nD τ).loc main_arg1)) (m ((c : Thread nD τ).loc main_arg2))
        (m ((c : Thread nD τ).loc main_arg3)) := by
  refine (dats m 0 c).arrAt_eq_of_covers 9 _ (by decide +kernel) fun t hf y => ?_
  blk_simp
  rw [after0_9]
  obtain ⟨h, r, l, rfl⟩ : ∃ (h : Fin 8) (r : Fin 512) (l : Fin 128), y = ix3 h r l := ⟨y 0, y 1, y 2, by funext a; fin_cases a <;> rfl⟩
  obtain ⟨e, -, -⟩ := idxo t
  have h0 : (((win0_9.blk t).view.emb (ix3 h r l)) 0 : ℕ) = h.val := by
    blk_simp [e]
  have h1 : (((win0_9.blk t).view.emb (ix3 h r l)) 1 : ℕ) = 512 * (grid0.coords t 0).val + r.val := by
    blk_simp [e]; ring
  have h2 : (((win0_9.blk t).view.emb (ix3 h r l)) 2 : ℕ) = l.val := by
    blk_simp [e]
  refine (query_at m c hg t h r l _ h1).trans ?_
  unfold queries
  exact congr (congrArg (qlane _ _ _) (Fin.ext h0.symm)) (Fin.ext h2.symm)

/-- The second output array: the packed keys. -/
theorem final10
    (hs : Turned (m ((c : Thread nD τ).loc main_arg0))) :
    (dats (F := Ideal) m 0 c).arrAt 10 cfg0.N
    = keys (m ((c : Thread nD τ).loc main_arg0)) (m ((c : Thread nD τ).loc main_arg1)) (m ((c : Thread nD τ).loc main_arg4))
        (m ((c : Thread nD τ).loc main_arg5)) := by
  refine (dats m 0 c).arrAt_eq_of_covers 10 _ (by decide +kernel) fun t hf y => ?_
  blk_simp
  rw [after0_10]
  obtain ⟨h, r, l, rfl⟩ : ∃ (h : Fin 8) (r : Fin 512) (l : Fin 128), y = ix3 h r l := ⟨y 0, y 1, y 2, by funext a; fin_cases a <;> rfl⟩
  obtain ⟨-, e, -⟩ := idxo t
  have h0 : (((win0_10.blk t).view.emb (ix3 h r l)) 0 : ℕ) = h.val := by
    blk_simp [e]
  have h1 : (((win0_10.blk t).view.emb (ix3 h r l)) 1 : ℕ) = 512 * (grid0.coords t 0).val + r.val := by
    blk_simp [e]; ring
  have h2 : (((win0_10.blk t).view.emb (ix3 h r l)) 2 : ℕ) = l.val := by
    blk_simp [e]
  refine (key_at m c hs t h r l _ h1).trans ?_
  unfold keys
  exact congr (congrArg (klane _ _ _ _) (Fin.ext h0.symm)) (Fin.ext h2.symm)

/-- The third output array: the packed values. -/
theorem final11 : (dats (F := Ideal) m 0 c).arrAt 11 cfg0.N
    = values (m ((c : Thread nD τ).loc main_arg0)) (m ((c : Thread nD τ).loc main_arg4)) (m ((c : Thread nD τ).loc main_arg5)) := by
  refine (dats m 0 c).arrAt_eq_of_covers 11 _ (by decide +kernel) fun t hf y => ?_
  blk_simp
  rw [after0_11]
  obtain ⟨h, r, l, rfl⟩ : ∃ (h : Fin 8) (r : Fin 512) (l : Fin 128), y = ix3 h r l := ⟨y 0, y 1, y 2, by funext a; fin_cases a <;> rfl⟩
  obtain ⟨-, -, e⟩ := idxo t
  have h0 : (((win0_11.blk t).view.emb (ix3 h r l)) 0 : ℕ) = h.val := by
    blk_simp [e]
  have h1 : (((win0_11.blk t).view.emb (ix3 h r l)) 1 : ℕ) = 512 * (grid0.coords t 0).val + r.val := by
    blk_simp [e]; ring
  have h2 : (((win0_11.blk t).view.emb (ix3 h r l)) 2 : ℕ) = l.val := by
    blk_simp [e]
  rw [out11_apply, kvcol m c t r _ h1 h ⟨128 + l.val, by omega⟩ _ (by dsimp only; omega), pay10_apply, value_lane]
  unfold values
  exact congr (congrArg (vlane _) (Fin.ext h0.symm)) (Fin.ext h2.symm)

end Cert.Proof.Prep

end

end
-- ==== Proof.PrepInputs.lean ====
/- What the precondition gives: finite queries' rows and weights, and a shared part followed by its turned copy. -/
module

public import proofs.«01_k».proof.Proof.Inputs
public import proofs.«01_k».proof.Proof.PrepLanes
public import proofs.«01_k».proof.Proof.Gen.Pre_prep_inputs

@[expose] public section

set_option maxRecDepth 16384

noncomputable section

namespace Cert.Proof.Prep

open Cert.Kernel9Ideal Idealize.ShloMosaic Idealize.ShloMosaic.Tactic
open Cert.Attn (of_ofBool ofBits_posInf finite_of_abs andi_split)

/-- The precondition at the entries of the arrays. -/
theorem inputs (x0 : Vec Ideal S32768x512 .f32) (x1 : Vec Ideal S4x8192 .i32) (x2 : Vec Ideal S256 .f32) (x3 : Vec Ideal S256x768 .f32)
    (x4 : Vec Ideal S128 .f32) (x5 : Vec Ideal S128x1024 .f32)
    (h : Cert.Pre_prep_inputs.fn (F := Ideal) x0 x1 x2 x3 x4 x5 = fun _ => 1#1) :
    (∀ i, Finite (x2 i)) ∧ (∀ (k : Fin 256) (h : Fin 8) (i : Fin 16), Finite (x3 (ix2 k ⟨96 * h.val + 80 + i.val, by omega⟩)))
    ∧ (∀ (R : Fin 32768) (i : Fin 16), (x0 (ix2 R ⟨480 + i.val, by omega⟩) : EReal) = -x0 (ix2 R ⟨464 + i.val, by omega⟩))
    ∧ (∀ (R : Fin 32768) (i : Fin 16), x0 (ix2 R ⟨496 + i.val, by omega⟩) = x0 (ix2 R ⟨448 + i.val, by omega⟩)) := by
  have h0 := congrFun h default
  dsimp only [Cert.Pre_prep_inputs.fn, Cert.Pre_prep_inputs.fn_part1] at h0
  obtain ⟨h1, hb⟩ := andi_split _ _ h0
  obtain ⟨h2, ha⟩ := andi_split _ _ h1
  obtain ⟨hg, hw⟩ := andi_split _ _ h2
  refine ⟨fun i => ?_, fun k h i => ?_, fun R i => ?_, fun R i => ?_⟩
  · have := Host.reduce_andi_all _ _ _ _ _ hg i
    pointwise at this
    rw [ofBits_posInf] at this
    exact finite_of_abs _ (of_ofBool this)
  · have := Host.reduce_andi_all _ _ _ _ _ hw (ix3 k h i)
    pointwise at this
    rw [ofBits_posInf] at this
    have e : h.val * 96 + (80 + i.val) = 96 * h.val + 80 + i.val := by omega
    simp only [e] at this
    exact finite_of_abs _ (of_ofBool this)
  · have := Host.reduce_andi_all _ _ _ _ _ ha (ix2 R i)
    pointwise at this
    refine (of_ofBool this).trans ?_
    exact congrArg (fun k => -(x0 (ix2 R k) : EReal)) (Fin.ext (by dsimp only; omega))
  · have := Host.reduce_andi_all _ _ _ _ _ hb (ix2 R i)
    pointwise at this
    refine Eq.trans ?_ (of_ofBool this)
    exact congrArg (fun k => x0 (ix2 R k)) (Fin.ext (by dsimp only; omega))

end Cert.Proof.Prep

end

end
-- ==== Proof.PrepReference.lean ====
/- The plain reference of the preparation, at an index: the same three arrays. -/
module

public import proofs.«01_k».proof.Proof.PrepSpec
public import proofs.«01_k».proof.Proof.Gen.Reference9Ideal.Run
public import proofs.«01_k».proof.Proof.Gen.Reference9Ideal.Read
public import Idealize.ShloMosaic.Lib.Pointwise

@[expose] public section

set_option maxRecDepth 16384

noncomputable section

namespace Cert.Proof.Prep.Reference

open Cert.Reference9Ideal Cert.Reference9Ideal.Gen Cert.Reference9Ideal.Read Cert.Proof.Prep
open Idealize.ShloMosaic Idealize.ShloMosaic.Tactic Idealize.SL.Sem Idealize.ShloMosaic.StableHlo
open Cert.Proof.Merge (Arr times)

variable (x : Vec Ideal S32768x512 .f32) (pos : Vec Ideal S4x8192 .i32) (g : Vec Ideal S256 .f32) (w : Vec Ideal S256x768 .f32)
    (g' : Vec Ideal S128 .f32) (w' : Vec Ideal S128x1024 .f32)

/-- The angles. -/
theorem angle_at (R : Fin 32768) (f : Fin 16) : val_main_v21 (F := Ideal) pos (ix2 R f) = angleAt pos R f := by
  pointwise [val_main_v21, val_main_v20, val_main_v19, val_main_v18, val_main_v17, val_main_v16, val_main_v15, val_main_v14,
    val_main_v13, val_main_v12, val_main_v11, val_main_v10, val_main_v9, val_main_v8, val_main_v7, val_main_v6, val_main_v5,
    val_main_cst, val_main_cst_0, val_main_cst_1, val_main_cst_2, val_main_cst_3]
  rfl

theorem cos_at (R : Fin 32768) (f : Fin 16) : val_main_v22 (F := Ideal) pos (ix2 R f) = cosAt pos R f :=
  congrArg Ideal.cos (angle_at pos R f)

theorem sin_at (R : Fin 32768) (f : Fin 16) : val_main_v23 (F := Ideal) pos (ix2 R f) = sinAt pos R f :=
  congrArg Ideal.sin (angle_at pos R f)

/-- One over the square root of 96. -/
theorem scale_at (i : S_.Idx) : val_main_v40 (F := Ideal) i = scale := by
  have h : Ideal.ofBits .f32 0x42C00000#32 = ((96 : ℝ) : EReal) := by
    simp [Ideal.ofBits, Ideal.ieee]
    rw [← EReal.coe_mul]
    norm_num
  have hs : Ideal.hostUnary .sqrt ((96 : ℝ) : EReal) = ((Real.sqrt 96 : ℝ) : EReal) := by
    exact (Ideal.hostUnary_sqrt_def (φ := .f32) _).trans (by rw [Ideal.sqrt_coe, if_neg (by norm_num)])
  have hn : Real.sqrt 96 ≠ 0 := by positivity
  rw [val_main_v40_apply, val_main_v39_apply]
  change Ideal.div (Ideal.ofBits .f32 0x3F800000#32) (Ideal.hostUnary .sqrt (Ideal.ofBits .f32 0x42C00000#32)) = _
  rw [h, hs, Ideal.ofBits_one_f32, Ideal.div_coe hn, one_mul, one_div]
  rfl

/-- The queries' normalised rows. -/
theorem qnorm_at (R : Fin 32768) (k : Fin 256) :
    val_main_v36 (F := Ideal) x g (ix2 R k)
      = rms (Ideal.ofBits .f32 0x43800000#32) (fun k => x (ix2 R (⟨k.val, by omega⟩ : Fin 512))) (fun k : Fin 256 => g (ix1 k)) k := by
  pointwise [val_main_v36, val_main_v35, val_main_v34, val_main_v33, val_main_v32, val_main_v31, val_main_v30, val_main_v29,
    val_main_v28, val_main_v27, val_main_v26, val_main_v25, val_main_v24, val_main_v0, val_main_cst_4, val_main_cst_5, val_main_cst_6]
  rfl

/-- The queries' product. -/
theorem qprod_at (R : Fin 32768) (j : Fin 768) : val_main_v37 (F := Ideal) x g w (ix2 R j) = qrow x g w R j := by
  pointwise [val_main_v37]
  unfold qrow times
  exact Finset.sum_congr rfl fun k _ => congrArg (· * w (ix2 k j)) (qnorm_at x g R k)

/-- The keys' and values' normalised rows. -/
theorem kvnorm_at (R : Fin 32768) (k : Fin 128) :
    val_main_v74 (F := Ideal) x g' (ix2 R k)
      = rms (Ideal.ofBits .f32 0x43000000#32) (fun k => x (ix2 R (⟨256 + k.val, by omega⟩ : Fin 512))) (fun k : Fin 128 => g' (ix1 k)) k := by
  pointwise [val_main_v74, val_main_v73, val_main_v72, val_main_v71, val_main_v70, val_main_v69, val_main_v68, val_main_v67,
    val_main_v66, val_main_v65, val_main_v64, val_main_v63, val_main_v62, val_main_v1, val_main_cst_9, val_main_cst_10, val_main_cst_11]
  rfl

/-- The keys' and values' product. -/
theorem kvprod_at (R : Fin 32768) (j : Fin 1024) : val_main_v75 (F := Ideal) x g' w' (ix2 R j) = kvrow x g' w' R j := by
  pointwise [val_main_v75]
  unfold kvrow times
  exact Finset.sum_congr rfl fun k _ => congrArg (· * w' (ix2 k j)) (kvnorm_at x g' R k)

/-- The shared part of the keys, rotated. -/
theorem shared_at (R : Fin 32768) (h : Fin 8) (i : Fin 32) :
    val_main_v89 (F := Ideal) x pos (ix3 R h i) = rope (shared x R) (cosAt pos R) (sinAt pos R) i := by
  pointwise [val_main_v89, val_main_v88, val_main_v87, val_main_v86, val_main_v85, val_main_v84, val_main_v83, val_main_v82,
    val_main_v81, val_main_v80, val_main_v79, val_main_v3]
  unfold rope shared
  split
  · next hi =>
    rw [cos_at, sin_at]
    simp only [Nat.add_comm 16]
  · next hi =>
    have e : 16 + (i.val - 16) = i.val := by omega
    rw [cos_at, sin_at]
    simp only [e]

/-- A head's rotated part. -/
theorem turned_at (R : Fin 32768) (h : Fin 8) (i : Fin 32) :
    val_main_v61 (F := Ideal) x pos g w (ix3 R h i)
      = rope (fun i => qrow x g w R ⟨96 * h.val + 64 + i.val, by omega⟩) (cosAt pos R) (sinAt pos R) i * scale := by
  pointwise [val_main_v61, val_main_v60, val_main_v59, val_main_v58, val_main_v57, val_main_v56, val_main_v55, val_main_v54,
    val_main_v53, val_main_v52, val_main_v51, val_main_v50, val_main_v49, val_main_v48, val_main_v47, val_main_v46,
    val_main_v45, val_main_v44, val_main_v38]
  rw [scale_at]
  refine congrArg (· * scale) ?_
  unfold rope
  simp only [qprod_at, cos_at, sin_at]
  split
  · next hi =>
    have e0 : h.val * 96 + (64 + i.val) = 96 * h.val + 64 + i.val := by omega
    have e1 : h.val * 96 + (64 + (16 + i.val)) = 96 * h.val + 64 + (i.val + 16) := by omega
    simp only [e0, e1]
  · next hi =>
    have e0 : h.val * 96 + (64 + (16 + (i.val - 16))) = 96 * h.val + 64 + i.val := by omega
    have e1 : h.val * 96 + (64 + (i.val - 16)) = 96 * h.val + 64 + (i.val - 16) := by omega
    simp only [e0, e1]

/-- The packed queries. -/
theorem queries_eq : val_main_v97 (F := Ideal) x pos g w = queries x pos g w := by
  refine funext fun y => ?_
  obtain ⟨h, R, l, rfl⟩ : ∃ (h : Fin 8) (R : Fin 32768) (l : Fin 128), y = ix3 h R l := ⟨y 0, y 1, y 2, by funext a; fin_cases a <;> rfl⟩
  pointwise [val_main_v97, val_main_v96, val_main_v93, val_main_v43, val_main_v42, val_main_v41, val_main_v38, val_main_v90, val_main_cst_12]
  change _ = qlane (qrow x g w R) (cosAt pos R) (sinAt pos R) h l
  have e : h.val * 96 + l.val = 96 * h.val + l.val := by omega
  simp only [qprod_at, scale_at, turned_at, e]
  unfold qlane
  refine dite_congr rfl (fun _ => rfl) fun h1 => ?_
  exact dite_congr (propext (by omega)) (fun _ => rfl) fun _ => rfl

/-- The packed keys. -/
theorem keys_eq : val_main_v99 (F := Ideal) x pos g' w' = keys x pos g' w' := by
  refine funext fun y => ?_
  obtain ⟨h, R, l, rfl⟩ : ∃ (h : Fin 8) (R : Fin 32768) (l : Fin 128), y = ix3 h R l := ⟨y 0, y 1, y 2, by funext a; fin_cases a <;> rfl⟩
  pointwise [val_main_v99, val_main_v98, val_main_v94, val_main_v77, val_main_v76, val_main_v90, val_main_cst_12]
  change _ = klane (kvrow x g' w' R) (shared x R) (cosAt pos R) (sinAt pos R) h l
  have e : h.val * 128 + l.val = 128 * h.val + l.val := by omega
  simp only [kvprod_at, shared_at, e]
  unfold klane
  refine dite_congr rfl (fun _ => rfl) fun h1 => ?_
  exact dite_congr (propext (by omega)) (fun _ => rfl) fun _ => rfl

/-- The packed values. -/
theorem values_eq : val_main_v101 (F := Ideal) x g' w' = values x g' w' := by
  refine funext fun y => ?_
  obtain ⟨h, R, l, rfl⟩ : ∃ (h : Fin 8) (R : Fin 32768) (l : Fin 128), y = ix3 h R l := ⟨y 0, y 1, y 2, by funext a; fin_cases a <;> rfl⟩
  pointwise [val_main_v101, val_main_v100, val_main_v95, val_main_v78, val_main_v76, val_main_v91, val_main_v92, val_main_cst_13,
    val_main_cst_14]
  change _ = vlane (kvrow x g' w' R) h l
  have e : h.val * 128 + (64 + l.val) = 128 * h.val + 64 + l.val := by omega
  simp only [kvprod_at, e]
  unfold vlane
  refine dite_congr rfl (fun _ => rfl) fun h1 => ?_
  exact dite_congr (propext (by omega)) (fun _ => rfl) fun _ => rfl

end Cert.Proof.Prep.Reference

end

end
-- ==== Proof.Prep.lean ====
/- The preparation's claims: the reference's frame, the named scale, and that the kernel and the reference end with the same three arrays. -/
module

public import proofs.«01_k».proof.Defs
public import proofs.«01_k».proof.Proof.PrepArrays
public import proofs.«01_k».proof.Proof.PrepInputs
public import proofs.«01_k».proof.Proof.PrepReference
public import proofs.«01_k».proof.Proof.Gen.Kernel9Ideal.Value
public import Idealize.ShloMosaic.Adequacy
public import Idealize.ShloMosaic.Init

@[expose] public section

noncomputable section

namespace Cert.Proof.Prep

open Idealize.ShloMosaic Idealize.SL.Sem

/-- The reference runs, keeps its arguments and has no counter to leave. -/
theorem frame_reference (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal)))
      ⟨m, fun _ => 0, ρ⟩ (fun r => (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
        ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
        ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
        ∧ r.2.sem = fun _ => 0) :=
  (θ_run Cert.Reference9Ideal.defs _ _).mono
    (fun r h => ⟨fun c => (h c).2.2.2, Idealize.ShloMosaic.sem_eq_zero_of_no_sems (by decide) r.2⟩)
    (Cert.Reference9Ideal.Value.run (F := Ideal) m ρ)

/-- The scale the idealization names is the word the kernel spells, rounded. -/
theorem preserves : Cert.preserves_Kernel9_Kernel9Ideal :=
  IdealRules.named_const.statement Cert.Kernel9Ideal.κ "scale" .f32 0x3DD105EC#32 (((Real.sqrt 96)⁻¹ : ℝ) : EReal) rfl

/-- The kernel and the reference end with the same three arrays. -/
theorem value : Cert.algebraic_Kernel9Ideal_Reference9Ideal_pre_prep_inputs := by
  intro m g m' g' hpre hag
  refine ⟨fun c => queries (m ((c.tc : Thread _ _).loc Cert.Kernel9Ideal.main_arg0)) (m ((c.tc : Thread _ _).loc Cert.Kernel9Ideal.main_arg1)) (m ((c.tc : Thread _ _).loc Cert.Kernel9Ideal.main_arg2)) (m ((c.tc : Thread _ _).loc Cert.Kernel9Ideal.main_arg3)),
    fun c => keys (m ((c.tc : Thread _ _).loc Cert.Kernel9Ideal.main_arg0)) (m ((c.tc : Thread _ _).loc Cert.Kernel9Ideal.main_arg1)) (m ((c.tc : Thread _ _).loc Cert.Kernel9Ideal.main_arg4)) (m ((c.tc : Thread _ _).loc Cert.Kernel9Ideal.main_arg5)),
    fun c => values (m ((c.tc : Thread _ _).loc Cert.Kernel9Ideal.main_arg0)) (m ((c.tc : Thread _ _).loc Cert.Kernel9Ideal.main_arg4)) (m ((c.tc : Thread _ _).loc Cert.Kernel9Ideal.main_arg5)), ?_, ?_⟩
  · refine (θ_run Cert.Kernel9Ideal.defs _ _).mono (fun r h c => ?_) (Cert.Kernel9Ideal.Value.run_blocks (F := Ideal) m g)
    obtain ⟨hn, hw, hneg, hpos⟩ := inputs _ _ _ _ _ _ (hpre c)
    exact ⟨(h c).1.trans (final9 m c ⟨hn, hw⟩), (h c).2.1.trans (final10 m c ⟨hneg, hpos⟩), (h c).2.2.1.trans (final11 m c), (h c).2.2.2⟩
  · refine (θ_run Cert.Reference9Ideal.defs _ _).mono
      (fun r h c => ⟨(h c).1.trans ?_, (h c).2.1.trans ?_, (h c).2.2.1.trans ?_, (h c).2.2.2⟩)
      (Cert.Reference9Ideal.Value.run (F := Ideal) m' g')
    · rw [Cert.Reference9Ideal.Read.val_main_v97_eq, (hag c).1, (hag c).2.1, (hag c).2.2.1, (hag c).2.2.2.1]
      exact Reference.queries_eq _ _ _ _
    · rw [Cert.Reference9Ideal.Read.val_main_v99_eq, (hag c).1, (hag c).2.1, (hag c).2.2.2.2.1, (hag c).2.2.2.2.2]
      exact Reference.keys_eq _ _ _ _
    · refine (Cert.Reference9Ideal.Read.val_main_v101_eq _ _ _).trans ?_
      rw [(hag c).1, (hag c).2.2.2.2.1, (hag c).2.2.2.2.2]
      exact Reference.values_eq _ _ _

end Cert.Proof.Prep

end

end
-- ==== Proof.ScanPower.lean ====
/- The size and the angle of a power of the transition, as real numbers. A rate or the logarithm of the step length may be minus
infinity: the size is then zero, or the step length is. -/
module

public import proofs.«01_k».proof.Proof.Finite
public import Idealize.ShloMosaic.Lib.Exec

@[expose] public section

noncomputable section

namespace Cert.Proof.Scan

open Idealize.ShloMosaic Cert.Attn

/-- Below infinity. -/
abbrev Below (x : EReal) : Prop := x ≠ ⊤

/-- The exponential is a real number below infinity, and not negative. -/
theorem exp_real (d : EReal) (hd : Below d) : Ideal.exp d = ((Ideal.exp d).toReal : EReal) ∧ 0 ≤ (Ideal.exp d).toReal := by
  induction d with
  | bot => exact ⟨by rw [Ideal.exp_bot]; rfl, by rw [Ideal.exp_bot]; exact le_refl _⟩
  | coe r => exact ⟨by rw [Ideal.exp_coe, EReal.toReal_coe], by rw [Ideal.exp_coe, EReal.toReal_coe]; exact (Real.exp_pos r).le⟩
  | top => exact absurd rfl hd

/-- The exponential of a multiple. -/
theorem exp_times (x : EReal) (hx : Below x) (n : ℕ) : Ideal.exp (x * ((n : ℝ) : EReal)) = (((Ideal.exp x).toReal ^ n : ℝ) : EReal) := by
  induction x with
  | bot =>
    rcases Nat.eq_zero_or_pos n with h | h
    · subst h
      rw [Nat.cast_zero, EReal.coe_zero, mul_zero, pow_zero, ← EReal.coe_zero, Ideal.exp_coe, Real.exp_zero]
    · rw [EReal.bot_mul_coe_of_pos (Nat.cast_pos.mpr h), Ideal.exp_bot, EReal.toReal_zero, zero_pow h.ne', EReal.coe_zero]
  | coe r => rw [← EReal.coe_mul, Ideal.exp_coe, Ideal.exp_coe, EReal.toReal_coe, mul_comm, Real.exp_nat_mul]
  | top => exact absurd rfl hx

/-- A rate over a step. -/
theorem rate_below (a d : EReal) (ha : Below a) (hd : Below d) : Below (a * Ideal.exp d) := by
  obtain ⟨e, h⟩ := exp_real d hd
  rw [e]
  generalize (Ideal.exp d).toReal = x at h
  induction a with
  | bot =>
    rcases h.eq_or_lt with h | h
    · rw [← h, EReal.coe_zero, mul_zero]
      exact EReal.zero_ne_top
    · rw [EReal.bot_mul_coe_of_pos h]
      exact bot_ne_top
  | coe r =>
    rw [← EReal.coe_mul]
    exact EReal.coe_ne_top _
  | top => exact absurd rfl ha

/-- The size over a number of steps. -/
theorem size_real (a d : EReal) (ha : Below a) (hd : Below d) (n : ℕ) :
    Ideal.exp (a * Ideal.exp d * ((n : ℝ) : EReal)) = (((Ideal.exp (a * Ideal.exp d)).toReal ^ n : ℝ) : EReal) :=
  exp_times _ (rate_below a d ha hd) n

/-- The angle over a number of steps. -/
theorem angle_real (b d : EReal) (hb : Finite b) (hd : Below d) (n : ℕ) :
    b * Ideal.exp d * ((n : ℝ) : EReal) = ((b.toReal * (Ideal.exp d).toReal * (n : ℝ) : ℝ) : EReal) := by
  rw [EReal.coe_mul, EReal.coe_mul, ← (exp_real d hd).1, EReal.coe_toReal hb.1 hb.2]

end Cert.Proof.Scan

end

end
-- ==== Proof.ScanSum.lean ====
/- The sums that the scan takes: powers of a transition times earlier terms of a row of 256, by doubling. -/
module

public import proofs.«01_k».proof.Proof.ScanPower

@[expose] public section

noncomputable section

namespace Cert.Proof.Scan

open Idealize.ShloMosaic

/-- The term at `c` and the `n - 1` terms before it in its sequence of 256, each times the power that its distance says. -/
def acc (E Z : ℕ → ℂ) (n c : ℕ) : ℂ := ∑ j ∈ Finset.range n, if j ≤ c % 256 then E j * Z (c - j) else 0

/-- One term. -/
theorem acc_one (E Z : ℕ → ℂ) (h : E 0 = 1) (c : ℕ) : acc E Z 1 c = Z c := by
  simp [acc, h]

/-- Twice as many terms: those so far, and those that as many steps earlier were so far. -/
theorem acc_double (E Z : ℕ → ℂ) (h : ∀ a b, E (a + b) = E a * E b) (n c : ℕ) :
    acc E Z (n + n) c = acc E Z n c + E n * (if n ≤ c % 256 then acc E Z n (c - n) else 0) := by
  unfold acc
  rw [Finset.sum_range_add]
  congr 1
  split_ifs with hn
  · rw [Finset.mul_sum]
    refine Finset.sum_congr rfl fun j _ => ?_
    have hr : (c - n) % 256 = c % 256 - n := by omega
    rw [hr]
    by_cases hj : n + j ≤ c % 256
    · rw [if_pos hj, if_pos (by omega), h, mul_assoc, Nat.sub_sub]
    · rw [if_neg hj, if_neg (by omega), mul_zero]
  · rw [mul_zero]
    exact Finset.sum_eq_zero fun j _ => if_neg (by omega)

/-- The sum over all earlier terms, in the order of the terms. -/
theorem acc_before (E Z : ℕ → ℂ) (b r : ℕ) (hr : r < 256) :
    (if 1 ≤ (256 * b + r) % 256 then acc E Z 256 (256 * b + r - 1) else 0)
      = ∑ j : Fin 256, if j.val < r then E (r - 1 - j.val) * Z (256 * b + j.val) else 0 := by
  rw [Fin.sum_univ_eq_sum_range (fun j => if j < r then E (r - 1 - j) * Z (256 * b + j) else 0) 256]
  have cut (f : ℕ → ℂ) : ∑ j ∈ Finset.range 256, (if j < r then f j else 0) = ∑ j ∈ Finset.range r, f j := by
    rw [← Finset.sum_filter]
    refine Finset.sum_congr (Finset.ext fun j => ?_) fun _ _ => rfl
    simp only [Finset.mem_filter, Finset.mem_range]
    omega
  rw [cut, ← Finset.sum_range_reflect]
  split_ifs with h1
  · unfold acc
    rw [← cut]
    refine Finset.sum_congr rfl fun j _ => ?_
    by_cases hj : j < r
    · rw [if_pos (by omega), if_pos hj]
      congr 2 <;> omega
    · rw [if_neg (by omega), if_neg hj]
  · rw [show r = 0 by omega]; rfl

/-- The lane of a state's real part. -/
def re (p : Fin 64) : Fin 128 := ⟨p.val, by omega⟩

/-- The lane of its imaginary part. -/
def im (p : Fin 64) : Fin 128 := ⟨p.val + 64, by omega⟩

/-- A sum over the lanes, by halves. -/
theorem sum_lanes (f : Fin 128 → EReal) : ∑ l, f l = ∑ p, f (re p) + ∑ p, f (im p) := by
  rw [Fin.sum_univ_add (a := 64) (b := 64) f]
  refine congr (congrArg HAdd.hAdd rfl) (Finset.sum_congr rfl fun p _ => congrArg f (Fin.ext ?_))
  simp only [Fin.natAdd, im]
  omega

/-- The transition over `32 n` steps, from its size and angle over one. -/
def pow (s b : ℝ) (n : ℕ) : ℂ :=
  ⟨s ^ (32 * n) * Real.cos (b * ((32 * n : ℕ) : ℝ)), s ^ (32 * n) * Real.sin (b * ((32 * n : ℕ) : ℝ))⟩

theorem pow_zero (s b : ℝ) : pow s b 0 = 1 := by
  simp [pow, Complex.ext_iff]

theorem pow_add (s b : ℝ) (n k : ℕ) : pow s b (n + k) = pow s b n * pow s b k := by
  have e (x : ℝ) : x * ((32 * (n + k) : ℕ) : ℝ) = x * ((32 * n : ℕ) : ℝ) + x * ((32 * k : ℕ) : ℝ) := by
    push_cast
    ring
  have e2 : s ^ (32 * (n + k)) = s ^ (32 * n) * s ^ (32 * k) := by rw [Nat.mul_add, _root_.pow_add]
  unfold pow
  simp only [e, e2, Real.cos_add, Real.sin_add]
  refine Complex.ext ?_ ?_ <;> simp only [Complex.mul_re, Complex.mul_im] <;> ring

section Spec

variable (u : Fin 1024 → Fin 512 → EReal) (b : Fin 512 → Fin 128 → EReal) (ar ai : Fin 64 → EReal) (d : EReal)

/-- A state's transition. -/
def rate (p : Fin 64) (n : ℕ) : ℂ := pow (Ideal.exp (ar p * Ideal.exp d)).toReal ((ai p).toReal * (Ideal.exp d).toReal) n

/-- What a block of steps leaves in a state. -/
def left (p : Fin 64) (c : ℕ) : ℂ :=
  ⟨∑ x, (u (Fin.ofNat 1024 c) x).toReal * (b x (re p)).toReal, ∑ x, (u (Fin.ofNat 1024 c) x).toReal * (b x (im p)).toReal⟩

/-- The state before a block. -/
def before (p : Fin 64) (c : ℕ) : ℂ := if 1 ≤ c % 256 then acc (rate ar ai d p) (left u b p) 256 (c - 1) else 0

/-- A block's output: from its own rows and from the state before it. -/
def out (t : Fin 512 → Fin 512 → EReal) (w : Fin 128 → Fin 512 → EReal) (c : Fin 1024) (x : Fin 512) : EReal :=
  ∑ k, u c k * t k x + (∑ p, ((before u b ar ai d p c.val).re : EReal) * w (re p) x
    + ∑ p, ((before u b ar ai d p c.val).im : EReal) * w (im p) x)

/-- A sum of products of finite numbers is that of the reals. -/
theorem times_real (f g : Fin 512 → EReal) (hf : ∀ x, Finite (f x)) (hg : ∀ x, Finite (g x)) :
    ∑ x, f x * g x = ((∑ x, (f x).toReal * (g x).toReal : ℝ) : EReal) := by
  rw [Cert.Attn.coe_sum]
  refine Finset.sum_congr rfl fun x _ => ?_
  rw [EReal.coe_mul, EReal.coe_toReal (hf x).1 (hf x).2, EReal.coe_toReal (hg x).1 (hg x).2]

end Spec

end Cert.Proof.Scan

end

end
-- ==== Proof.ScanStep.lean ====
/- One step of the scan over a block of rows: each row takes the row that lies a given number of rows earlier, times a power. -/
module

public import proofs.«01_k».proof.Proof.ScanSum
public import proofs.«01_k».proof.Proof.Gen.Kernel10Ideal.Value
public import Idealize.ShloMosaic.Lib.Exec
public import Idealize.ShloMosaic.Lib.Tactic
public import Idealize.ShloMosaic.Lib.Pointwise

@[expose] public section

set_option maxRecDepth 16384

noncomputable section

namespace Cert.Proof.Scan

open Cert.Kernel10Ideal Cert.Kernel10Ideal.Gen Idealize.ShloMosaic Idealize.ShloMosaic.Tactic

/-- The rows moved down by `sh`, with zeros where a row's sequence begins. -/
def moved (sh : BitVec 32) (z : FVec Ideal S1024x128 .f32) : FVec Ideal S1024x128 .f32 :=
  select (broadcastTo S1024x128 (shapeCast S1024x1 (cmpi .sge k0_pay4 (broadcast S1024x1 sh)) shapeCasts_S1024x1_S1024x1)
      broadcasts_S1024x1_S1024x128)
    (dynamicRotate 0 sh none z rotates_S1024x128_d0) (broadcast S1024x128 (Scalar.ofBits (F := Ideal) .f32 0x00000000#32))

/-- One row of the array of powers, for every row of the block. -/
def spread (p : Vec Ideal S1x1x1x128 .f32) : FVec Ideal S1024x128 .f32 :=
  broadcastTo S1024x128 (shapeCast S1x128 p shapeCasts_S1x1x1x128_S1x128) broadcasts_S1x128_S1024x128

/-- One step. -/
def step (sh : BitVec 32) (p q : Vec Ideal S1x1x1x128 .f32) (z : FVec Ideal S1024x128 .f32) : FVec Ideal S1024x128 .f32 :=
  addf (addf z (mulf (spread p) (moved sh z))) (mulf (spread q) (dynamicRotate 1 64#32 none (moved sh z) rotates_S1024x128_d1))

/-- A row's place in its sequence. -/
theorem place (c : Fin 1024) : k0_pay4 (ix2 c (0 : Fin 1)) = BitVec.ofNat 32 (c.val % 256) := by
  pointwise [k0_pay4]
  revert c
  decide +kernel

/-- The comparison of a row's place with the shift, on the words the kernel compares. -/
theorem select_sge (r n : ℕ) (hr : r < 256) (hn : n ≤ 128) (x y : EReal) :
    Scalar.select (IntOp.cmpi CmpIPredicate.sge (BitVec.ofNat 32 r) (BitVec.ofNat 32 n)) x y = if n ≤ r then x else y := by
  have h : IntOp.cmpi CmpIPredicate.sge (BitVec.ofNat 32 r) (BitVec.ofNat 32 n) = 1 ↔ n ≤ r := by
    word_omega
  unfold Scalar.select
  simp only [h]

/-- The moved rows, at an index. -/
theorem moved_apply (n : ℕ) (hn : n ≤ 128) (z : FVec Ideal S1024x128 .f32) (c : Fin 1024) (l : Fin 128) :
    moved (BitVec.ofNat 32 n) z (ix2 c l)
      = if n ≤ c.val % 256 then z (ix2 (⟨c.val - n, by omega⟩ : Fin 1024) l) else 0 := by
  pointwise [moved]
  rw [place, select_sge _ _ (by omega) hn]
  split_ifs with h
  · have e : (c.val + 1024 - (BitVec.ofNat 32 n).toNat % 1024) % 1024 = c.val - n := by
      rw [BitVec.toNat_ofNat]
      omega
    simp only [e]
  · rfl

theorem spread_apply (p : Vec Ideal S1x1x1x128 .f32) (c : Fin 1024) (l : Fin 128) : spread p (ix2 c l) = p (ix4 0 0 0 l) := by
  pointwise [spread]

theorem step_apply (n : ℕ) (hn : n ≤ 128) (p q : Vec Ideal S1x1x1x128 .f32) (z : FVec Ideal S1024x128 .f32) (c : Fin 1024) (l : Fin 128) :
    step (BitVec.ofNat 32 n) p q z (ix2 c l)
      = z (ix2 c l) + p (ix4 0 0 0 l) * moved (BitVec.ofNat 32 n) z (ix2 c l)
        + q (ix4 0 0 0 l) * moved (BitVec.ofNat 32 n) z (ix2 c (⟨(l.val + 64) % 128, by omega⟩ : Fin 128)) := by
  pointwise [step]
  have e : (l.val + 128 - 64) % 128 = (l.val + 64) % 128 := by omega
  simp only [e, spread_apply]

/-- A block of rows holds the complex rows `w`, real parts in the first half of the lanes. -/
def Holds (z : FVec Ideal S1024x128 .f32) (w : Fin 64 → ℕ → ℂ) : Prop :=
  ∀ (c : Fin 1024) (p : Fin 64), z (ix2 c (re p)) = ((w p c).re : EReal) ∧ z (ix2 c (im p)) = ((w p c).im : EReal)

/-- The moved rows of a block hold the moved complex rows. -/
theorem moved_holds (n : ℕ) (hn : n ≤ 128) (z : FVec Ideal S1024x128 .f32) (w : Fin 64 → ℕ → ℂ) (h : Holds z w) :
    Holds (moved (BitVec.ofNat 32 n) z) fun p c => if n ≤ c % 256 then w p (c - n) else 0 := by
  intro c p
  dsimp only
  rw [moved_apply n hn, moved_apply n hn]
  split_ifs
  · exact h ⟨c.val - n, by omega⟩ p
  · simp

/-- One step adds the moved rows times the power. -/
theorem step_holds (n : ℕ) (hn : n ≤ 128) (a b : Vec Ideal S1x1x1x128 .f32) (z : FVec Ideal S1024x128 .f32) (w : Fin 64 → ℕ → ℂ)
    (s : Fin 64 → ℂ) (h : Holds z w)
    (ha : ∀ p, a (ix4 0 0 0 (re p)) = ((s p).re : EReal) ∧ a (ix4 0 0 0 (im p)) = ((s p).re : EReal))
    (hb : ∀ p, b (ix4 0 0 0 (re p)) = ((-(s p).im : ℝ) : EReal) ∧ b (ix4 0 0 0 (im p)) = ((s p).im : EReal)) :
    Holds (step (BitVec.ofNat 32 n) a b z) fun p c => w p c + s p * (if n ≤ c % 256 then w p (c - n) else 0) := by
  intro c p
  have e1 : (⟨((re p).val + 64) % 128, by omega⟩ : Fin 128) = im p := Fin.ext (by simp only [re, im]; omega)
  have e2 : (⟨((im p).val + 64) % 128, by omega⟩ : Fin 128) = re p := Fin.ext (by simp only [re, im]; omega)
  obtain ⟨m1, m2⟩ := moved_holds n hn z w h c p
  dsimp only at m1 m2 ⊢
  rw [step_apply n hn, step_apply n hn, e1, e2, m1, m2, (ha p).1, (ha p).2, (hb p).1, (hb p).2, (h c p).1, (h c p).2]
  simp only [← EReal.coe_mul, ← EReal.coe_add, EReal.coe_eq_coe_iff, Complex.add_re, Complex.add_im, Complex.mul_re, Complex.mul_im]
  constructor <;> ring

/-- One step doubles the number of terms. -/
theorem step_acc (n : ℕ) (hn : n ≤ 128) (a b : Vec Ideal S1x1x1x128 .f32) (z : FVec Ideal S1024x128 .f32) (E Z : Fin 64 → ℕ → ℂ)
    (hE : ∀ p a b, E p (a + b) = E p a * E p b) (h : Holds z fun p => acc (E p) (Z p) n)
    (ha : ∀ p, a (ix4 0 0 0 (re p)) = ((E p n).re : EReal) ∧ a (ix4 0 0 0 (im p)) = ((E p n).re : EReal))
    (hb : ∀ p, b (ix4 0 0 0 (re p)) = ((-(E p n).im : ℝ) : EReal) ∧ b (ix4 0 0 0 (im p)) = ((E p n).im : EReal)) :
    Holds (step (BitVec.ofNat 32 n) a b z) fun p => acc (E p) (Z p) (n + n) := by
  have e : (fun p => acc (E p) (Z p) (n + n))
      = fun p c => acc (E p) (Z p) n c + E p n * (if n ≤ c % 256 then acc (E p) (Z p) n (c - n) else 0) :=
    funext fun p => funext fun c => acc_double (E p) (Z p) (hE p) n c
  rw [e]
  exact step_holds n hn a b z _ (fun p => E p n) h ha hb

end Cert.Proof.Scan

end

end
-- ==== Proof.ScanBlock.lean ====
/- What a grid point of the scan stores: eight steps over its rows, and the two products with the block operators. -/
module

public import proofs.«01_k».proof.Proof.ScanStep

@[expose] public section

set_option maxRecDepth 16384

noncomputable section

namespace Cert.Proof.Scan

open Cert.Kernel10Ideal Cert.Kernel10Ideal.Gen Idealize.ShloMosaic Idealize.ShloMosaic.Tactic

section

variable (x0 : Vec Ideal S1x1024x512 .bf16) (x1 : Vec Ideal S1x512x512 .bf16) (x2 : Vec Ideal S1x512x128 .bf16)
  (x3 : Vec Ideal S1x128x512 .bf16) (x4 : Vec Ideal S1x8x2x128 .f32)

/-- The rows after the first steps. -/
def half : FVec Ideal S1024x128 .f32 :=
  step 8#32 (View.ld x4 r0_8) (View.ld x4 r0_9) (step 4#32 (View.ld x4 r0_6) (View.ld x4 r0_7)
    (step 2#32 (View.ld x4 r0_4) (View.ld x4 r0_5) (step 1#32 (View.ld x4 r0_2) (View.ld x4 r0_3)
      (k0_pay3 (View.ld x0 r0_0) (View.ld x2 r0_1)))))

/-- The rows after all steps. -/
def states : FVec Ideal S1024x128 .f32 :=
  step 128#32 (View.ld x4 r0_16) (View.ld x4 r0_17) (step 64#32 (View.ld x4 r0_14) (View.ld x4 r0_15)
    (step 32#32 (View.ld x4 r0_12) (View.ld x4 r0_13) (step 16#32 (View.ld x4 r0_10) (View.ld x4 r0_11) (half x0 x2 x4))))

/-- The block that is stored. -/
def whole : Vec Ideal S1x1024x512 .f32 :=
  k0_pay1 (k0_pay20 (k0_pay2 (View.ld x0 r0_0)) (View.ld x1 r0_18)) (truncf .bf16 (moved 1#32 (states x0 x2 x4)) bitsLt_bf16_f32)
    (k0_pay22 (View.ld x3 r0_19)) (constant S1024x512 .f32 0x00000000#32)

theorem out_eq : out0_5 x0 x1 x2 x3 x4 = View.canon [⟨r0_0, whole x0 x1 x2 x3 x4⟩] := rfl

/-- The rows of the array of powers that a step loads. -/
theorem load_at (k : Fin 8) (a : Fin 2) (l : Fin 128) (h : ∀ i, ![0, k.val, a.val, 0] i + S1x1x1x128.size i ≤ S1x8x2x128.size i) :
    View.ld x4 (Rect.unit (s := S1x8x2x128) ![0, k.val, a.val, 0] S1x1x1x128.size h) (ix4 0 0 0 l) = x4 (ix4 0 k a l) := by
  refine congrArg x4 (funext fun i => Fin.ext ?_)
  fin_cases i <;> simp [View.ld, Rect.unit]

theorem whole_apply (c : Fin 1024) (x : Fin 512) : whole x0 x1 x2 x3 x4 (ix3 0 c x)
    = ∑ k, x0 (ix3 0 c k) * x1 (ix3 0 k x) + ∑ l, moved 1#32 (states x0 x2 x4) (ix2 c l) * x3 (ix3 0 l x) := by
  pointwise [whole, k0_pay1, k0_pay20, k0_pay2, k0_pay22]

theorem first_apply (c : Fin 1024) (l : Fin 128) : k0_pay3 (View.ld x0 r0_0) (View.ld x2 r0_1) (ix2 c l)
    = ∑ k, x0 (ix3 0 c k) * x2 (ix3 0 k l) := by
  pointwise [k0_pay3, k0_pay2]

/-- The array of powers holds the transition over 2 ^ k blocks. -/
def Powers (E : Fin 64 → ℕ → ℂ) : Prop := ∀ (k : Fin 8) (p : Fin 64),
  (x4 (ix4 0 k 0 (re p)) = ((E p (2 ^ k.val)).re : EReal) ∧ x4 (ix4 0 k 0 (im p)) = ((E p (2 ^ k.val)).re : EReal))
  ∧ x4 (ix4 0 k 1 (re p)) = ((-(E p (2 ^ k.val)).im : ℝ) : EReal) ∧ x4 (ix4 0 k 1 (im p)) = ((E p (2 ^ k.val)).im : EReal)

variable {x0 x2 x4}

/-- One step with the powers that it loads. -/
theorem step_loads (E Z : Fin 64 → ℕ → ℂ) (hE : ∀ p a b, E p (a + b) = E p a * E p b) (hx : Powers x4 E) (k : Fin 8)
    (z : FVec Ideal S1024x128 .f32) (a b : Vec Ideal S1x1x1x128 .f32) (ha : ∀ l, a (ix4 0 0 0 l) = x4 (ix4 0 k 0 l))
    (hb : ∀ l, b (ix4 0 0 0 l) = x4 (ix4 0 k 1 l)) (h : Holds z fun p => acc (E p) (Z p) (2 ^ k.val)) :
    Holds (step (BitVec.ofNat 32 (2 ^ k.val)) a b z) fun p => acc (E p) (Z p) (2 ^ k.val + 2 ^ k.val) := by
  have hn : 2 ^ k.val ≤ 128 := by
    clear ha hb h
    revert k
    decide
  refine step_acc _ hn a b z E Z hE h (fun p => ?_) fun p => ?_
  · rw [ha, ha]
    exact (hx k p).1
  · rw [hb, hb]
    exact (hx k p).2

/-- The rows after all steps hold the sums over all 256 terms. -/
theorem states_hold (E Z : Fin 64 → ℕ → ℂ) (h0 : ∀ p, E p 0 = 1) (hE : ∀ p a b, E p (a + b) = E p a * E p b) (hx : Powers x4 E)
    (h : Holds (k0_pay3 (View.ld x0 r0_0) (View.ld x2 r0_1)) Z) : Holds (states x0 x2 x4) fun p => acc (E p) (Z p) 256 := by
  have s0 : Holds (k0_pay3 (View.ld x0 r0_0) (View.ld x2 r0_1)) fun p => acc (E p) (Z p) 1 := by
    have e : (fun p => acc (E p) (Z p) 1) = Z := funext fun p => funext fun c => acc_one (E p) (Z p) (h0 p) c
    rw [e]
    exact h
  have s1 := step_loads E Z hE hx 0 _ (View.ld x4 r0_2) (View.ld x4 r0_3) (fun l => load_at x4 0 0 l _) (fun l => load_at x4 0 1 l _) s0
  have s2 := step_loads E Z hE hx 1 _ (View.ld x4 r0_4) (View.ld x4 r0_5) (fun l => load_at x4 1 0 l _) (fun l => load_at x4 1 1 l _) s1
  have s3 := step_loads E Z hE hx 2 _ (View.ld x4 r0_6) (View.ld x4 r0_7) (fun l => load_at x4 2 0 l _) (fun l => load_at x4 2 1 l _) s2
  have s4 := step_loads E Z hE hx 3 _ (View.ld x4 r0_8) (View.ld x4 r0_9) (fun l => load_at x4 3 0 l _) (fun l => load_at x4 3 1 l _) s3
  have s5 := step_loads E Z hE hx 4 _ (View.ld x4 r0_10) (View.ld x4 r0_11) (fun l => load_at x4 4 0 l _) (fun l => load_at x4 4 1 l _) s4
  have s6 := step_loads E Z hE hx 5 _ (View.ld x4 r0_12) (View.ld x4 r0_13) (fun l => load_at x4 5 0 l _) (fun l => load_at x4 5 1 l _) s5
  have s7 := step_loads E Z hE hx 6 _ (View.ld x4 r0_14) (View.ld x4 r0_15) (fun l => load_at x4 6 0 l _) (fun l => load_at x4 6 1 l _) s6
  exact step_loads E Z hE hx 7 _ (View.ld x4 r0_16) (View.ld x4 r0_17) (fun l => load_at x4 7 0 l _) (fun l => load_at x4 7 1 l _) s7

/-- The block that is stored, at an index. -/
theorem block_eq (u : Fin 1024 → Fin 512 → EReal) (b : Fin 512 → Fin 128 → EReal) (ar ai : Fin 64 → EReal) (d : EReal)
    (hu : ∀ c x, x0 (ix3 0 c x) = u c x) (hb : ∀ x l, x2 (ix3 0 x l) = b x l) (fu : ∀ c x, Finite (u c x)) (fb : ∀ x l, Finite (b x l))
    (hx : Powers x4 (rate ar ai d)) (c : Fin 1024) (x : Fin 512) :
    whole x0 x1 x2 x3 x4 (ix3 0 c x) = out u b ar ai d (fun k y => x1 (ix3 0 k y)) (fun l y => x3 (ix3 0 l y)) c x := by
  have h : Holds (k0_pay3 (View.ld x0 r0_0) (View.ld x2 r0_1)) (left u b) := by
    intro c p
    have e : Fin.ofNat 1024 c.val = c := Fin.ofNat_val_eq_self c
    rw [first_apply, first_apply]
    simp only [hu, hb]
    rw [times_real _ _ (fu c) fun x => fb x _, times_real _ _ (fu c) fun x => fb x _]
    unfold left
    rw [e]
    exact ⟨rfl, rfl⟩
  have hs := moved_holds 1 (by omega) _ _ (states_hold (rate ar ai d) (left u b) (fun p => pow_zero _ _) (fun p => pow_add _ _) hx h)
  rw [whole_apply, sum_lanes]
  unfold out
  refine congr (congrArg HAdd.hAdd ?_) (congr (congrArg HAdd.hAdd ?_) ?_)
  · simp only [hu]
  · exact Finset.sum_congr rfl fun p _ => congrArg (· * _) (hs c p).1
  · exact Finset.sum_congr rfl fun p _ => congrArg (· * _) (hs c p).2

end

end Cert.Proof.Scan

end

end
-- ==== Proof.ScanEntry.lean ====
/- The array of powers as the host leaves it for the kernel: the transition over 32 · 2 ^ k steps, k below 8. -/
module

public import proofs.«01_k».proof.Proof.ScanStep
public import Idealize.ShloMosaic.Lib.StableHlo.RunRead

@[expose] public section

set_option maxRecDepth 16384
set_option maxHeartbeats 4000000

noncomputable section

namespace Cert.Proof.Scan

open Cert.Kernel10Ideal Cert.Kernel10Ideal.Gen Idealize.ShloMosaic Idealize.ShloMosaic.Tactic Idealize.SL.Sem
open Idealize.ShloMosaic.TcCoe

/-- The number of steps, converted. -/
theorem steps (k : Fin 8) : FloatOps.sitofp (F := Ideal) FTy.f32 (BitVec.ofNat 32 (32 * 2 ^ k.val)) = (((32 * 2 ^ k.val : ℕ) : ℝ) : EReal) := by
  have h : (BitVec.ofNat 32 (32 * 2 ^ k.val)).toInt = ((32 * 2 ^ k.val : ℕ) : ℤ) := by
    revert k
    decide +kernel
  have e : FloatOps.sitofp (F := Ideal) FTy.f32 (BitVec.ofNat 32 (32 * 2 ^ k.val))
      = (((BitVec.ofNat 32 (32 * 2 ^ k.val)).toInt : ℝ) : EReal) := rfl
  rw [e, h, Int.cast_natCast]

/-- The power's size, from the rates as they are stored. -/
def size (a : Vec Ideal S24x64 .f32) (d : Vec Ideal S24 .f32) (g : Fin 24) (k : Fin 8) (p : Fin 64) : EReal :=
  Ideal.exp (a (ix2 g p) * Ideal.exp (d (ix1 g)) * (((32 * 2 ^ k.val : ℕ) : ℝ) : EReal))

/-- Its angle. -/
def angle (b : Vec Ideal S24x64 .f32) (d : Vec Ideal S24 .f32) (g : Fin 24) (k : Fin 8) (p : Fin 64) : EReal :=
  b (ix2 g p) * Ideal.exp (d (ix1 g)) * (((32 * 2 ^ k.val : ℕ) : ℝ) : EReal)

variable (m : (ℓ : Loc nD τ sig) → Buf (Elt Ideal) ℓ) (c : Dev nD)

/-- The sizes that the host takes. -/
abbrev sizeOf (g : Fin 24) (k : Fin 8) (p : Fin 64) : EReal :=
  size (m ((c : Thread nD τ).loc main_arg4)) (m ((c : Thread nD τ).loc main_arg6)) g k p

/-- The angles that the host takes. -/
abbrev angleOf (g : Fin 24) (k : Fin 8) (p : Fin 64) : EReal :=
  angle (m ((c : Thread nD τ).loc main_arg5)) (m ((c : Thread nD τ).loc main_arg6)) g k p

/-- The array, by its two rows and the two halves of their lanes. -/
theorem powers (g : Fin 24) (k : Fin 8) (p : Fin 64) :
    ((V m c main_v90 : Vec Ideal S24x8x2x128 .f32) (ix4 g k 0 (re p)) = sizeOf m c g k p * Ideal.cos (angleOf m c g k p)
      ∧ (V m c main_v90 : Vec Ideal S24x8x2x128 .f32) (ix4 g k 0 (im p)) = sizeOf m c g k p * Ideal.cos (angleOf m c g k p))
    ∧ (V m c main_v90 : Vec Ideal S24x8x2x128 .f32) (ix4 g k 1 (re p)) = -(sizeOf m c g k p * Ideal.sin (angleOf m c g k p))
      ∧ (V m c main_v90 : Vec Ideal S24x8x2x128 .f32) (ix4 g k 1 (im p)) = sizeOf m c g k p * Ideal.sin (angleOf m c g k p) := by
  have h1 : (re p).val < 64 := p.isLt
  have h2 : ¬ (im p).val < 64 := by simp [im]
  have e1 : (⟨(re p).val, h1⟩ : Fin 64) = p := rfl
  have e2 : (⟨(im p).val - 64, by simp [im]⟩ : Fin 64) = p := Fin.ext (by simp [im])
  refine ⟨⟨?_, ?_⟩, ?_, ?_⟩ <;>
  · dsimp only [V]
    after_reads_simp
    pointwise
    after_reads_simp
    pointwise
    simp only [Fin.val_one, Fin.val_zero, Nat.lt_one_iff, one_ne_zero, dif_pos h1, dif_neg h2, dite_true, dite_false]
    after_reads_simp
    simp only [StableHlo.TRef.toBuf, StableHlo.TRef.ofBuf, cast_eq]
    pointwise
    generalize hx : IntOp.muli 32#32 _ = x
    have e : x = BitVec.ofNat 32 (32 * 2 ^ k.val) := by
      subst hx
      revert k
      decide +kernel
    subst e
    simp only [steps, e1, e2]
    rfl

end Cert.Proof.Scan

end

end
-- ==== Proof.ScanReference.lean ====
/- The plain mathematics of the scan: the state before a block as a sum over the earlier blocks of its sequence. -/
module

public import proofs.«01_k».proof.Proof.ScanSum
public import proofs.«01_k».proof.Proof.Gen.Reference10Ideal.Read
public import Idealize.ShloMosaic.Lib.Exec
public import Idealize.ShloMosaic.Lib.Tactic
public import Idealize.ShloMosaic.Lib.Pointwise

@[expose] public section

set_option maxRecDepth 16384

noncomputable section

namespace Cert.Proof.Scan.Plain

open Cert.Reference10Ideal Cert.Reference10Ideal.Read Idealize.ShloMosaic Idealize.ShloMosaic.Tactic

/-- The words that count the blocks between two. -/
theorem gap_word (r j : Fin 256) :
    IntOp.cmpi CmpIPredicate.sge (IntOp.subi (IntOp.subi (BitVec.ofNat 32 r.val) 1#32) (BitVec.ofNat 32 j.val)) 0#32 = 1 ↔ j.val < r.val := by
  have hr := r.isLt
  have hj := j.isLt
  have e : (IntOp.subi (IntOp.subi (BitVec.ofNat 32 r.val) 1#32) (BitVec.ofNat 32 j.val)).toNat
      = if j.val < r.val then r.val - 1 - j.val else 2 ^ 32 - (j.val + 1 - r.val) := by
    simp only [IntOp.subi, BitVec.toNat_sub, BitVec.toNat_ofNat]
    split_ifs <;> omega
  generalize IntOp.subi (IntOp.subi (BitVec.ofNat 32 r.val) 1#32) (BitVec.ofNat 32 j.val) = x at e ⊢
  split_ifs at e <;> word_omega

/-- The steps between two blocks. -/
theorem gap_steps (r j : Fin 256) (h : j.val < r.val) :
    FloatOps.sitofp (F := Ideal) FTy.f32 (IntOp.muli 32#32 (IntOp.subi (IntOp.subi (BitVec.ofNat 32 r.val) 1#32) (BitVec.ofNat 32 j.val)))
      = (((32 * (r.val - 1 - j.val) : ℕ) : ℝ) : EReal) := by
  have hr := r.isLt
  have e : IntOp.muli 32#32 (IntOp.subi (IntOp.subi (BitVec.ofNat 32 r.val) 1#32) (BitVec.ofNat 32 j.val))
      = BitVec.ofNat 32 (32 * (r.val - 1 - j.val)) := by
    apply BitVec.eq_of_toNat_eq
    simp only [IntOp.muli, IntOp.subi, BitVec.toNat_mul, BitVec.toNat_sub, BitVec.toNat_ofNat]
    omega
  have e2 : (BitVec.ofNat 32 (32 * (r.val - 1 - j.val))).toInt = ((32 * (r.val - 1 - j.val) : ℕ) : ℤ) := by
    rw [BitVec.toInt_eq_toNat_of_lt] <;> rw [BitVec.toNat_ofNat] <;> omega
  have e3 : FloatOps.sitofp (F := Ideal) FTy.f32 (BitVec.ofNat 32 (32 * (r.val - 1 - j.val)))
      = (((BitVec.ofNat 32 (32 * (r.val - 1 - j.val))).toInt : ℝ) : EReal) := rfl
  rw [e, e3, e2, Int.cast_natCast]

variable (u : Vec Ideal S24x1024x512 .bf16) (t : Vec Ideal S24x512x512 .bf16) (b : Vec Ideal S24x512x128 .bf16)
  (w : Vec Ideal S24x128x512 .bf16) (ar ai : Vec Ideal S24x64 .f32) (ld : Vec Ideal S24 .f32)

/-- A group's transition. -/
abbrev rateOf (g : Fin 24) (p : Fin 64) (n : ℕ) : ℂ := rate (fun p => ar (ix2 g p)) (fun p => ai (ix2 g p)) (ld (ix1 g)) p n

/-- What a group's blocks leave. -/
abbrev leftOf (g : Fin 24) (p : Fin 64) (c : ℕ) : ℂ := left (fun c x => u (ix3 g c x)) (fun x l => b (ix3 g x l)) p c

theorem left_at (g : Fin 24) (n : Fin 4) (r : Fin 256) (l : Fin 128) :
    val_main_v3 (F := Ideal) u b (ix4 g n r l) = ∑ x, u (ix3 g (⟨n.val * 256 + r.val, by omega⟩ : Fin 1024) x) * b (ix3 g x l) := by
  pointwise [val_main_v3, val_main_v2, val_main_v1, val_main_v0]

section Finite

variable (fu : ∀ i, Finite (u i)) (fb : ∀ i, Finite (b i)) (fr : ∀ i, Below (ar i)) (fi : ∀ i, Finite (ai i)) (fd : ∀ i, Below (ld i))

include fu fb in
theorem left_parts (g : Fin 24) (n : Fin 4) (r : Fin 256) (p : Fin 64) :
    val_main_v3 (F := Ideal) u b (ix4 g n r (re p)) = ((leftOf u b g p (256 * n.val + r.val)).re : EReal)
    ∧ val_main_v3 (F := Ideal) u b (ix4 g n r (im p)) = ((leftOf u b g p (256 * n.val + r.val)).im : EReal) := by
  have e : Fin.ofNat 1024 (256 * n.val + r.val) = (⟨n.val * 256 + r.val, by omega⟩ : Fin 1024) :=
    Fin.ext (by simp only [Fin.ofNat]; omega)
  rw [left_at, left_at, times_real _ _ (fun _ => fu _) fun _ => fb _, times_real _ _ (fun _ => fu _) fun _ => fb _]
  unfold leftOf left
  rw [e]
  exact ⟨rfl, rfl⟩

include fr fi fd in
/-- The power between two blocks. -/
theorem power_at (g : Fin 24) (p : Fin 64) (r j : Fin 256) :
    val_main_v38 (F := Ideal) ar ai ld (ix4 g p r j) = ((if j.val < r.val then rateOf ar ai ld g p (r.val - 1 - j.val) else 0).re : EReal)
    ∧ val_main_v43 (F := Ideal) ar ai ld (ix4 g p r j) = ((if j.val < r.val then rateOf ar ai ld g p (r.val - 1 - j.val) else 0).im : EReal) := by
  constructor <;>
  · pointwise [val_main_v38, val_main_call0_v0, val_main_call0_v1, val_main_call0_v2, val_main_cst, val_main_v37, val_main_v36,
      val_main_v35, val_main_v34, val_main_c_1, val_main_v43, val_main_call1_v0, val_main_call1_v1, val_main_call1_v2, val_main_cst_3,
      val_main_v42, val_main_v41, val_main_v40, val_main_v39, val_main_c_2, val_main_v33, val_main_v32, val_main_v31, val_main_v30,
      val_main_v29, val_main_v28, val_main_v27, val_main_v26, val_main_v25, val_main_v24, val_main_v23, val_main_v22, val_main_v21,
      val_main_v20, val_main_v19, val_main_v18, val_main_v17, val_main_v16, val_main_c_0, val_main_v15, val_main_v14, val_main_v13,
      val_main_v12, val_main_v11, val_main_v10, val_main_c, val_main_v9, val_main_v8, val_main_v7, val_main_v6]
    unfold Scalar.select
    simp only [gap_word]
    split_ifs with h
    · rw [gap_steps r j h, size_real _ _ (fr (ix2 g p)) (fd (ix1 g)), angle_real _ _ (fi (ix2 g p)) (fd (ix1 g))]
      simp only [← EReal.coe_mul, Ideal.cos_coe, Ideal.sin_coe]
      rfl
    · simp only [Complex.zero_re, Complex.zero_im, EReal.coe_zero, id]
      pointwise

include fu fb fr fi fd in
/-- The state before a block. -/
theorem state_at (g : Fin 24) (n : Fin 4) (r : Fin 256) (p : Fin 64) :
    val_main_v48 (F := Ideal) u b ar ai ld (ix4 g n r p)
      = ((before (fun c x => u (ix3 g c x)) (fun x l => b (ix3 g x l)) (fun p => ar (ix2 g p)) (fun p => ai (ix2 g p)) (ld (ix1 g)) p
        (256 * n.val + r.val)).re : EReal)
    ∧ val_main_v53 (F := Ideal) u b ar ai ld (ix4 g n r p)
      = ((before (fun c x => u (ix3 g c x)) (fun x l => b (ix3 g x l)) (fun p => ar (ix2 g p)) (fun p => ai (ix2 g p)) (ld (ix1 g)) p
        (256 * n.val + r.val)).im : EReal) := by
  have e (j : Fin 256) := left_parts u b fu fb g n j p
  have e1 (j : Fin 256) := power_at ar ai ld fr fi fd g p r j
  have h : before (fun c x => u (ix3 g c x)) (fun x l => b (ix3 g x l)) (fun p => ar (ix2 g p)) (fun p => ai (ix2 g p)) (ld (ix1 g)) p
      (256 * n.val + r.val)
      = ∑ j : Fin 256, (if j.val < r.val then rateOf ar ai ld g p (r.val - 1 - j.val) else 0) * leftOf u b g p (256 * n.val + j.val) := by
    unfold before
    rw [acc_before _ _ _ _ r.isLt]
    exact Finset.sum_congr rfl fun j _ => by rw [ite_mul, zero_mul]
  have l1 (j : Fin 256) (q : 0 + p.val < 128) : (⟨0 + p.val, q⟩ : Fin 128) = re p := Fin.ext (Nat.zero_add _)
  have l3 (q : p.val < 128) : (⟨p.val, q⟩ : Fin 128) = re p := rfl
  have l2 (q : 64 + p.val < 128) : (⟨64 + p.val, q⟩ : Fin 128) = im p := Fin.ext (Nat.add_comm _ _)
  rw [h, Complex.re_sum, Complex.im_sum]
  constructor
  · pointwise [val_main_v48, val_main_v47, val_main_v46, val_main_v45, val_main_v44, val_main_v4, val_main_v5]
    simp only [l2, l3, (e _).1, (e _).2, (e1 _).1, (e1 _).2, ← EReal.coe_mul, ← Cert.Attn.coe_sum, ← EReal.coe_sub]
    rw [← Finset.sum_sub_distrib]
    exact congrArg _ (Finset.sum_congr rfl fun j _ => by rw [Complex.mul_re]; ring)
  · pointwise [val_main_v53, val_main_v52, val_main_v51, val_main_v50, val_main_v49, val_main_v4, val_main_v5]
    simp only [l2, l3, (e _).1, (e _).2, (e1 _).1, (e1 _).2, ← EReal.coe_mul, ← Cert.Attn.coe_sum, ← EReal.coe_add]
    rw [← Finset.sum_add_distrib]
    exact congrArg _ (Finset.sum_congr rfl fun j _ => by rw [Complex.mul_im]; ring)

include fu fb fr fi fd in
/-- The reference's array, at an index. -/
theorem out_at (g : Fin 24) (c : Fin 1024) (x : Fin 512) :
    val_main_v60 (F := Ideal) u t b w ar ai ld (ix3 g c x)
      = out (fun c x => u (ix3 g c x)) (fun x l => b (ix3 g x l)) (fun p => ar (ix2 g p)) (fun p => ai (ix2 g p)) (ld (ix1 g))
        (fun k y => t (ix3 g k y)) (fun l y => w (ix3 g l y)) c x := by
  pointwise [val_main_v60, val_main_v59, val_main_v58, val_main_v57, val_main_v56, val_main_v55, val_main_v54, val_main_v1, val_main_v0]
  have ec : 256 * (c.val / 256) + c.val % 256 = c.val := by omega
  have e (p : Fin 64) := state_at u b ar ai ld fu fb fr fi fd g (⟨c.val / 256, by omega⟩ : Fin 4) (⟨c.val % 256, by omega⟩ : Fin 256) p
  have l2 (p : Fin 64) (q : 64 + p.val < 128) : (⟨64 + p.val, q⟩ : Fin 128) = im p := Fin.ext (Nat.add_comm _ _)
  simp only [ec] at e
  simp only [(e _).1, (e _).2, l2]
  rfl

end Finite

end Cert.Proof.Scan.Plain

end

end
-- ==== Proof.Scan.lean ====
/- The scan over the blocks of the first branch, with the host code that tabulates the powers. -/
module

public import proofs.«01_k».proof.Defs
public import proofs.«01_k».proof.Proof.Inputs
public import proofs.«01_k».proof.Proof.ScanBlock
public import proofs.«01_k».proof.Proof.ScanEntry
public import proofs.«01_k».proof.Proof.ScanReference
public import proofs.«01_k».proof.Proof.Gen.Pre_scan_inputs
public import proofs.«01_k».proof.Proof.Gen.Reference10Ideal.Run
public import Idealize.ShloMosaic.Lib.Claim
public import Idealize.ShloMosaic.Lib.Pipeline.Covers
public import Idealize.ShloMosaic.Lib.Pipeline.ValueKit.Acc
public import Idealize.ShloMosaic.Adequacy
public import Idealize.ShloMosaic.Init

@[expose] public section

set_option maxRecDepth 16384

noncomputable section

namespace Cert.Proof.Scan

open Cert.Kernel10Ideal Cert.Kernel10Ideal.Gen Idealize.ShloMosaic Idealize.ShloMosaic.Tactic Idealize.SL.Sem
open Idealize.ShloMosaic.TcCoe
open Cert.Attn (of_ofBool ofBits_posInf finite_of_abs andi_split)

/-- The outputs of all groups. -/
def outs (u : Vec Ideal S24x1024x512 .bf16) (t : Vec Ideal S24x512x512 .bf16) (b : Vec Ideal S24x512x128 .bf16)
    (w : Vec Ideal S24x128x512 .bf16) (ar ai : Vec Ideal S24x64 .f32) (ld : Vec Ideal S24 .f32) : Vec Ideal S24x1024x512 .f32 := fun i =>
  out (fun c x => u (ix3 (i 0) c x)) (fun x l => b (ix3 (i 0) x l)) (fun p => ar (ix2 (i 0) p)) (fun p => ai (ix2 (i 0) p)) (ld (ix1 (i 0)))
    (fun k y => t (ix3 (i 0) k y)) (fun l y => w (ix3 (i 0) l y)) (i 1) (i 2)

/-- What the precondition says. -/
theorem inputs (u : Vec Ideal S24x1024x512 .bf16) (t : Vec Ideal S24x512x512 .bf16) (b : Vec Ideal S24x512x128 .bf16)
    (w : Vec Ideal S24x128x512 .bf16) (ar ai : Vec Ideal S24x64 .f32) (ld : Vec Ideal S24 .f32)
    (e : Cert.Pre_scan_inputs.fn (F := Ideal) u t b w ar ai ld = fun _ => 1#1) :
    ((∀ i, Finite (u i)) ∧ ∀ i, Finite (b i)) ∧ ((∀ i, Below (ar i)) ∧ ∀ i, Finite (ai i)) ∧ ∀ i, Below (ld i) := by
  have h0 := congrFun e default
  dsimp only [Cert.Pre_scan_inputs.fn, Cert.Pre_scan_inputs.fn_part1] at h0
  obtain ⟨h1, hd⟩ := andi_split _ _ h0
  obtain ⟨h2, h3⟩ := andi_split _ _ h1
  obtain ⟨hu, hb⟩ := andi_split _ _ h2
  obtain ⟨hr, hi⟩ := andi_split _ _ h3
  refine ⟨⟨fun i => ?_, fun i => ?_⟩, ⟨fun i => ?_, fun i => ?_⟩, fun i => ?_⟩
  · have := Host.reduce_andi_all _ _ _ _ _ hu i
    pointwise at this
    rw [ofBits_posInf] at this
    exact finite_of_abs _ (of_ofBool this)
  · have := Host.reduce_andi_all _ _ _ _ _ hb i
    pointwise at this
    rw [ofBits_posInf] at this
    exact finite_of_abs _ (of_ofBool this)
  · have := Host.reduce_andi_all _ _ _ _ _ hr i
    pointwise at this
    rw [ofBits_posInf] at this
    exact (of_ofBool this).ne
  · have := Host.reduce_andi_all _ _ _ _ _ hi i
    pointwise at this
    rw [ofBits_posInf] at this
    exact finite_of_abs _ (of_ofBool this)
  · have := Host.reduce_andi_all _ _ _ _ _ hd i
    pointwise at this
    rw [ofBits_posInf] at this
    exact (of_ofBool this).ne

/-- Where the windows stand at a grid point. -/
theorem idx (t : Fin grid0.N) :
    (win0_0.index t = ![(grid0.coords t 0).val, 0, 0] ∧ win0_1.index t = ![(grid0.coords t 0).val, 0, 0]
    ∧ win0_2.index t = ![(grid0.coords t 0).val, 0, 0] ∧ win0_3.index t = ![(grid0.coords t 0).val, 0, 0])
    ∧ win0_4.index t = ![(grid0.coords t 0).val, 0, 0, 0] ∧ win0_5.index t = ![(grid0.coords t 0).val, 0, 0] := by
  revert t; decide +kernel

variable (m : (ℓ : Loc nD τ sig) → Buf (Elt Ideal) ℓ) (c : Dev nD)

/-- A group's rows, at an index. -/
theorem rows_at (t : Fin grid0.N) (r : Fin 1024) (k : Fin 512) (g : Fin 24) (hg : g.val = (grid0.coords t 0).val) :
    iblk (F := Ideal) m c 0 t (ix3 0 r k) = m ((c : Thread nD τ).loc main_arg0) (ix3 g r k) := by
  have e := (idx t).1.1
  blk_ext [iblk, V, e]

/-- Its operator within a block, at an index. -/
theorem within_at (t : Fin grid0.N) (k y : Fin 512) (g : Fin 24) (hg : g.val = (grid0.coords t 0).val) :
    iblk (F := Ideal) m c 1 t (ix3 0 k y) = m ((c : Thread nD τ).loc main_arg1) (ix3 g k y) := by
  have e := (idx t).1.2.1
  blk_ext [iblk, V, e]

/-- Its operator to the state, at an index. -/
theorem leave_at (t : Fin grid0.N) (k : Fin 512) (l : Fin 128) (g : Fin 24) (hg : g.val = (grid0.coords t 0).val) :
    iblk (F := Ideal) m c 2 t (ix3 0 k l) = m ((c : Thread nD τ).loc main_arg2) (ix3 g k l) := by
  have e := (idx t).1.2.2.1
  blk_ext [iblk, V, e]

/-- Its operator from the state, at an index. -/
theorem enter_at (t : Fin grid0.N) (l : Fin 128) (y : Fin 512) (g : Fin 24) (hg : g.val = (grid0.coords t 0).val) :
    iblk (F := Ideal) m c 3 t (ix3 0 l y) = m ((c : Thread nD τ).loc main_arg3) (ix3 g l y) := by
  have e := (idx t).1.2.2.2
  blk_ext [iblk, V, e]

/-- Its powers, at an index. -/
theorem table_at (t : Fin grid0.N) (k : Fin 8) (a : Fin 2) (l : Fin 128) (g : Fin 24) (hg : g.val = (grid0.coords t 0).val) :
    iblk (F := Ideal) m c 4 t (ix4 0 k a l) = (V m c main_v90 : Vec Ideal S24x8x2x128 .f32) (ix4 g k a l) := by
  have e := (idx t).2.1
  have h0 : (((win0_4.blk t).view.emb (ix4 0 k a l)) 0 : ℕ) = (grid0.coords t 0).val := by
    blk_simp [e]; rfl
  have h1 : (((win0_4.blk t).view.emb (ix4 0 k a l)) 1 : ℕ) = k.val := by
    blk_simp [e]
  have h2 : (((win0_4.blk t).view.emb (ix4 0 k a l)) 2 : ℕ) = a.val := by
    blk_simp [e]
  have h3 : (((win0_4.blk t).view.emb (ix4 0 k a l)) 3 : ℕ) = l.val := by
    blk_simp [e]
  have h : iblk (F := Ideal) m c 4 t (ix4 0 k a l) = (V m c main_v90 : Vec Ideal S24x8x2x128 .f32) ((win0_4.blk t).view.emb (ix4 0 k a l)) := rfl
  rw [h]
  refine congrArg (V m c main_v90 : Vec Ideal S24x8x2x128 .f32) ?_
  funext q
  fin_cases q
  · exact Fin.ext (h0.trans hg.symm)
  · exact Fin.ext h1
  · exact Fin.ext h2
  · exact Fin.ext h3

/-- The powers, of rates below infinity. -/
theorem table_powers (t : Fin grid0.N) (g : Fin 24) (hg : g.val = (grid0.coords t 0).val) (ar ai : Vec Ideal S24x64 .f32) (ld : Vec Ideal S24 .f32)
    (er : ar = m ((c : Thread nD τ).loc main_arg4)) (ei : ai = m ((c : Thread nD τ).loc main_arg5)) (ed : ld = m ((c : Thread nD τ).loc main_arg6))
    (fr : ∀ i, Below (ar i)) (fi : ∀ i, Finite (ai i)) (fd : ∀ i, Below (ld i)) :
    Powers (iblk (F := Ideal) m c 4 t) (rate (fun p => ar (ix2 g p)) (fun p => ai (ix2 g p)) (ld (ix1 g))) := by
  intro k p
  obtain ⟨⟨h1, h2⟩, h3, h4⟩ := powers m c g k p
  have es := size_real (ar (ix2 g p)) (ld (ix1 g)) (fr (ix2 g p)) (fd (ix1 g)) (32 * 2 ^ k.val)
  have ea := angle_real (ai (ix2 g p)) (ld (ix1 g)) (fi (ix2 g p)) (fd (ix1 g)) (32 * 2 ^ k.val)
  unfold sizeOf angleOf at h1 h2 h3 h4
  rw [← er, ← ed, ← ei] at h1 h2 h3 h4
  unfold size angle at h1 h2 h3 h4
  rw [es, ea] at h1 h2 h3 h4
  simp only [Ideal.cos_coe, Ideal.sin_coe, ← EReal.coe_mul, ← EReal.coe_neg] at h1 h2 h3 h4
  refine ⟨⟨?_, ?_⟩, ?_, ?_⟩
  · exact (table_at m c t k 0 (re p) g hg).trans h1
  · exact (table_at m c t k 0 (im p) g hg).trans h2
  · exact (table_at m c t k 1 (re p) g hg).trans h3
  · exact (table_at m c t k 1 (im p) g hg).trans h4

/-- The output array. -/
theorem final (fu : ∀ i, Finite ((m ((c : Thread nD τ).loc main_arg0) : Vec Ideal S24x1024x512 .bf16) i))
    (fb : ∀ i, Finite ((m ((c : Thread nD τ).loc main_arg2) : Vec Ideal S24x512x128 .bf16) i))
    (fr : ∀ i, Below ((m ((c : Thread nD τ).loc main_arg4) : Vec Ideal S24x64 .f32) i))
    (fi : ∀ i, Finite ((m ((c : Thread nD τ).loc main_arg5) : Vec Ideal S24x64 .f32) i))
    (fd : ∀ i, Below ((m ((c : Thread nD τ).loc main_arg6) : Vec Ideal S24 .f32) i)) :
    (dats (F := Ideal) m 0 c).arrAt 5 cfg0.N = outs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 5 _ (by decide +kernel) fun t hf y => ?_
  blk_simp
  rw [after0_5]
  obtain ⟨r, x, rfl⟩ : ∃ (r : Fin 1024) (x : Fin 512), y = ix3 0 r x := ⟨y 1, y 2, by funext a; fin_cases a <;> first | rfl | exact Subsingleton.elim (α := Fin 1) _ _⟩
  have e := (idx t).2.2
  have h0 : (((win0_5.blk t).view.emb (ix3 0 r x)) 0 : ℕ) = (grid0.coords t 0).val := by
    blk_simp [e]; rfl
  have h1 : (((win0_5.blk t).view.emb (ix3 0 r x)) 1 : ℕ) = r.val := by
    blk_simp [e]
  have h2 : (((win0_5.blk t).view.emb (ix3 0 r x)) 2 : ℕ) = x.val := by
    blk_simp [e]
  rw [out_eq]
  frame_out
  refine (block_eq _ _ _ _ _ _ _ (fun r k => rows_at m c t r k _ h0) (fun k l => leave_at m c t k l _ h0) (fun _ _ => fu _) (fun _ _ => fb _)
    (table_powers m c t _ h0 _ _ _ rfl rfl rfl fr fi fd) r x).trans ?_
  unfold outs
  refine congr (congr (congr (congrArg (out _ _ _ _ _) (funext fun k => funext fun y => within_at m c t k y _ h0))
    (funext fun l => funext fun y => enter_at m c t l y _ h0)) (Fin.ext h1.symm)) (Fin.ext h2.symm)

/-- The reference's array. -/
theorem reference_eq (u : Vec Ideal S24x1024x512 .bf16) (t : Vec Ideal S24x512x512 .bf16) (b : Vec Ideal S24x512x128 .bf16)
    (w : Vec Ideal S24x128x512 .bf16) (ar ai : Vec Ideal S24x64 .f32) (ld : Vec Ideal S24 .f32)
    (fu : ∀ i, Finite (u i)) (fb : ∀ i, Finite (b i)) (fr : ∀ i, Below (ar i)) (fi : ∀ i, Finite (ai i)) (fd : ∀ i, Below (ld i)) :
    Cert.Reference10Ideal.Read.val_main_v60 (F := Ideal) u t b w ar ai ld = outs u t b w ar ai ld := by
  funext i
  obtain ⟨g, c, x, rfl⟩ : ∃ (g : Fin 24) (c : Fin 1024) (x : Fin 512), i = ix3 g c x := ⟨i 0, i 1, i 2, by funext a; fin_cases a <;> rfl⟩
  exact Plain.out_at u t b w ar ai ld fu fb fr fi fd g c x

/-- The reference runs, keeps its arguments and has no counter to leave. -/
theorem frame_reference (m : (ℓ : Loc Cert.Reference10Ideal.nD Cert.Reference10Ideal.τ Cert.Reference10Ideal.sig) → Buf (Elt Ideal) ℓ) (ρ : Dev Cert.Reference10Ideal.nD → PrngReg) :
    θ_run (Cert.Reference10Ideal.defs (F := Ideal)) (onTc (τ := Cert.Reference10Ideal.τ) (Cert.Reference10Ideal.main (F := Ideal)))
      ⟨m, fun _ => 0, ρ⟩ (fun r => (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
        ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
        ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
        ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
        ∧ r.2.sem = fun _ => 0) :=
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The kernel and the reference end with the same array. -/
theorem value : Cert.algebraic_Kernel10Ideal_Reference10Ideal_pre_scan_inputs := by
  intro m g m' g' hpre hag
  refine ⟨fun c => outs (m ((c.tc : Thread _ _).loc Cert.Kernel10Ideal.main_arg0)) (m ((c.tc : Thread _ _).loc Cert.Kernel10Ideal.main_arg1)) (m ((c.tc : Thread _ _).loc Cert.Kernel10Ideal.main_arg2)) (m ((c.tc : Thread _ _).loc Cert.Kernel10Ideal.main_arg3)) (m ((c.tc : Thread _ _).loc Cert.Kernel10Ideal.main_arg4)) (m ((c.tc : Thread _ _).loc Cert.Kernel10Ideal.main_arg5)) (m ((c.tc : Thread _ _).loc Cert.Kernel10Ideal.main_arg6)), ?_, ?_⟩
  · refine (θ_run Cert.Kernel10Ideal.defs _ _).mono (fun r h c => ⟨(h c).1.trans ?_, (h c).2⟩)
      (Cert.Kernel10Ideal.Value.run_blocks (F := Ideal) m g)
    obtain ⟨⟨fu, fb⟩, ⟨fr, fi⟩, fd⟩ := inputs _ _ _ _ _ _ _ (hpre c)
    exact final m c fu fb fr fi fd
  · refine (θ_run Cert.Reference10Ideal.defs _ _).mono (fun r h c => ⟨(h c).1.trans ?_, (h c).2⟩)
      (Cert.Reference10Ideal.Value.run (F := Ideal) m' g')
    obtain ⟨⟨fu, fb⟩, ⟨fr, fi⟩, fd⟩ := inputs _ _ _ _ _ _ _ (hpre c)
    rw [Cert.Reference10Ideal.Read.val_main_v60_eq, (hag c).1, (hag c).2.1, (hag c).2.2.1, (hag c).2.2.2.1, (hag c).2.2.2.2.1,
      (hag c).2.2.2.2.2.1, (hag c).2.2.2.2.2.2]
    exact reference_eq _ _ _ _ _ _ _ fu fb fr fi fd

end Cert.Proof.Scan

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.ReferenceIdeal.Read
public import proofs.«01_k».proof.Proof.Gen.Pre_attention_inputs
public import proofs.«01_k».proof.Proof.Final
public import proofs.«01_k».proof.Proof.Attention
public import proofs.«01_k».proof.Proof.Proj2
public import proofs.«01_k».proof.Proof.Proj3
public import proofs.«01_k».proof.Proof.Proj4
public import proofs.«01_k».proof.Proof.Proj5
public import proofs.«01_k».proof.Proof.Merge
public import proofs.«01_k».proof.Proof.Entry
public import proofs.«01_k».proof.Proof.Glu
public import proofs.«01_k».proof.Proof.Prep
public import proofs.«01_k».proof.Proof.Scan
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_small_inputs
public import proofs.«01_k».proof.Proof.Gen.Pre_prep_inputs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_scan_inputs
public import Idealize.ShloMosaic.Adequacy
public import Idealize.ShloMosaic.Init

@[expose] public section

noncomputable section

namespace Cert.Proof

/-- All the claims together. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts, Cert.Kernel10Ideal.Gen.facts, Cert.Reference10Ideal.Gen.facts,
    Cert.Pre_attention_inputs.Gen.facts, Cert.Pre_small_inputs.Gen.facts, Cert.Pre_prep_inputs.Gen.facts, Cert.Pre_scan_inputs.Gen.facts,
    fun m ρ _ => Cert.Kernel.Gen.frame m ρ,
    fun m ρ _ => Cert.KernelIdeal.Gen.frame m ρ,
    fun m ρ _ => Cert.KernelIdeal.Gen.frame m ρ,
    fun m ρ _ => Attention.frame_reference m ρ,
    fun m ρ _ => Attention.frame_reference m ρ,
    fun m ρ _ => Cert.Kernel2.Gen.frame m ρ,
    fun m ρ _ => Cert.Kernel2Ideal.Gen.frame m ρ,
    fun m ρ _ => Proj2.frame_reference m ρ,
    fun m ρ _ => Cert.Kernel3.Gen.frame m ρ,
    fun m ρ _ => Cert.Kernel3Ideal.Gen.frame m ρ,
    fun m ρ _ => Proj3.frame_reference m ρ,
    fun m ρ _ => Cert.Kernel4.Gen.frame m ρ,
    fun m ρ _ => Cert.Kernel4Ideal.Gen.frame m ρ,
    fun m ρ _ => Cert.Kernel4Ideal.Gen.frame m ρ,
    fun m ρ _ => Proj4.frame_reference m ρ,
    fun m ρ _ => Proj4.frame_reference m ρ,
    fun m ρ _ => Cert.Kernel5.Gen.frame m ρ,
    fun m ρ _ => Cert.Kernel5Ideal.Gen.frame m ρ,
    fun m ρ _ => Proj5.frame_reference m ρ,
    fun m ρ _ => Cert.Kernel6.Gen.frame m ρ,
    fun m ρ _ => Cert.Kernel6Ideal.Gen.frame m ρ,
    fun m ρ _ => Merge.frame_reference m ρ,
    fun m ρ _ => Cert.Kernel7.Gen.frame m ρ,
    fun m ρ _ => Cert.Kernel7Ideal.Gen.frame m ρ,
    fun m ρ _ => Entry.frame_reference m ρ,
    fun m ρ _ => Cert.Kernel8.Gen.frame m ρ,
    fun m ρ _ => Cert.Kernel8Ideal.Gen.frame m ρ,
    fun m ρ _ => Glu.frame_reference m ρ,
    fun m ρ _ => Cert.Kernel9.Gen.frame m ρ,
    fun m ρ _ => Cert.Kernel9Ideal.Gen.frame m ρ,
    fun m ρ _ => Cert.Kernel9Ideal.Gen.frame m ρ,
    fun m ρ _ => Prep.frame_reference m ρ,
    fun m ρ _ => Prep.frame_reference m ρ,
    fun m ρ _ => Cert.Kernel10.Gen.frame m ρ,
    fun m ρ _ => Cert.Kernel10Ideal.Gen.frame m ρ,
    fun m ρ _ => Cert.Kernel10Ideal.Gen.frame m ρ,
    fun m ρ _ => Scan.frame_reference m ρ,
    fun m ρ _ => Scan.frame_reference m ρ,
    trivial, Attention.value,
    trivial, Proj2.value,
    trivial, Proj3.value,
    trivial, Proj4.value,
    trivial, Proj5.value,
    Merge.preserves, Merge.value,
    trivial, Entry.value,
    trivial, Glu.value,
    Prep.preserves, Prep.value,
    trivial, Scan.value⟩

end Cert.Proof

end
